-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedReferenceIdeal (m : (ℓ : Loc Cert.SharedReferenceIdeal.nD Cert.SharedReferenceIdeal.τ Cert.SharedReferenceIdeal.sig) → Buf (Elt Ideal) ℓ) : Prop :=
  True

def Pre_Down [hPre_rows_in_range : Cert.Pre_rows_in_range.Facts] (m : (ℓ : Loc Cert.Down.nD Cert.Down.τ Cert.Down.sig) → Buf (Elt Bits) ℓ) : Prop :=
  ∀ c : Dev Cert.Down.nD,
    (Cert.Pre_rows_in_range.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4))) = (fun _ => 1#1)

def Pre_DownIdeal [hPre_rows_in_range : Cert.Pre_rows_in_range.Facts] (m : (ℓ : Loc Cert.DownIdeal.nD Cert.DownIdeal.τ Cert.DownIdeal.sig) → Buf (Elt Ideal) ℓ) : Prop :=
  ∀ c : Dev Cert.DownIdeal.nD,
    (Cert.Pre_rows_in_range.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5)
      ∧ r.2.mem ((c.tc : Thread Cert.Shared.nD Cert.Shared.τ).loc Cert.Shared.main_arg6) = m ((c.tc : Thread Cert.Shared.nD Cert.Shared.τ).loc Cert.Shared.main_arg6))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
      ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6))
      ∧ r.2.sem = fun _ => 0)

def quiescent_SharedReferenceIdeal [hSharedReferenceIdeal : Cert.SharedReferenceIdeal.Facts] : Prop :=
  ∀ (m : (ℓ : Loc Cert.SharedReferenceIdeal.nD Cert.SharedReferenceIdeal.τ Cert.SharedReferenceIdeal.sig) → Buf (Elt Ideal) ℓ) (g : Dev Cert.SharedReferenceIdeal.nD → PrngReg), Pre_SharedReferenceIdeal m →
    θ_run (Cert.SharedReferenceIdeal.defs (F := Ideal)) (onTc (τ := Cert.SharedReferenceIdeal.τ) (Cert.SharedReferenceIdeal.main (F := Ideal))) ⟨m, fun _ => 0, g⟩ (fun r => (∀ c : Dev Cert.SharedReferenceIdeal.nD,
      r.2.mem ((c.tc : Thread Cert.SharedReferenceIdeal.nD Cert.SharedReferenceIdeal.τ).loc Cert.SharedReferenceIdeal.main_arg0) = m ((c.tc : Thread Cert.SharedReferenceIdeal.nD Cert.SharedReferenceIdeal.τ).loc Cert.SharedReferenceIdeal.main_arg0)
      ∧ r.2.mem ((c.tc : Thread Cert.SharedReferenceIdeal.nD Cert.SharedReferenceIdeal.τ).loc Cert.SharedReferenceIdeal.main_arg1) = m ((c.tc : Thread Cert.SharedReferenceIdeal.nD Cert.SharedReferenceIdeal.τ).loc Cert.SharedReferenceIdeal.main_arg1)
      ∧ r.2.mem ((c.tc : Thread Cert.SharedReferenceIdeal.nD Cert.SharedReferenceIdeal.τ).loc Cert.SharedReferenceIdeal.main_arg2) = m ((c.tc : Thread Cert.SharedReferenceIdeal.nD Cert.SharedReferenceIdeal.τ).loc Cert.SharedReferenceIdeal.main_arg2)
      ∧ r.2.mem ((c.tc : Thread Cert.SharedReferenceIdeal.nD Cert.SharedReferenceIdeal.τ).loc Cert.SharedReferenceIdeal.main_arg3) = m ((c.tc : Thread Cert.SharedReferenceIdeal.nD Cert.SharedReferenceIdeal.τ).loc Cert.SharedReferenceIdeal.main_arg3)
      ∧ r.2.mem ((c.tc : Thread Cert.SharedReferenceIdeal.nD Cert.SharedReferenceIdeal.τ).loc Cert.SharedReferenceIdeal.main_arg4) = m ((c.tc : Thread Cert.SharedReferenceIdeal.nD Cert.SharedReferenceIdeal.τ).loc Cert.SharedReferenceIdeal.main_arg4)
      ∧ r.2.mem ((c.tc : Thread Cert.SharedReferenceIdeal.nD Cert.SharedReferenceIdeal.τ).loc Cert.SharedReferenceIdeal.main_arg5) = m ((c.tc : Thread Cert.SharedReferenceIdeal.nD Cert.SharedReferenceIdeal.τ).loc Cert.SharedReferenceIdeal.main_arg5)
      ∧ r.2.mem ((c.tc : Thread Cert.SharedReferenceIdeal.nD Cert.SharedReferenceIdeal.τ).loc Cert.SharedReferenceIdeal.main_arg6) = m ((c.tc : Thread Cert.SharedReferenceIdeal.nD Cert.SharedReferenceIdeal.τ).loc Cert.SharedReferenceIdeal.main_arg6))
      ∧ r.2.sem = fun _ => 0)

def quiescent_Down [hDown : Cert.Down.Facts] [hPre_rows_in_range : Cert.Pre_rows_in_range.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] [hPre_rows_in_range : Cert.Pre_rows_in_range.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Shared_SharedIdeal : Prop :=
  True

def algebraic_SharedIdeal_SharedReferenceIdeal [hSharedIdeal : Cert.SharedIdeal.Facts] [hSharedReferenceIdeal : Cert.SharedReferenceIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedReferenceIdeal.nD Cert.SharedReferenceIdeal.τ Cert.SharedReferenceIdeal.sig) → Buf (Elt Ideal) ℓ) (g' : Dev Cert.SharedReferenceIdeal.nD → PrngReg), Pre_SharedIdeal m →
    (∀ c : Dev Cert.SharedIdeal.nD,
      m' ((c.tc : Thread Cert.SharedReferenceIdeal.nD Cert.SharedReferenceIdeal.τ).loc Cert.SharedReferenceIdeal.main_arg0) = m ((c.tc : Thread Cert.SharedIdeal.nD Cert.SharedIdeal.τ).loc Cert.SharedIdeal.main_arg0)
      ∧ m' ((c.tc : Thread Cert.SharedReferenceIdeal.nD Cert.SharedReferenceIdeal.τ).loc Cert.SharedReferenceIdeal.main_arg1) = m ((c.tc : Thread Cert.SharedIdeal.nD Cert.SharedIdeal.τ).loc Cert.SharedIdeal.main_arg1)
      ∧ m' ((c.tc : Thread Cert.SharedReferenceIdeal.nD Cert.SharedReferenceIdeal.τ).loc Cert.SharedReferenceIdeal.main_arg2) = m ((c.tc : Thread Cert.SharedIdeal.nD Cert.SharedIdeal.τ).loc Cert.SharedIdeal.main_arg2)
      ∧ m' ((c.tc : Thread Cert.SharedReferenceIdeal.nD Cert.SharedReferenceIdeal.τ).loc Cert.SharedReferenceIdeal.main_arg3) = m ((c.tc : Thread Cert.SharedIdeal.nD Cert.SharedIdeal.τ).loc Cert.SharedIdeal.main_arg3)
      ∧ m' ((c.tc : Thread Cert.SharedReferenceIdeal.nD Cert.SharedReferenceIdeal.τ).loc Cert.SharedReferenceIdeal.main_arg4) = m ((c.tc : Thread Cert.SharedIdeal.nD Cert.SharedIdeal.τ).loc Cert.SharedIdeal.main_arg4)
      ∧ m' ((c.tc : Thread Cert.SharedReferenceIdeal.nD Cert.SharedReferenceIdeal.τ).loc Cert.SharedReferenceIdeal.main_arg5) = m ((c.tc : Thread Cert.SharedIdeal.nD Cert.SharedIdeal.τ).loc Cert.SharedIdeal.main_arg5)
      ∧ m' ((c.tc : Thread Cert.SharedReferenceIdeal.nD Cert.SharedReferenceIdeal.τ).loc Cert.SharedReferenceIdeal.main_arg6) = m ((c.tc : Thread Cert.SharedIdeal.nD Cert.SharedIdeal.τ).loc Cert.SharedIdeal.main_arg6)) →
    ∃ (v0 : (c : Dev Cert.SharedIdeal.nD) → Buf (Elt Ideal) ((c.tc : Thread Cert.SharedIdeal.nD Cert.SharedIdeal.τ).loc Cert.SharedIdeal.main_v4_0)) (v1 : (c : Dev Cert.SharedIdeal.nD) → Buf (Elt Ideal) ((c.tc : Thread Cert.SharedIdeal.nD Cert.SharedIdeal.τ).loc Cert.SharedIdeal.main_v4_1)) (v2 : (c : Dev Cert.SharedIdeal.nD) → Buf (Elt Ideal) ((c.tc : Thread Cert.SharedIdeal.nD Cert.SharedIdeal.τ).loc Cert.SharedIdeal.main_v4_2)) (v3 : (c : Dev Cert.SharedIdeal.nD) → Buf (Elt Ideal) ((c.tc : Thread Cert.SharedIdeal.nD Cert.SharedIdeal.τ).loc Cert.SharedIdeal.main_v4_3)) (v4 : (c : Dev Cert.SharedIdeal.nD) → Buf (Elt Ideal) ((c.tc : Thread Cert.SharedIdeal.nD Cert.SharedIdeal.τ).loc Cert.SharedIdeal.main_v4_4)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v4_0) = v0 c
          ∧ r.2.mem ((c.tc : Thread Cert.SharedIdeal.nD Cert.SharedIdeal.τ).loc Cert.SharedIdeal.main_v4_1) = v1 c
          ∧ r.2.mem ((c.tc : Thread Cert.SharedIdeal.nD Cert.SharedIdeal.τ).loc Cert.SharedIdeal.main_v4_2) = v2 c
          ∧ r.2.mem ((c.tc : Thread Cert.SharedIdeal.nD Cert.SharedIdeal.τ).loc Cert.SharedIdeal.main_v4_3) = v3 c
          ∧ r.2.mem ((c.tc : Thread Cert.SharedIdeal.nD Cert.SharedIdeal.τ).loc Cert.SharedIdeal.main_v4_4) = v4 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
          ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6))
      ∧ θ_run (Cert.SharedReferenceIdeal.defs (F := Ideal)) (onTc (τ := Cert.SharedReferenceIdeal.τ) (Cert.SharedReferenceIdeal.main (F := Ideal))) ⟨m', fun _ => 0, g'⟩ (fun r => ∀ c : Dev Cert.SharedReferenceIdeal.nD,
          r.2.mem ((c.tc : Thread Cert.SharedReferenceIdeal.nD Cert.SharedReferenceIdeal.τ).loc Cert.SharedReferenceIdeal.main_v4_0) = v0 c
          ∧ r.2.mem ((c.tc : Thread Cert.SharedReferenceIdeal.nD Cert.SharedReferenceIdeal.τ).loc Cert.SharedReferenceIdeal.main_v4_1) = v1 c
          ∧ r.2.mem ((c.tc : Thread Cert.SharedReferenceIdeal.nD Cert.SharedReferenceIdeal.τ).loc Cert.SharedReferenceIdeal.main_v4_2) = v2 c
          ∧ r.2.mem ((c.tc : Thread Cert.SharedReferenceIdeal.nD Cert.SharedReferenceIdeal.τ).loc Cert.SharedReferenceIdeal.main_v4_3) = v3 c
          ∧ r.2.mem ((c.tc : Thread Cert.SharedReferenceIdeal.nD Cert.SharedReferenceIdeal.τ).loc Cert.SharedReferenceIdeal.main_v4_4) = v4 c
          ∧ r.2.mem ((c.tc : Thread Cert.SharedReferenceIdeal.nD Cert.SharedReferenceIdeal.τ).loc Cert.SharedReferenceIdeal.main_arg0) = m' ((c.tc : Thread Cert.SharedReferenceIdeal.nD Cert.SharedReferenceIdeal.τ).loc Cert.SharedReferenceIdeal.main_arg0)
          ∧ r.2.mem ((c.tc : Thread Cert.SharedReferenceIdeal.nD Cert.SharedReferenceIdeal.τ).loc Cert.SharedReferenceIdeal.main_arg1) = m' ((c.tc : Thread Cert.SharedReferenceIdeal.nD Cert.SharedReferenceIdeal.τ).loc Cert.SharedReferenceIdeal.main_arg1)
          ∧ r.2.mem ((c.tc : Thread Cert.SharedReferenceIdeal.nD Cert.SharedReferenceIdeal.τ).loc Cert.SharedReferenceIdeal.main_arg2) = m' ((c.tc : Thread Cert.SharedReferenceIdeal.nD Cert.SharedReferenceIdeal.τ).loc Cert.SharedReferenceIdeal.main_arg2)
          ∧ r.2.mem ((c.tc : Thread Cert.SharedReferenceIdeal.nD Cert.SharedReferenceIdeal.τ).loc Cert.SharedReferenceIdeal.main_arg3) = m' ((c.tc : Thread Cert.SharedReferenceIdeal.nD Cert.SharedReferenceIdeal.τ).loc Cert.SharedReferenceIdeal.main_arg3)
          ∧ r.2.mem ((c.tc : Thread Cert.SharedReferenceIdeal.nD Cert.SharedReferenceIdeal.τ).loc Cert.SharedReferenceIdeal.main_arg4) = m' ((c.tc : Thread Cert.SharedReferenceIdeal.nD Cert.SharedReferenceIdeal.τ).loc Cert.SharedReferenceIdeal.main_arg4)
          ∧ r.2.mem ((c.tc : Thread Cert.SharedReferenceIdeal.nD Cert.SharedReferenceIdeal.τ).loc Cert.SharedReferenceIdeal.main_arg5) = m' ((c.tc : Thread Cert.SharedReferenceIdeal.nD Cert.SharedReferenceIdeal.τ).loc Cert.SharedReferenceIdeal.main_arg5)
          ∧ r.2.mem ((c.tc : Thread Cert.SharedReferenceIdeal.nD Cert.SharedReferenceIdeal.τ).loc Cert.SharedReferenceIdeal.main_arg6) = m' ((c.tc : Thread Cert.SharedReferenceIdeal.nD Cert.SharedReferenceIdeal.τ).loc Cert.SharedReferenceIdeal.main_arg6))

def preserves_Down_DownIdeal : Prop :=
  True

def Claim : Prop :=
  ∃ (hKernel : Cert.Kernel.Facts) (hKernelIdeal : Cert.KernelIdeal.Facts) (hReferenceIdeal : Cert.ReferenceIdeal.Facts) (hShared : Cert.Shared.Facts) (hSharedIdeal : Cert.SharedIdeal.Facts) (hSharedReferenceIdeal : Cert.SharedReferenceIdeal.Facts) (hDown : Cert.Down.Facts) (hDownIdeal : Cert.DownIdeal.Facts) (hPre_rows_in_range : Cert.Pre_rows_in_range.Facts),
    quiescent_Kernel (hKernel := hKernel)
    ∧ quiescent_KernelIdeal (hKernelIdeal := hKernelIdeal)
    ∧ quiescent_ReferenceIdeal (hReferenceIdeal := hReferenceIdeal)
    ∧ quiescent_Shared (hShared := hShared)
    ∧ quiescent_SharedIdeal (hSharedIdeal := hSharedIdeal)
    ∧ quiescent_SharedReferenceIdeal (hSharedReferenceIdeal := hSharedReferenceIdeal)
    ∧ quiescent_Down (hDown := hDown) (hPre_rows_in_range := hPre_rows_in_range)
    ∧ quiescent_DownIdeal (hDownIdeal := hDownIdeal) (hPre_rows_in_range := hPre_rows_in_range)
    ∧ preserves_Kernel_KernelIdeal
    ∧ algebraic_KernelIdeal_ReferenceIdeal (hKernelIdeal := hKernelIdeal) (hReferenceIdeal := hReferenceIdeal)
    ∧ preserves_Shared_SharedIdeal
    ∧ algebraic_SharedIdeal_SharedReferenceIdeal (hSharedIdeal := hSharedIdeal) (hSharedReferenceIdeal := hSharedReferenceIdeal)
    ∧ preserves_Down_DownIdeal
-- ==== Pre_rows_in_range.lean ====
abbrev S24x31x2048 : Shape := ⟨3, ![24, 31, 2048]⟩
abbrev S24x31 : Shape := ⟨2, ![24, 31]⟩
abbrev S40x8 : Shape := ⟨2, ![40, 8]⟩
abbrev S24x7168x256 : Shape := ⟨3, ![24, 7168, 256]⟩
abbrev S24x7168x64 : Shape := ⟨3, ![24, 7168, 64]⟩
abbrev S_ : Shape := ⟨0, ![]⟩

class Facts : Prop where
  bcast_S_S40x8 : S_.BroadcastsInDim S40x8 (![] : Fin 0 → Fin S40x8.rank)

variable [Facts]

def fn {F : FTy → Type} [FloatOps F] (main_arg0 : FVec F S24x31x2048 .bf16) (main_arg1 : FVec F S24x31 .f32) (main_arg2 : IVec S40x8 32) (main_arg3 : IVec S24x7168x256 32) (main_arg4 : FVec F S24x7168x64 .bf16) : IVec S40x8 1 :=
  let main_c : IVec S_ 32 := constantI S_ 32 744#32
  let main_v0 : IVec S40x8 32 := broadcastInDim S40x8 ![] bcast_S_S40x8 main_c
  let main_v1 : IVec S40x8 1 := cmpi .slt main_arg2 main_v0
  main_v1
-- ==== Kernel.lean ====
abbrev S24x31x7168 : Shape := ⟨3, ![24, 31, 7168]⟩
abbrev S24x2048x896 : Shape := ⟨3, ![24, 2048, 896]⟩
abbrev S24x2048x224 : Shape := ⟨3, ![24, 2048, 224]⟩
abbrev S24x31x2048 : Shape := ⟨3, ![24, 31, 2048]⟩
abbrev S1x31x7168 : Shape := ⟨3, ![1, 31, 7168]⟩
abbrev S1x512x896 : Shape := ⟨3, ![1, 512, 896]⟩
abbrev S1x512x224 : Shape := ⟨3, ![1, 512, 224]⟩
abbrev S1x31x512 : Shape := ⟨3, ![1, 31, 512]⟩
abbrev S2x224x256 : Shape := ⟨3, ![2, 224, 256]⟩
abbrev S1x256x224 : Shape := ⟨3, ![1, 256, 224]⟩
abbrev S256x224 : Shape := ⟨2, ![256, 224]⟩
abbrev S224x256 : Shape := ⟨2, ![224, 256]⟩
abbrev S1x224x256 : Shape := ⟨3, ![1, 224, 256]⟩
abbrev S1x256x128 : Shape := ⟨3, ![1, 256, 128]⟩
abbrev S256x128 : Shape := ⟨2, ![256, 128]⟩
abbrev S128x256 : Shape := ⟨2, ![128, 256]⟩
abbrev S128x8x256 : Shape := ⟨3, ![128, 8, 256]⟩
abbrev S128x1x256 : Shape := ⟨3, ![128, 1, 256]⟩
abbrev S1024x256 : Shape := ⟨2, ![1024, 256]⟩
abbrev S1x256 : Shape := ⟨2, ![1, 256]⟩
abbrev S32x256 : Shape := ⟨2, ![32, 256]⟩
abbrev S1x31x1024 : Shape := ⟨3, ![1, 31, 1024]⟩
abbrev S31x1024 : Shape := ⟨2, ![31, 1024]⟩
abbrev S31x256 : Shape := ⟨2, ![31, 256]⟩
abbrev S1x31x256 : Shape := ⟨3, ![1, 31, 256]⟩

abbrev nBuf : Space → Nat
  | .hbm => 6
  | .vmem => 13
  | .smem => 0
  | _ => 0

abbrev bufTy : (tb : Table) → Fin (tcTables nBuf tb) → BufTy
  | .hbm, ⟨0, _⟩ => ⟨S24x31x7168, .bf16⟩
  | .hbm, ⟨1, _⟩ => ⟨S24x2048x896, .i32⟩
  | .hbm, ⟨2, _⟩ => ⟨S24x2048x224, .bf16⟩
  | .hbm, ⟨3, _⟩ => ⟨S24x2048x896, .i32⟩
  | .hbm, ⟨4, _⟩ => ⟨S24x2048x224, .bf16⟩
  | .hbm, ⟨5, _⟩ => ⟨S24x31x2048, .bf16⟩
  | .local _ .vmem, ⟨0, _⟩ => ⟨S1x31x7168, .bf16⟩
  | .local _ .vmem, ⟨1, _⟩ => ⟨S1x31x7168, .bf16⟩
  | .local _ .vmem, ⟨2, _⟩ => ⟨S1x512x896, .i32⟩
  | .local _ .vmem, ⟨3, _⟩ => ⟨S1x512x896, .i32⟩
  | .local _ .vmem, ⟨4, _⟩ => ⟨S1x512x224, .bf16⟩
  | .local _ .vmem, ⟨5, _⟩ => ⟨S1x512x224, .bf16⟩
  | .local _ .vmem, ⟨6, _⟩ => ⟨S1x512x896, .i32⟩
  | .local _ .vmem, ⟨7, _⟩ => ⟨S1x512x896, .i32⟩
  | .local _ .vmem, ⟨8, _⟩ => ⟨S1x512x224, .bf16⟩
  | .local _ .vmem, ⟨9, _⟩ => ⟨S1x512x224, .bf16⟩
  | .local _ .vmem, ⟨10, _⟩ => ⟨S1x31x512, .bf16⟩
  | .local _ .vmem, ⟨11, _⟩ => ⟨S1x31x512, .bf16⟩
  | .local _ .vmem, ⟨12, _⟩ => ⟨S2x224x256, .bf16⟩
  | _, _ => ⟨S24x31x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![24, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x31x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x896 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x224 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x896 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x224 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x31x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S24x31x7168 : Shape := ⟨3, ![24, 31, 7168]⟩
abbrev S24x2048x896 : Shape := ⟨3, ![24, 2048, 896]⟩
abbrev S24x2048x224 : Shape := ⟨3, ![24, 2048, 224]⟩
abbrev S24x2048x896x1 : Shape := ⟨4, ![24, 2048, 896, 1]⟩
abbrev S8 : Shape := ⟨1, ![8]⟩
abbrev S_ : Shape := ⟨0, ![]⟩
abbrev S1x1x1x8 : Shape := ⟨4, ![1, 1, 1, 8]⟩
abbrev S24x2048x896x8 : Shape := ⟨4, ![24, 2048, 896, 8]⟩
abbrev S24x2048x7168 : Shape := ⟨3, ![24, 2048, 7168]⟩
abbrev S24x2048x224x32 : Shape := ⟨4, ![24, 2048, 224, 32]⟩
abbrev S24x31x2048 : Shape := ⟨3, ![24, 31, 2048]⟩

abbrev nBuf : Space → Nat
  | .hbm => 58
  | .vmem => 0
  | .smem => 0
  | _ => 0

abbrev bufTy : (tb : Table) → Fin (tcTables nBuf tb) → BufTy
  | .hbm, ⟨0, _⟩ => ⟨S24x31x7168, .bf16⟩
  | .hbm, ⟨1, _⟩ => ⟨S24x2048x896, .i32⟩
  | .hbm, ⟨2, _⟩ => ⟨S24x2048x224, .bf16⟩
  | .hbm, ⟨3, _⟩ => ⟨S24x2048x896, .i32⟩
  | .hbm, ⟨4, _⟩ => ⟨S24x2048x224, .bf16⟩
  | .hbm, ⟨5, _⟩ => ⟨S24x2048x896x1, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S1x1x1x8, .i32⟩
  | .hbm, ⟨11, _⟩ => ⟨S24x2048x896x8, .i32⟩
  | .hbm, ⟨12, _⟩ => ⟨S24x2048x896x8, .i32⟩
  | .hbm, ⟨13, _⟩ => ⟨S24x2048x896x8, .i32⟩
  | .hbm, ⟨14, _⟩ => ⟨S_, .i32⟩
  | .hbm, ⟨15, _⟩ => ⟨S24x2048x896x8, .i32⟩
  | .hbm, ⟨16, _⟩ => ⟨S24x2048x896x8, .i32⟩
  | .hbm, ⟨17, _⟩ => ⟨S_, .i32⟩
  | .hbm, ⟨18, _⟩ => ⟨S24x2048x896x8, .i32⟩
  | .hbm, ⟨19, _⟩ => ⟨S24x2048x896x8, .i32⟩
  | .hbm, ⟨20, _⟩ => ⟨S24x2048x7168, .i32⟩
  | .hbm, ⟨21, _⟩ => ⟨S24x2048x7168, .bf16⟩
  | .hbm, ⟨22, _⟩ => ⟨S24x2048x224x32, .bf16⟩
  | .hbm, ⟨23, _⟩ => ⟨S24x2048x7168, .bf16⟩
  | .hbm, ⟨24, _⟩ => ⟨S24x2048x7168, .bf16⟩
  | .hbm, ⟨25, _⟩ => ⟨S24x31x2048, .f32⟩
  | .hbm, ⟨26, _⟩ => ⟨S24x2048x896x1, .i32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S1x1x1x8, .i32⟩
  | .hbm, ⟨32, _⟩ => ⟨S24x2048x896x8, .i32⟩
  | .hbm, ⟨33, _⟩ => ⟨S24x2048x896x8, .i32⟩
  | .hbm, ⟨34, _⟩ => ⟨S24x2048x896x8, .i32⟩
  | .hbm, ⟨35, _⟩ => ⟨S_, .i32⟩
  | .hbm, ⟨36, _⟩ => ⟨S24x2048x896x8, .i32⟩
  | .hbm, ⟨37, _⟩ => ⟨S24x2048x896x8, .i32⟩
  | .hbm, ⟨38, _⟩ => ⟨S_, .i32⟩
  | .hbm, ⟨39, _⟩ => ⟨S24x2048x896x8, .i32⟩
  | .hbm, ⟨40, _⟩ => ⟨S24x2048x896x8, .i32⟩
  | .hbm, ⟨41, _⟩ => ⟨S24x2048x7168, .i32⟩
  | .hbm, ⟨42, _⟩ => ⟨S24x2048x7168, .bf16⟩
  | .hbm, ⟨43, _⟩ => ⟨S24x2048x224x32, .bf16⟩
  | .hbm, ⟨44, _⟩ => ⟨S24x2048x7168, .bf16⟩
  | .hbm, ⟨45, _⟩ => ⟨S24x2048x7168, .bf16⟩
  | .hbm, ⟨46, _⟩ => ⟨S24x31x2048, .f32⟩
  | .hbm, ⟨47, _⟩ => ⟨S24x31x2048, .f32⟩
  | .hbm, ⟨48, _⟩ => ⟨S24x31x2048, .f32⟩
  | .hbm, ⟨49, _⟩ => ⟨S_, .f32⟩
  | .hbm, ⟨50, _⟩ => ⟨S24x31x2048, .f32⟩
  | .hbm, ⟨51, _⟩ => ⟨S24x31x2048, .f32⟩
  | .hbm, ⟨52, _⟩ => ⟨S_, .f32⟩
  | .hbm, ⟨53, _⟩ => ⟨S24x31x2048, .f32⟩
  | .hbm, ⟨54, _⟩ => ⟨S24x31x2048, .f32⟩
  | .hbm, ⟨55, _⟩ => ⟨S24x31x2048, .f32⟩
  | .hbm, ⟨56, _⟩ => ⟨S24x31x2048, .f32⟩
  | .hbm, ⟨57, _⟩ => ⟨S24x31x2048, .bf16⟩
  | _, _ => ⟨S24x31x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_c_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Shared.lean ====
abbrev S40x1x7168 : Shape := ⟨3, ![40, 1, 7168]⟩
abbrev S2048x7168 : Shape := ⟨2, ![2048, 7168]⟩
abbrev S2048 : Shape := ⟨1, ![2048]⟩
abbrev S7168x2048 : Shape := ⟨2, ![7168, 2048]⟩
abbrev S7168 : Shape := ⟨1, ![7168]⟩
abbrev S40x7168 : Shape := ⟨2, ![40, 7168]⟩
abbrev S1x2048 : Shape := ⟨2, ![1, 2048]⟩
abbrev S1x7168 : Shape := ⟨2, ![1, 7168]⟩
abbrev S40x1 : Shape := ⟨2, ![40, 1]⟩
abbrev S40x2048 : Shape := ⟨2, ![40, 2048]⟩
abbrev S256x7168 : Shape := ⟨2, ![256, 7168]⟩
abbrev S1024x2048 : Shape := ⟨2, ![1024, 2048]⟩
abbrev S1x256 : Shape := ⟨2, ![1, 256]⟩
abbrev S1x1024 : Shape := ⟨2, ![1, 1024]⟩
abbrev S40x1024 : Shape := ⟨2, ![40, 1024]⟩
abbrev S8x40x256 : Shape := ⟨3, ![8, 40, 256]⟩
abbrev S40 : Shape := ⟨1, ![40]⟩
abbrev S40x256 : Shape := ⟨2, ![40, 256]⟩
abbrev S1x40x256 : Shape := ⟨3, ![1, 40, 256]⟩

abbrev nBuf : Space → Nat
  | .hbm => 16
  | .vmem => 20
  | .smem => 0
  | _ => 0

abbrev bufTy : (tb : Table) → Fin (tcTables nBuf tb) → BufTy
  | .hbm, ⟨0, _⟩ => ⟨S40x1x7168, .bf16⟩
  | .hbm, ⟨1, _⟩ => ⟨S2048x7168, .fp8e4m3⟩
  | .hbm, ⟨2, _⟩ => ⟨S2048, .f32⟩
  | .hbm, ⟨3, _⟩ => ⟨S2048x7168, .fp8e4m3⟩
  | .hbm, ⟨4, _⟩ => ⟨S2048, .f32⟩
  | .hbm, ⟨5, _⟩ => ⟨S7168x2048, .fp8e4m3⟩
  | .hbm, ⟨6, _⟩ => ⟨S7168, .f32⟩
  | .hbm, ⟨7, _⟩ => ⟨S40x7168, .bf16⟩
  | .hbm, ⟨8, _⟩ => ⟨S1x2048, .f32⟩
  | .hbm, ⟨9, _⟩ => ⟨S1x2048, .f32⟩
  | .hbm, ⟨10, _⟩ => ⟨S1x7168, .f32⟩
  | .hbm, ⟨11, _⟩ => ⟨S40x7168, .bf16⟩
  | .hbm, ⟨12, _⟩ => ⟨S40x7168, .fp8e4m3⟩
  | .hbm, ⟨13, _⟩ => ⟨S40x1, .f32⟩
  | .hbm, ⟨14, _⟩ => ⟨S40x2048, .fp8e4m3⟩
  | .hbm, ⟨15, _⟩ => ⟨S40x1, .f32⟩
  | .local _ .vmem, ⟨0, _⟩ => ⟨S40x7168, .bf16⟩
  | .local _ .vmem, ⟨1, _⟩ => ⟨S256x7168, .fp8e4m3⟩
  | .local _ .vmem, ⟨2, _⟩ => ⟨S256x7168, .fp8e4m3⟩
  | .local _ .vmem, ⟨3, _⟩ => ⟨S256x7168, .fp8e4m3⟩
  | .local _ .vmem, ⟨4, _⟩ => ⟨S256x7168, .fp8e4m3⟩
  | .local _ .vmem, ⟨5, _⟩ => ⟨S1024x2048, .fp8e4m3⟩
  | .local _ .vmem, ⟨6, _⟩ => ⟨S1024x2048, .fp8e4m3⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x1024, .f32⟩
  | .local _ .vmem, ⟨12, _⟩ => ⟨S1x1024, .f32⟩
  | .local _ .vmem, ⟨13, _⟩ => ⟨S40x1024, .bf16⟩
  | .local _ .vmem, ⟨14, _⟩ => ⟨S40x1024, .bf16⟩
  | .local _ .vmem, ⟨15, _⟩ => ⟨S40x7168, .fp8e4m3⟩
  | .local _ .vmem, ⟨16, _⟩ => ⟨S40x1, .f32⟩
  | .local _ .vmem, ⟨17, _⟩ => ⟨S40x2048, .fp8e4m3⟩
  | .local _ .vmem, ⟨18, _⟩ => ⟨S40x1, .f32⟩
  | .local _ .vmem, ⟨19, _⟩ => ⟨S8x40x256, .f32⟩
  | _, _ => ⟨S40x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![15], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v37 : Index := Scalar.indexCast arg0
  let c0_19 : Index := 0#32
  let c0_20 : Index := 0#32
  ![v37.toNat, 0, 0]
def k0_cond4 (i : grid0.Coords) : BitVec 1 :=
  let arg0 : BitVec 32 := BitVec.ofNat 32 (i 0).val
  let c8_i32_3 : BitVec 32 := 8#32
  let v9 : BitVec 1 := Scalar.cmpi .sge arg0 c8_i32_3
  let v10 : BitVec 32 := Scalar.extui v9
  let c0_i32_4 : BitVec 32 := 0#32
  let v11 : BitVec 1 := Scalar.cmpi .ne v10 c0_i32_4
  v11

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S40x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x7168 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S40x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S40x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S40x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S40x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S40x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== SharedReferenceIdeal.lean ====
abbrev S40x1x7168 : Shape := ⟨3, ![40, 1, 7168]⟩
abbrev S2048x7168 : Shape := ⟨2, ![2048, 7168]⟩
abbrev S2048 : Shape := ⟨1, ![2048]⟩
abbrev S7168x2048 : Shape := ⟨2, ![7168, 2048]⟩
abbrev S7168 : Shape := ⟨1, ![7168]⟩
abbrev S40x7168 : Shape := ⟨2, ![40, 7168]⟩
abbrev S1x2048 : Shape := ⟨2, ![1, 2048]⟩
abbrev S1x7168 : Shape := ⟨2, ![1, 7168]⟩
abbrev S40x1 : Shape := ⟨2, ![40, 1]⟩
abbrev S40x2048 : Shape := ⟨2, ![40, 2048]⟩
abbrev S40 : Shape := ⟨1, ![40]⟩

abbrev nBuf : Space → Nat
  | .hbm => 16
  | .vmem => 12
  | .smem => 0
  | _ => 0

abbrev bufTy : (tb : Table) → Fin (tcTables nBuf tb) → BufTy
  | .hbm, ⟨0, _⟩ => ⟨S40x1x7168, .bf16⟩
  | .hbm, ⟨1, _⟩ => ⟨S2048x7168, .fp8e4m3⟩
  | .hbm, ⟨2, _⟩ => ⟨S2048, .f32⟩
  | .hbm, ⟨3, _⟩ => ⟨S2048x7168, .fp8e4m3⟩
  | .hbm, ⟨4, _⟩ => ⟨S2048, .f32⟩
  | .hbm, ⟨5, _⟩ => ⟨S7168x2048, .fp8e4m3⟩
  | .hbm, ⟨6, _⟩ => ⟨S7168, .f32⟩
  | .hbm, ⟨7, _⟩ => ⟨S40x7168, .bf16⟩
  | .hbm, ⟨8, _⟩ => ⟨S1x2048, .f32⟩
  | .hbm, ⟨9, _⟩ => ⟨S1x2048, .f32⟩
  | .hbm, ⟨10, _⟩ => ⟨S1x7168, .f32⟩
  | .hbm, ⟨11, _⟩ => ⟨S40x7168, .bf16⟩
  | .hbm, ⟨12, _⟩ => ⟨S40x7168, .fp8e4m3⟩
  | .hbm, ⟨13, _⟩ => ⟨S40x1, .f32⟩
  | .hbm, ⟨14, _⟩ => ⟨S40x2048, .fp8e4m3⟩
  | .hbm, ⟨15, _⟩ => ⟨S40x1, .f32⟩
  | .local _ .vmem, ⟨0, _⟩ => ⟨S40x7168, .bf16⟩
  | .local _ .vmem, ⟨1, _⟩ => ⟨S2048x7168, .fp8e4m3⟩
  | .local _ .vmem, ⟨2, _⟩ => ⟨S1x2048, .f32⟩
  | .local _ .vmem, ⟨3, _⟩ => ⟨S2048x7168, .fp8e4m3⟩
  | .local _ .vmem, ⟨4, _⟩ => ⟨S1x2048, .f32⟩
  | .local _ .vmem, ⟨5, _⟩ => ⟨S7168x2048, .fp8e4m3⟩
  | .local _ .vmem, ⟨6, _⟩ => ⟨S1x7168, .f32⟩
  | .local _ .vmem, ⟨7, _⟩ => ⟨S40x7168, .bf16⟩
  | .local _ .vmem, ⟨8, _⟩ => ⟨S40x7168, .fp8e4m3⟩
  | .local _ .vmem, ⟨9, _⟩ => ⟨S40x1, .f32⟩
  | .local _ .vmem, ⟨10, _⟩ => ⟨S40x2048, .fp8e4m3⟩
  | .local _ .vmem, ⟨11, _⟩ => ⟨S40x1, .f32⟩
  | _, _ => ⟨S40x1x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S40x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S7168x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S40x7168 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S40x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S40x2048 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S40x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Down.lean ====
abbrev S24x31x2048 : Shape := ⟨3, ![24, 31, 2048]⟩
abbrev S24x31 : Shape := ⟨2, ![24, 31]⟩
abbrev S40x8 : Shape := ⟨2, ![40, 8]⟩
abbrev S24x7168x256 : Shape := ⟨3, ![24, 7168, 256]⟩
abbrev S24x7168x64 : Shape := ⟨3, ![24, 7168, 64]⟩
abbrev S320 : Shape := ⟨1, ![320]⟩
abbrev S_ : Shape := ⟨0, ![]⟩
abbrev S1x320 : Shape := ⟨2, ![1, 320]⟩
abbrev S24 : Shape := ⟨1, ![24]⟩
abbrev S24x1 : Shape := ⟨2, ![24, 1]⟩
abbrev S24x320 : Shape := ⟨2, ![24, 320]⟩
abbrev S1x24 : Shape := ⟨2, ![1, 24]⟩
abbrev S24x24 : Shape := ⟨2, ![24, 24]⟩
abbrev S1 : Shape := ⟨1, ![1]⟩
abbrev S744 : Shape := ⟨1, ![744]⟩
abbrev S40x7168 : Shape := ⟨2, ![40, 7168]⟩
abbrev S40x56 : Shape := ⟨2, ![40, 56]⟩
abbrev S1x31x2048 : Shape := ⟨3, ![1, 31, 2048]⟩
abbrev S1x1024x256 : Shape := ⟨3, ![1, 1024, 256]⟩
abbrev S1x1024x64 : Shape := ⟨3, ![1, 1024, 64]⟩
abbrev S64x256 : Shape := ⟨2, ![64, 256]⟩
abbrev S8x32x128 : Shape := ⟨3, ![8, 32, 128]⟩
abbrev S56x40x128 : Shape := ⟨3, ![56, 40, 128]⟩
abbrev S25 : Shape := ⟨1, ![25]⟩
abbrev S1x256x64 : Shape := ⟨3, ![1, 256, 64]⟩
abbrev S256x64 : Shape := ⟨2, ![256, 64]⟩
abbrev S1x256x128 : Shape := ⟨3, ![1, 256, 128]⟩
abbrev S256x128 : Shape := ⟨2, ![256, 128]⟩
abbrev S128x256 : Shape := ⟨2, ![128, 256]⟩
abbrev S128x8x256 : Shape := ⟨3, ![128, 8, 256]⟩
abbrev S128x1x256 : Shape := ⟨3, ![128, 1, 256]⟩
abbrev S1024x256 : Shape := ⟨2, ![1024, 256]⟩
abbrev S1x256 : Shape := ⟨2, ![1, 256]⟩
abbrev S32x256 : Shape := ⟨2, ![32, 256]⟩
abbrev S1x31x1024 : Shape := ⟨3, ![1, 31, 1024]⟩
abbrev S31x1024 : Shape := ⟨2, ![31, 1024]⟩
abbrev S31x256 : Shape := ⟨2, ![31, 256]⟩
abbrev S31x128 : Shape := ⟨2, ![31, 128]⟩
abbrev S1x31x128 : Shape := ⟨3, ![1, 31, 128]⟩
abbrev S8x1x128 : Shape := ⟨3, ![8, 1, 128]⟩
abbrev S1x40x128 : Shape := ⟨3, ![1, 40, 128]⟩
abbrev S40x128 : Shape := ⟨2, ![40, 128]⟩
abbrev S40 : Shape := ⟨1, ![40]⟩
abbrev S40x1 : Shape := ⟨2, ![40, 1]⟩
abbrev S1x254 : Shape := ⟨2, ![1, 254]⟩
abbrev S40x254 : Shape := ⟨2, ![40, 254]⟩

abbrev nBuf : Space → Nat
  | .hbm => 73
  | .vmem => 11
  | .smem => 6
  | _ => 0

abbrev bufTy : (tb : Table) → Fin (tcTables nBuf tb) → BufTy
  | .hbm, ⟨0, _⟩ => ⟨S24x31x2048, .bf16⟩
  | .hbm, ⟨1, _⟩ => ⟨S24x31, .f32⟩
  | .hbm, ⟨2, _⟩ => ⟨S40x8, .i32⟩
  | .hbm, ⟨3, _⟩ => ⟨S24x7168x256, .i32⟩
  | .hbm, ⟨4, _⟩ => ⟨S24x7168x64, .bf16⟩
  | .hbm, ⟨5, _⟩ => ⟨S_, .i32⟩
  | .hbm, ⟨6, _⟩ => ⟨S320, .i32⟩
  | .hbm, ⟨7, _⟩ => ⟨S320, .i1⟩
  | .hbm, ⟨8, _⟩ => ⟨S_, .i32⟩
  | .hbm, ⟨9, _⟩ => ⟨S_, .i32⟩
  | .hbm, ⟨10, _⟩ => ⟨S320, .i32⟩
  | .hbm, ⟨11, _⟩ => ⟨S320, .i32⟩
  | .hbm, ⟨12, _⟩ => ⟨S320, .i32⟩
  | .hbm, ⟨13, _⟩ => ⟨S_, .i32⟩
  | .hbm, ⟨14, _⟩ => ⟨S320, .i32⟩
  | .hbm, ⟨15, _⟩ => ⟨S320, .i1⟩
  | .hbm, ⟨16, _⟩ => ⟨S320, .i32⟩
  | .hbm, ⟨17, _⟩ => ⟨S320, .i32⟩
  | .hbm, ⟨18, _⟩ => ⟨S_, .i32⟩
  | .hbm, ⟨19, _⟩ => ⟨S320, .i32⟩
  | .hbm, ⟨20, _⟩ => ⟨S320, .i1⟩
  | .hbm, ⟨21, _⟩ => ⟨S320, .i1⟩
  | .hbm, ⟨22, _⟩ => ⟨S_, .i32⟩
  | .hbm, ⟨23, _⟩ => ⟨S320, .i32⟩
  | .hbm, ⟨24, _⟩ => ⟨S320, .i32⟩
  | .hbm, ⟨25, _⟩ => ⟨S320, .i32⟩
  | .hbm, ⟨26, _⟩ => ⟨S_, .i32⟩
  | .hbm, ⟨27, _⟩ => ⟨S_, .i32⟩
  | .hbm, ⟨28, _⟩ => ⟨S320, .i32⟩
  | .hbm, ⟨29, _⟩ => ⟨S320, .i32⟩
  | .hbm, ⟨30, _⟩ => ⟨S1x320, .i32⟩
  | .hbm, ⟨31, _⟩ => ⟨S24, .i32⟩
  | .hbm, ⟨32, _⟩ => ⟨S24x1, .i32⟩
  | .hbm, ⟨33, _⟩ => ⟨S24x320, .i32⟩
  | .hbm, ⟨34, _⟩ => ⟨S24x320, .i32⟩
  | .hbm, ⟨35, _⟩ => ⟨S24x320, .i1⟩
  | .hbm, ⟨36, _⟩ => ⟨S_, .i1⟩
  | .hbm, ⟨37, _⟩ => ⟨S24, .i1⟩
  | .hbm, ⟨38, _⟩ => ⟨S24, .i32⟩
  | .hbm, ⟨39, _⟩ => ⟨S_, .i32⟩
  | .hbm, ⟨40, _⟩ => ⟨S_, .i32⟩
  | .hbm, ⟨41, _⟩ => ⟨S24, .i32⟩
  | .hbm, ⟨42, _⟩ => ⟨S_, .i32⟩
  | .hbm, ⟨43, _⟩ => ⟨S24, .i32⟩
  | .hbm, ⟨44, _⟩ => ⟨S24, .i32⟩
  | .hbm, ⟨45, _⟩ => ⟨S24, .i32⟩
  | .hbm, ⟨46, _⟩ => ⟨S_, .i32⟩
  | .hbm, ⟨47, _⟩ => ⟨S_, .i32⟩
  | .hbm, ⟨48, _⟩ => ⟨S24, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S24, .i32⟩
  | .hbm, ⟨54, _⟩ => ⟨S24, .i32⟩
  | .hbm, ⟨55, _⟩ => ⟨S1x24, .i1⟩
  | .hbm, ⟨56, _⟩ => ⟨S1x24, .i32⟩
  | .hbm, ⟨57, _⟩ => ⟨S24x1, .i32⟩
  | .hbm, ⟨58, _⟩ => ⟨S24x24, .i32⟩
  | .hbm, ⟨59, _⟩ => ⟨S24x24, .i32⟩
  | .hbm, ⟨60, _⟩ => ⟨S24x24, .i1⟩
  | .hbm, ⟨61, _⟩ => ⟨S24x24, .i1⟩
  | .hbm, ⟨62, _⟩ => ⟨S24x24, .i1⟩
  | .hbm, ⟨63, _⟩ => ⟨S1x24, .i32⟩
  | .hbm, ⟨64, _⟩ => ⟨S_, .i32⟩
  | .hbm, ⟨65, _⟩ => ⟨S_, .i32⟩
  | .hbm, ⟨66, _⟩ => ⟨S24x24, .i32⟩
  | .hbm, ⟨67, _⟩ => ⟨S24x24, .i32⟩
  | .hbm, ⟨68, _⟩ => ⟨S24x24, .i32⟩
  | .hbm, ⟨69, _⟩ => ⟨S_, .i32⟩
  | .hbm, ⟨70, _⟩ => ⟨S744, .f32⟩
  | .hbm, ⟨71, _⟩ => ⟨S40x7168, .fp8e4m3⟩
  | .hbm, ⟨72, _⟩ => ⟨S40x56, .f32⟩
  | .local _ .vmem, ⟨0, _⟩ => ⟨S1x31x2048, .bf16⟩
  | .local _ .vmem, ⟨1, _⟩ => ⟨S1x31x2048, .bf16⟩
  | .local _ .vmem, ⟨2, _⟩ => ⟨S1x1024x256, .i32⟩
  | .local _ .vmem, ⟨3, _⟩ => ⟨S1x1024x256, .i32⟩
  | .local _ .vmem, ⟨4, _⟩ => ⟨S1x1024x64, .bf16⟩
  | .local _ .vmem, ⟨5, _⟩ => ⟨S1x1024x64, .bf16⟩
  | .local _ .vmem, ⟨6, _⟩ => ⟨S40x7168, .fp8e4m3⟩
  | .local _ .vmem, ⟨7, _⟩ => ⟨S40x56, .f32⟩
  | .local _ .vmem, ⟨8, _⟩ => ⟨S64x256, .bf16⟩
  | .local _ .vmem, ⟨9, _⟩ => ⟨S8x32x128, .f32⟩
  | .local _ .vmem, ⟨10, _⟩ => ⟨S56x40x128, .f32⟩
  | .local _ .smem, ⟨0, _⟩ => ⟨S24, .i32⟩
  | .local _ .smem, ⟨1, _⟩ => ⟨S1, .i32⟩
  | .local _ .smem, ⟨2, _⟩ => ⟨S320, .i32⟩
  | .local _ .smem, ⟨3, _⟩ => ⟨S744, .f32⟩
  | .local _ .smem, ⟨4, _⟩ => ⟨S25, .i32⟩
  | .local _ .smem, ⟨5, _⟩ => ⟨S320, .i32⟩
  | _, _ => ⟨S24x31x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_c_1 : Ref sig .tc := ⟨.hbm, 26, rfl⟩
abbrev main_call1_v0 : Ref sig .tc := ⟨.hbm, 27, rfl⟩
abbrev main_call1_v1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_call2_v0 : Ref sig .tc := ⟨.hbm, 38, rfl⟩
abbrev main_call2_call0_c : Ref sig .tc := ⟨.hbm, 39, rfl⟩
abbrev main_call2_call0_v0 : Ref sig .tc := ⟨.hbm, 40, rfl⟩
abbrev main_v12 : Ref sig .tc := ⟨.hbm, 41, rfl⟩
abbrev main_c_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_4 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v18 : Ref sig .tc := ⟨.hbm, 50, rfl⟩
abbrev main_c_6 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_7 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_v31 : Ref sig .tc := ⟨.hbm, 68, rfl⟩
abbrev main_c_8 : Ref sig .tc := ⟨.hbm, 69, rfl⟩
abbrev main_v34 : Ref sig .tc := ⟨.hbm, 70, rfl⟩
abbrev main_v35_0 : Ref sig .tc := ⟨.hbm, 71, rfl⟩
abbrev main_v35_1 : Ref sig .tc := ⟨.hbm, 72, rfl⟩
abbrev main_v32 : Ref sig .tc := ⟨.smem, 0, rfl⟩
abbrev main_v33 : Ref sig .tc := ⟨.smem, 1, rfl⟩
abbrev main_v0 : Ref sig .tc := ⟨.smem, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 3, rfl⟩
abbrev cc0_scratch3 : Ref sig .tc := ⟨.smem, 4, rfl⟩
abbrev cc0_scratch4 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨2, ![24, 7], ![false, false]⟩

abbrev pre0 : Pipeline.Prefetch sig := ⟨3, ![main_v32.idx, main_v33.idx, main_v0.idx], fun | 0 => main_v32.names | 1 => main_v33.names | 2 => main_v0.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_8 : BitVec 32 := 0#32
  let c25_i32 : BitVec 32 := 25#32
  let v26 : BitVec 32 := Scalar.addi c0_i32_8 c25_i32
  let c1_i32 : BitVec 32 := 1#32
  ⟨c0_i32_8, v26, c1_i32⟩
def k0_off2 (k0_t1 : Fin k0_t1_loop.trips) : Fin 1 → Nat :=
  let c0_i32_8 : BitVec 32 := 0#32
  let c1_i32 : BitVec 32 := 1#32
  let arg16 : BitVec 32 := Scf.iv c0_i32_8 c1_i32 k0_t1
  let v28 : Index := Scalar.indexCast arg16
  ![v28.toNat]
@[reducible] def k0_t2_loop : Scf.Loop 32 :=
  let c0_i32_10 : BitVec 32 := 0#32
  let c320_i32 : BitVec 32 := 320#32
  let v27 : BitVec 32 := Scalar.addi c0_i32_10 c320_i32
  let c1_i32_11 : BitVec 32 := 1#32
  ⟨c0_i32_10, v27, c1_i32_11⟩
def k0_off3 (k0_t2 : Fin k0_t2_loop.trips) : Fin 1 → Nat :=
  let c0_i32_10 : BitVec 32 := 0#32
  let c1_i32_11 : BitVec 32 := 1#32
  let arg16 : BitVec 32 := Scf.iv c0_i32_10 c1_i32_11 k0_t2
  let v28 : Index := Scalar.indexCast arg16
  ![v28.toNat]
def k0_off4 (v29 : BitVec 32) : Fin 1 → Nat :=
  let c0_i32_13 : BitVec 32 := 0#32
  let v30 : BitVec 1 := Scalar.cmpi .sge v29 c0_i32_13
  let c0_i32_14 : BitVec 32 := 0#32
  let v32 : BitVec 1 := Scalar.cmpi .sgt v29 c0_i32_14
  let v33 : BitVec 32 := Scalar.extui v32
  let c0_i32_15 : BitVec 32 := 0#32
  let v34 : BitVec 1 := Scalar.cmpi .slt v29 c0_i32_15
  let v35 : BitVec 32 := Scalar.extui v34
  let v36 : BitVec 32 := Scalar.subi v33 v35
  let c31_i32 : BitVec 32 := 31#32
  let c0_i32_16 : BitVec 32 := 0#32
  let v37 : BitVec 1 := Scalar.cmpi .sgt c31_i32 c0_i32_16
  let v38 : BitVec 32 := Scalar.extui v37
  let c0_i32_17 : BitVec 32 := 0#32
  let v39 : BitVec 1 := Scalar.cmpi .slt c31_i32 c0_i32_17
  let v40 : BitVec 32 := Scalar.extui v39
  let v41 : BitVec 32 := Scalar.subi v38 v40
  let v42 : BitVec 1 := Scalar.cmpi .ne v36 v41
  let v43 : BitVec 32 := Scalar.remsi v29 c31_i32
  let c0_i32_18 : BitVec 32 := 0#32
  let v44 : BitVec 1 := Scalar.cmpi .ne v43 c0_i32_18
  let v45 : BitVec 1 := Scalar.andi v42 v44
  let v31 : BitVec 32 := Scalar.divsi v29 c31_i32
  let c1_i32_19 : BitVec 32 := 1#32
  let v46 : BitVec 32 := Scalar.subi v31 c1_i32_19
  let v47 : BitVec 32 := Scalar.select v45 v46 v31
  let c24_i32 : BitVec 32 := 24#32
  let v48 : BitVec 32 := Scalar.select v30 v47 c24_i32
  let v49 : Index := Scalar.indexCast v48
  ![v49.toNat]

def k0_chk1 (i : grid0.Coords) (v29 : BitVec 32) : Prop :=
  (∀ (k0_h1 : k0_cond1 i = 1#1), ∀ a, (k0_off4 v29) a + S1.size a ≤ S25.size a)
theorem k0_off4_inb : ∀ (i : grid0.Coords) (v29 : BitVec 32) (k0_hw1 : k0_chk1 i v29), ∀ (k0_h1 : k0_cond1 i = 1#1), ∀ a, (k0_off4 v29) a + S1.size a ≤ S25.size a := fun i v29 k0_hw1 k0_h1 => k0_hw1 k0_h1

def k0_off5 (k0_t2 : Fin k0_t2_loop.trips) : Fin 1 → Nat :=
  let c0_i32_10 : BitVec 32 := 0#32
  let c1_i32_11 : BitVec 32 := 1#32
  let arg16 : BitVec 32 := Scf.iv c0_i32_10 c1_i32_11 k0_t2
  let v51 : Index := Scalar.indexCast arg16
  ![v51.toNat]
def k0_off6 (i : grid0.Coords) : Fin 1 → Nat :=
  let arg0 : BitVec 32 := BitVec.ofNat 32 (i 0).val
  let v11 : Index := Scalar.indexCast arg0
  ![v11.toNat]
def k0_off7 (v12 : BitVec 32) : Fin 1 → Nat :=
  let v13 : Index := Scalar.indexCast v12
  ![v13.toNat]

def k0_chk2 (v12 : BitVec 32) : Prop :=
  (∀ a, (k0_off7 v12) a + S1.size a ≤ S25.size a)
theorem k0_off7_inb : ∀ (v12 : BitVec 32) (k0_hw2 : k0_chk2 v12), ∀ a, (k0_off7 v12) a + S1.size a ≤ S25.size a := fun v12 k0_hw2 => k0_hw2

def k0_off8 (arg16 : BitVec 32) : Fin 1 → Nat :=
  let v22 : Index := Scalar.indexCast arg16
  ![v22.toNat]

def k0_off9 (v23 : BitVec 32) : Fin 1 → Nat :=
  let v24 : Index := Scalar.indexCast v23
  ![v24.toNat]

def k0_chk4 (v23 : BitVec 32) : Prop :=
  (∀ a, (k0_off9 v23) a + S1.size a ≤ S744.size a)
theorem k0_off9_inb : ∀ (v23 : BitVec 32) (k0_hw4 : k0_chk4 v23), ∀ a, (k0_off9 v23) a + S1.size a ≤ S744.size a := fun v23 k0_hw4 => k0_hw4

def k0_off10 (i : grid0.Coords) : Fin 1 → Nat :=
  let arg0 : BitVec 32 := BitVec.ofNat 32 (i 0).val
  let v27 : Index := Scalar.indexCast arg0
  ![v27.toNat]
def k0_off11 (i : grid0.Coords) (arg16 : BitVec 32) : Fin 3 → Nat :=
  let arg1 : BitVec 32 := BitVec.ofNat 32 (i 1).val
  let c8_i32_10 : BitVec 32 := 8#32
  let v48 : BitVec 32 := Scalar.muli arg1 c8_i32_10
  let v49 : Index := Scalar.indexCast v48
  let c0_i32_5 : BitVec 32 := 0#32
  let v32 : BitVec 1 := Scalar.cmpi .sgt arg16 c0_i32_5
  let v33 : BitVec 32 := Scalar.extui v32
  let c0_i32_6 : BitVec 32 := 0#32
  let v34 : BitVec 1 := Scalar.cmpi .slt arg16 c0_i32_6
  let v35 : BitVec 32 := Scalar.extui v34
  let v36 : BitVec 32 := Scalar.subi v33 v35
  let c8_i32 : BitVec 32 := 8#32
  let c0_i32_7 : BitVec 32 := 0#32
  let v37 : BitVec 1 := Scalar.cmpi .sgt c8_i32 c0_i32_7
  let v38 : BitVec 32 := Scalar.extui v37
  let c0_i32_8 : BitVec 32 := 0#32
  let v39 : BitVec 1 := Scalar.cmpi .slt c8_i32 c0_i32_8
  let v40 : BitVec 32 := Scalar.extui v39
  let v41 : BitVec 32 := Scalar.subi v38 v40
  let v42 : BitVec 1 := Scalar.cmpi .ne v36 v41
  let v43 : BitVec 32 := Scalar.remsi arg16 c8_i32
  let c0_i32_9 : BitVec 32 := 0#32
  let v44 : BitVec 1 := Scalar.cmpi .ne v43 c0_i32_9
  let v45 : BitVec 1 := Scalar.andi v42 v44
  let v31 : BitVec 32 := Scalar.divsi arg16 c8_i32
  let c1_i32 : BitVec 32 := 1#32
  let v46 : BitVec 32 := Scalar.subi v31 c1_i32
  let v47 : BitVec 32 := Scalar.select v45 v46 v31
  let v50 : Index := Scalar.indexCast v47
  let c0_11 : Index := 0#32
  ![v49.toNat, v50.toNat, 0]
def k0_off12 (v23 : BitVec 32) (v28 : BitVec 32) : Fin 3 → Nat :=
  let c0_12 : Index := 0#32
  let c31_i32 : BitVec 32 := 31#32
  let v29 : BitVec 32 := Scalar.muli v28 c31_i32
  let v30 : BitVec 32 := Scalar.subi v23 v29
  let v52 : Index := Scalar.indexCast v30
  let c0_13 : Index := 0#32
  ![0, v52.toNat, 0]

def k0_chk5 (v23 : BitVec 32) (v28 : BitVec 32) : Prop :=
  (∀ a, (k0_off12 v23 v28) a + S8x1x128.size a ≤ S8x32x128.size a)
theorem k0_off12_inb : ∀ (v23 : BitVec 32) (v28 : BitVec 32) (k0_hw5 : k0_chk5 v23 v28), ∀ a, (k0_off12 v23 v28) a + S8x1x128.size a ≤ S8x32x128.size a := fun v23 v28 k0_hw5 => k0_hw5

def k0_off13 (i : grid0.Coords) (arg16 : BitVec 32) : Fin 3 → Nat :=
  let arg1 : BitVec 32 := BitVec.ofNat 32 (i 1).val
  let c8_i32_10 : BitVec 32 := 8#32
  let v48 : BitVec 32 := Scalar.muli arg1 c8_i32_10
  let v57 : Index := Scalar.indexCast v48
  let c0_i32_5 : BitVec 32 := 0#32
  let v32 : BitVec 1 := Scalar.cmpi .sgt arg16 c0_i32_5
  let v33 : BitVec 32 := Scalar.extui v32
  let c0_i32_6 : BitVec 32 := 0#32
  let v34 : BitVec 1 := Scalar.cmpi .slt arg16 c0_i32_6
  let v35 : BitVec 32 := Scalar.extui v34
  let v36 : BitVec 32 := Scalar.subi v33 v35
  let c8_i32 : BitVec 32 := 8#32
  let c0_i32_7 : BitVec 32 := 0#32
  let v37 : BitVec 1 := Scalar.cmpi .sgt c8_i32 c0_i32_7
  let v38 : BitVec 32 := Scalar.extui v37
  let c0_i32_8 : BitVec 32 := 0#32
  let v39 : BitVec 1 := Scalar.cmpi .slt c8_i32 c0_i32_8
  let v40 : BitVec 32 := Scalar.extui v39
  let v41 : BitVec 32 := Scalar.subi v38 v40
  let v42 : BitVec 1 := Scalar.cmpi .ne v36 v41
  let v43 : BitVec 32 := Scalar.remsi arg16 c8_i32
  let c0_i32_9 : BitVec 32 := 0#32
  let v44 : BitVec 1 := Scalar.cmpi .ne v43 c0_i32_9
  let v45 : BitVec 1 := Scalar.andi v42 v44
  let v31 : BitVec 32 := Scalar.divsi arg16 c8_i32
  let c1_i32 : BitVec 32 := 1#32
  let v46 : BitVec 32 := Scalar.subi v31 c1_i32
  let v47 : BitVec 32 := Scalar.select v45 v46 v31
  let v58 : Index := Scalar.indexCast v47
  let c0_14 : Index := 0#32
  ![v57.toNat, v58.toNat, 0]
def k0_off14 (arg16 : BitVec 32) : Fin 1 → Nat :=
  let v62 : Index := Scalar.indexCast arg16
  ![v62.toNat]

def k0_chk3 (i : grid0.Coords) (arg16 : BitVec 32) : Prop :=
  (∀ a, (k0_off8 arg16) a + S1.size a ≤ S320.size a) ∧
  (∀ a, (k0_off11 i arg16) a + S8x1x128.size a ≤ S56x40x128.size a) ∧
  (∀ a, (k0_off13 i arg16) a + S8x1x128.size a ≤ S56x40x128.size a) ∧
  (∀ a, (k0_off14 arg16) a + S1.size a ≤ S320.size a)
theorem k0_off8_inb : ∀ (i : grid0.Coords) (arg16 : BitVec 32) (k0_hw3 : k0_chk3 i arg16), ∀ a, (k0_off8 arg16) a + S1.size a ≤ S320.size a := fun i arg16 k0_hw3 => k0_hw3.1
theorem k0_off11_inb : ∀ (i : grid0.Coords) (arg16 : BitVec 32) (k0_hw3 : k0_chk3 i arg16), ∀ a, (k0_off11 i arg16) a + S8x1x128.size a ≤ S56x40x128.size a := fun i arg16 k0_hw3 => k0_hw3.2.1
theorem k0_off13_inb : ∀ (i : grid0.Coords) (arg16 : BitVec 32) (k0_hw3 : k0_chk3 i arg16), ∀ a, (k0_off13 i arg16) a + S8x1x128.size a ≤ S56x40x128.size a := fun i arg16 k0_hw3 => k0_hw3.2.2.1
theorem k0_off14_inb : ∀ (i : grid0.Coords) (arg16 : BitVec 32) (k0_hw3 : k0_chk3 i arg16), ∀ a, (k0_off14 arg16) a + S1.size a ≤ S320.size a := fun i arg16 k0_hw3 => k0_hw3.2.2.2

def k0_cond3 (i : grid0.Coords) : BitVec 1 :=
  let arg0 : BitVec 32 := BitVec.ofNat 32 (i 0).val
  let c23_i32 : BitVec 32 := 23#32
  let v17 : BitVec 1 := Scalar.cmpi .eq arg0 c23_i32
  let arg1 : BitVec 32 := BitVec.ofNat 32 (i 1).val
  let c6_i32 : BitVec 32 := 6#32
  let v18 : BitVec 1 := Scalar.cmpi .eq arg1 c6_i32
  let v19 : BitVec 1 := Scalar.andi v17 v18
  let v20 : BitVec 32 := Scalar.extui v19
  let c0_i32_4 : BitVec 32 := 0#32
  let v21 : BitVec 1 := Scalar.cmpi .ne v20 c0_i32_4
  v21

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S24.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_3 (k0_off1_inb : ∀ i : grid0.Coords, ∀ a, (k0_off1 i) a + S1.size a ≤ S24.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S24) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S744 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x31x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S40x7168 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S40x56 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== Proof.DownOrder.lean ====
/- THE ORDER OF THE EXPERTS. The host lists the experts that have rows, in increasing order: entry `i` of the table is the
   sum over the experts `j` of `j` where `j` has rows and its rank among those that have is the wanted one, and of zero
   elsewhere. At most one expert has the wanted rank, so the sum is that expert, or zero: every entry is below 24. -/
module

public import Idealize.ShloMosaic.Lib.Routing.Ops
public import Idealize.ShloMosaic.Lib.Routing.OneHot
public import Idealize.ShloMosaic.Lib.WordCmp
public import Idealize.ShloMosaic.Lib.Affine
public import Mathlib.Data.BitVec
public import Mathlib.Algebra.BigOperators.Fin

@[expose] public section

namespace Cert.DownOrder

open Idealize.ShloMosaic Idealize.ShloMosaic.Routing Idealize.ShloMosaic.ValueIdx

/-- A sum of a two-dimensional array of words along its rows, from zero: entry `p` sums row `p`. -/
theorem reduce_row {n m : Nat} (x : IVec (shape2 n m) 32) (f : Nat → BitVec 32) (p : Fin n)
    (hx : ∀ q : Fin m, x (ix2 p q) = f q.val) (init : IVec shape0 32) (hinit : init ix0 = 0#32)
    (h : (shape2 n m).ReducesTo [1] (shape1 n)) (hu : 0 < shape0.numel) :
    Host.reduce IntOp.addi x init h hu (ix1 p) = ((List.range m).map f).sum := by
  rw [Host.reduce_eq_fold]
  have hi : init (Shape.Idx.first hu) = 0 := (congrArg init (eq_ix0 _)).trans hinit
  have hdrop : ∀ i : (shape2 n m).Idx, h.drop i = ix1 p ↔ i 0 = p := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  have hback : ∀ i : (shape2 n m).Idx, i 0 = p → ix2 p (i 1) = i := fun i h0 => by
    funext b; match b with
    | ⟨0, _⟩ => exact h0.symm
    | ⟨1, _⟩ => rfl
  have hsum : ∑ i ∈ Finset.univ.filter (fun i : (shape2 n m).Idx => h.drop i = ix1 p), x i = ∑ q : Fin m, f q.val := by
    refine Finset.sum_bij' (fun i _ => i 1) (fun q _ => ix2 p q) (fun _ _ => Finset.mem_univ _)
      (fun q _ => Finset.mem_filter.2 ⟨Finset.mem_univ _, (hdrop _).2 rfl⟩)
      (fun i hi => hback i ((hdrop i).1 (Finset.mem_filter.1 hi).2)) (fun _ _ => rfl) ?_
    intro i hi
    exact (congrArg x (hback i ((hdrop i).1 (Finset.mem_filter.1 hi).2))).symm.trans (hx (i 1))
  rw [hi]
  refine (show Finset.fold IntOp.addi 0 x _ = ∑ i ∈ Finset.univ.filter (fun i : (shape2 n m).Idx => h.drop i = ix1 p), x i from rfl).trans
    (hsum.trans ?_)
  rw [← Finset.sum_range]
  rfl

/-- Word `1#1` widened is one, the other word zero. -/
theorem setWidth_bit (b : BitVec 1) : b.setWidth 32 = BitVec.ofNat 32 (if b = 1#1 then 1 else 0) := by
  revert b; decide

variable (used : IVec (shape1 24) 1)

/-- Whether expert `j` has rows. -/
def Used (j : Nat) : Prop := if h : j < 24 then used (ix1 ⟨j, h⟩) = 1#1 else False

instance : DecidablePred (Used used) := fun j => by unfold Used; split <;> infer_instance

theorem used_iff (q : Fin 24) : Used used q.val ↔ used (ix1 q) = 1#1 := by
  unfold Used; rw [dif_pos q.isLt]

/-- The rank of an expert that has rows: how many experts before it have. -/
theorem rank_eq (init : IVec shape0 32) (hinit : init ix0 = 0#32)
    (h : (shape1 24).ReduceWindows (![24] : Fin 1 → Nat) ![1] ![23] ![0] (shape1 24)) (hu : 0 < shape0.numel) (hw : 1 < 32)
    (q : Fin 24) (hq : Used used q.val) :
    Host.reduceWindow IntOp.addi (![24] : Fin 1 → Nat) ![1] ![23] ![0] (extui 32 used hw) init h hu (ix1 q) - 1#32
      = BitVec.ofNat 32 (Nat.count (Used used) q.val) := by
  rw [cumsum1 (Nm1 := 23) rfl (extui 32 used hw) (fun j => if Used used j then 1 else 0)
    (fun i => (setWidth_bit _).trans (by simp only [used_iff])) init hinit h hu q, sum_map_ite, Nat.count_succ, if_pos hq]
  rw [BitVec.ofNat_add]
  exact add_sub_cancel_right _ _

/-- A count of the experts, as a word, is a wanted rank exactly when its number is. -/
theorem count_eq_iff (q : Fin 24) (w : BitVec 32) :
    BitVec.ofNat 32 (Nat.count (Used used) q.val) = w ↔ Nat.count (Used used) q.val = w.toNat := by
  have hle : Nat.count (Used used) q.val ≤ q.val := Nat.count_le _
  have := q.isLt
  constructor
  · intro e; rw [← e, BitVec.toNat_ofNat, Nat.mod_eq_of_lt (by omega)]
  · intro e; rw [e, BitVec.ofNat_toNat, BitVec.setWidth_eq]

/-- Every entry of the table of experts is one of the 24. -/
theorem order_lt (x : IVec (shape2 24 24) 32) (w : BitVec 32) (p : Fin 24)
    (hx : ∀ q : Fin 24, x (ix2 p q) = if Used used q.val ∧ Nat.count (Used used) q.val = w.toNat then BitVec.ofNat 32 q.val else 0)
    (init : IVec shape0 32) (hinit : init ix0 = 0#32)
    (h : (shape2 24 24).ReducesTo [1] (shape1 24)) (hu : 0 < shape0.numel) :
    (Host.reduce IntOp.addi x init h hu (ix1 p)).toNat < 24 := by
  rw [reduce_row x (fun q => if Used used q ∧ Nat.count (Used used) q = w.toNat then BitVec.ofNat 32 q else 0) p hx init hinit h hu,
    sum_oneHot]
  split
  · have hlt : ∀ (l : List Nat) (k : Nat), (∀ a ∈ l, a < 24) → l.getD k 0 < 24 := by
      intro l k hl
      rw [List.getD_eq_getElem?_getD]
      rcases lt_or_ge k l.length with hk | hk
      · rw [List.getElem?_eq_getElem hk]; exact hl _ (List.getElem_mem hk)
      · rw [List.getElem?_eq_none hk]; decide
    have := hlt ((List.range 24).filter fun c => decide (Used used c)) w.toNat
      (fun a ha => List.mem_range.1 (List.mem_filter.1 ha).1)
    rw [BitVec.toNat_ofNat, Nat.mod_eq_of_lt (by omega)]
    exact this
  · decide

end Cert.DownOrder

end
-- ==== Proof.DownKit.lean ====
/- THE LAUNCH OF THE DOWN PROJECTION: its host operations up to the region, the contents of its prefetched tables, the
   windows' blocks, where each window is fetched or written back, the conditions of the body's branches at a point, and the
   staging and scratch memrefs. -/
module

public import proofs.«01_k».proof.Proof.Gen.DownIdeal.Launch
public import proofs.«01_k».proof.Proof.Gen.DownIdeal.Skeleton
public import proofs.«01_k».proof.Proof.Gen.DownIdeal.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%34)) is fetched at the first point only, at any contents of the tables (its index map reads none). -/
theorem fetch0_0 (a : (pcfg0 (F := F)).Adm) : ∀ t : Fin (cfg0 a).N, ((cfg0 a).win 0).fetch t = true ↔ t.val % 168 = 0 :=
  (fun t => Pipeline.Window.fetchOf_const cc0_transform_0 (fun _ _ => rfl) (n := 168) (by decide) t : ∀ t : Fin grid0.N, Pipeline.Window.fetchOf grid0 false cc0_transform_0 t = true ↔ t.val % 168 = 0)
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents
/-- Window 4 (result 0 (%35#0)) is written back at the last point only, at any contents of the tables (its index map reads none). -/
theorem flush0_4 (a : (pcfg0 (F := F)).Adm) : ∀ t : Fin (cfg0 a).N, ((cfg0 a).win 4).flush t = true ↔ t.val % 168 = 167 :=
  (fun t => Pipeline.Window.flushOf_const cc0_transform_4 (fun _ _ => rfl) (n := 168) (by decide) rfl t : ∀ t : Fin grid0.N, Pipeline.Window.flushOf grid0 true cc0_transform_4 t = true ↔ t.val % 168 = 167)
/-- Window 5 (result 1 (%35#1)) is written back at the last point only, at any contents of the tables (its index map reads none). -/
theorem flush0_5 (a : (pcfg0 (F := F)).Adm) : ∀ t : Fin (cfg0 a).N, ((cfg0 a).win 5).flush t = true ↔ t.val % 168 = 167 :=
  (fun t => Pipeline.Window.flushOf_const cc0_transform_5 (fun _ _ => rfl) (n := 168) (by decide) rfl t : ∀ t : Fin grid0.N, Pipeline.Window.flushOf grid0 true cc0_transform_5 t = true ↔ t.val % 168 = 167)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) (Λ₀ F) .tc) PUnit :=
  cc0_down_combine (grid0.coords t) (Memref.whole main_v32) (Memref.isWhole_whole _) (Memref.whole main_v33) (Memref.isWhole_whole _) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; `ok` (DownHost, DownBitsHost) proves it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig (Λ₀ F) := cfg0 (adm m hO)

/-- Each table as the body is handed it: its whole buffer as a memref, and that memref's wholeness. -/
abbrev tbM0_0 : Memref sig .tc .smem S24 .i32 := Memref.whole main_v32
abbrev htbM0_0 : tbM0_0.IsWhole := Memref.isWhole_whole _
abbrev tbM0_1 : Memref sig .tc .smem S1 .i32 := Memref.whole main_v33
abbrev htbM0_1 : tbM0_1.IsWhole := Memref.isWhole_whole _
abbrev tbM0_2 : Memref sig .tc .smem S320 .i32 := Memref.whole main_v0
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (the frame, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 1 rfl).trans ((hA c 1).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 168 = 0 :=
  (fun t => by
    have ht : t.val < 168 := Nat.lt_of_lt_of_eq t.isLt N_0
    have e0 : (grid0.coords t 0).val = t.val / 7 % 24 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 168 = 0)

/-- The condition of the body's `scf.if` 1: over WORDS the body reads from its tables or input SMEM windows
    (`v5`), so no function of the point — a case variable: a hypothesis of each run, a `by_cases`
    of the obligation and an `if` of `outsAt`, stated over the argument blocks' words there. -/
abbrev cond0_1 (i : grid0.Coords) (v5 : BitVec 32) : Prop := (Scalar.cmpi .ne (Scalar.extui (Scalar.cmpi .slt (BitVec.ofNat 32 (i 0).val) v5)) 0#32) = 1#1

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin grid0.N, cond0_2 (grid0.coords t) ↔ t.val % 168 = 167 :=
  (fun t => by
    have ht : t.val < 168 := Nat.lt_of_lt_of_eq t.isLt N_0
    have e0 : (grid0.coords t 0).val = t.val / 7 % 24 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 168 = 167)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S744 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x31x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x64 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S40x7168 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S40x56 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S64x256 .bf16 := Memref.whole cc0_scratch0
abbrev scM0_1 : Memref sig .tc .vmem S8x32x128 .f32 := Memref.whole cc0_scratch1
abbrev scM0_2 : Memref sig .tc .vmem S56x40x128 .f32 := Memref.whole cc0_scratch2
abbrev scM0_3 : Memref sig .tc .smem S25 .i32 := Memref.whole cc0_scratch3
abbrev scM0_4 : Memref sig .tc .smem S320 .i32 := Memref.whole cc0_scratch4
/-- The scratch `arg13` the kernel carries between points, as a view: what it holds is stated through it. -/
abbrev VS0_2 : View sig .tc .vmem S56x40x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.DownIdeal.Body

end
-- ==== Proof.DownWords.lean ====
/- THE WORDS OF THE DOWN PROJECTION: which expert a position belongs to, the lists that its link loop builds, and the
   offsets of its loads and stores as numbers. -/
module

public import proofs.«01_k».proof.Proof.DownKit
public import Idealize.ShloMosaic.Lib.CellWrites.SmemRing
public import Idealize.ShloMosaic.Lib.VecWindow

@[expose] public section

set_option maxRecDepth 16384

noncomputable section

namespace Cert.DownIdeal.Body

open Cert.DownIdeal Cert.DownIdeal.Gen
open Idealize.ShloMosaic
open Idealize.ShloMosaic.CellWrites.SmemRing

/-- The expert of a row: 31 rows each, and 24 for a position that is not routed. -/
def own (w : BitVec 32) : ℕ := if 0 ≤ w.toInt then w.toNat / 31 else 24

/-- The last position before `n` of expert `e`, or -1. -/
def last (pos : Fin 320 → BitVec 32) (e : ℕ) : ℕ → BitVec 32
  | 0 => 4294967295#32
  | n + 1 => if h : n < 320 then (if own (pos ⟨n, h⟩) = e then BitVec.ofNat 32 n else last pos e n) else last pos e n

theorem nonneg_lt {w : BitVec 32} (h0 : 0 ≤ w.toInt) (h : w.toInt < 744) : w.toNat < 744 := by
  have := BitVec.toInt_eq_toNat_cond w
  have h3 := w.isLt
  split at this <;> omega

theorem own_lt {w : BitVec 32} (h : w.toInt < 744) : own w < 25 := by
  unfold own
  split
  · have := nonneg_lt ‹_› h; omega
  · decide

theorem off4_pos : ∀ n : Fin 744, k0_off4 (BitVec.ofNat 32 n.val) 0 = n.val / 31 := by
  decide +kernel

theorem off4_eq {w : BitVec 32} (h : w.toInt < 744) : k0_off4 w 0 = own w := by
  unfold own
  split
  · rename_i h0
    have hn := nonneg_lt h0 h
    have := off4_pos ⟨w.toNat, hn⟩
    simpa using this
  · rename_i h0
    have : Scalar.cmpi .sge w 0#32 = 0#1 := by
      have hs : BitVec.sle 0#32 w = false := by simp [BitVec.sle]; omega
      simp [Scalar.cmpi, IntOp.cmpi, hs]
    show (Scalar.indexCast (Scalar.select (Scalar.cmpi .sge w 0#32) _ 24#32)).toNat = 24
    rw [this]
    rfl

theorem chk1_of (i : grid0.Coords) {w : BitVec 32} (h : w.toInt < 744) : k0_chk1 i w := by
  intro _ a
  have : a = 0 := Subsingleton.elim _ _
  subst this
  rw [off4_eq h]
  exact own_lt h

/-- The row of a position's token does not depend on the point. -/
theorem off11_any (i i' : grid0.Coords) (p : BitVec 32) : k0_off11 i p 1 = k0_off11 i' p 1 := by
  unfold k0_off11
  rfl

theorem off11_at : ∀ p : Fin 320, k0_off11 (grid0.coords ⟨0, by decide⟩) (BitVec.ofNat 32 p.val) 1 = p.val / 8 := by
  decide +kernel

theorem off11_aux (p : Fin 320) (i : grid0.Coords) : k0_off11 i (BitVec.ofNat 32 p.val) 1 = p.val / 8 :=
  (off11_any i _ _).trans (off11_at p)

theorem off11_zero (i : grid0.Coords) (p : BitVec 32) : k0_off11 i p 0 = 8 * (i 1).val := by
  have h : ∀ j : Fin 7, (Scalar.indexCast (Scalar.muli (BitVec.ofNat 32 j.val) 8#32)).toNat = 8 * j.val := by decide
  exact h ⟨(i 1).val, (i 1).isLt⟩

theorem off11_eq (i : grid0.Coords) {p : ℕ} (hp : p < 320) : k0_off11 i (BitVec.ofNat 32 p) = ![8 * (i 1).val, p / 8, 0] := by
  funext a
  fin_cases a
  · exact off11_zero i _
  · exact off11_aux ⟨p, hp⟩ i
  · rfl

theorem off13_eq (i : grid0.Coords) (p : BitVec 32) : k0_off13 i p = k0_off11 i p := rfl

theorem off8_eq {p : ℕ} (hp : p < 320) : k0_off8 (BitVec.ofNat 32 p) = ![p] := by
  funext a
  fin_cases a
  show (BitVec.ofNat 32 p).toNat = p
  rw [BitVec.toNat_ofNat]; omega

theorem off14_eq (p : BitVec 32) : k0_off14 p = k0_off8 p := rfl

theorem chk3_of (i : grid0.Coords) {p : ℕ} (hp : p < 320) : k0_chk3 i (BitVec.ofNat 32 p) := by
  have hi : (i 1).val < 7 := (i 1).isLt
  have h11 : ∀ a, (k0_off11 i (BitVec.ofNat 32 p)) a + S8x1x128.size a ≤ S56x40x128.size a := by
    rw [off11_eq i hp]
    intro a
    fin_cases a
    · show 8 * (i 1).val + 8 ≤ 56; omega
    · show p / 8 + 1 ≤ 40; omega
    · show 0 + 128 ≤ 128; omega
  have h8 : ∀ a, (k0_off8 (BitVec.ofNat 32 p)) a + S1.size a ≤ S320.size a := by
    rw [off8_eq hp]
    intro a
    fin_cases a
    show p + 1 ≤ 320; omega
  exact ⟨h8, h11, h11, h8⟩

theorem chk4_of {w : BitVec 32} (h0 : 0 ≤ w.toInt) (h : w.toInt < 744) : k0_chk4 w := by
  intro a
  have : a = 0 := Subsingleton.elim _ _
  subst this
  show w.toNat + 1 ≤ 744
  exact nonneg_lt h0 h

theorem off12_aux : ∀ n : Fin 744, ∀ a, k0_off12 (BitVec.ofNat 32 n.val) (BitVec.ofNat 32 (n.val / 31)) a = (![0, n.val % 31, 0] : Fin 3 → ℕ) a := by
  decide +kernel

theorem off12_eq {w o : BitVec 32} (h0 : 0 ≤ w.toInt) (h : w.toInt < 744) (ho : o.toNat = w.toNat / 31) :
    k0_off12 w o = ![0, w.toNat % 31, 0] := by
  have hn := nonneg_lt h0 h
  have e : o = BitVec.ofNat 32 (w.toNat / 31) := by rw [← ho]; simp
  have := off12_aux ⟨w.toNat, hn⟩
  funext a
  rw [e]
  simpa using this a

theorem chk5_of {w o : BitVec 32} (h0 : 0 ≤ w.toInt) (h : w.toInt < 744) (ho : o.toNat = w.toNat / 31) : k0_chk5 w o := by
  unfold k0_chk5
  rw [off12_eq h0 h ho]
  intro a
  fin_cases a
  · show 0 + 8 ≤ 8; omega
  · show w.toNat % 31 + 1 ≤ 32; omega
  · show 0 + 128 ≤ 128; omega

theorem chk2_of {o : BitVec 32} (h : o.toNat < 24) : k0_chk2 o := by
  intro a
  have : a = 0 := Subsingleton.elim _ _
  subst this
  show o.toNat + 1 ≤ 25
  omega

end Cert.DownIdeal.Body

end
-- ==== Proof.DownLink.lean ====
/- THE LINK LOOP: it leaves in the word array `head` the last position of each expert and in `next`, for each position,
   the one before it of the same expert. -/
module

public import proofs.«01_k».proof.Proof.DownWords

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)

theorem update_at {n : ℕ} (f : Fin n → BitVec 32) (a : ℕ) (ha : a < n) {e : Fin n} (p : BitVec 32) (h : a = e.val) :
    Function.update f ⟨a, ha⟩ p e = p := by
  subst h
  exact Function.update_self _ _ _

theorem update_off {n : ℕ} (f : Fin n → BitVec 32) (a : ℕ) (ha : a < n) {e : Fin n} (p : BitVec 32) (h : ¬a = e.val) :
    Function.update f ⟨a, ha⟩ p e = f e :=
  Function.update_of_ne (fun h' => h (congrArg Fin.val h').symm) _ _

/-- The words linked so far. -/
def Linked (pos : Fin 320 → BitVec 32) (k : ℕ) (head : Fin 25 → BitVec 32) (next : Fin 320 → BitVec 32) : Prop :=
  (∀ e : Fin 25, head e = last pos e.val k) ∧ ∀ q : Fin 320, q.val < k → next q = last pos (own (pos q)) q.val

theorem trip_link (𝒱 : Variants) (bd : Option 𝒱.V) (E : Set ℕ) (h1 : k0_cond1 i = 1#1) (k : Fin k0_t2_loop.trips) (q : PosShare TreeShare)
    (f4 : arg4.view.ty.Contents (Elt F)) (f14 : arg14.view.ty.Contents (Elt F)) (f15 : arg15.view.ty.Contents (Elt F))
    (hpos : ∀ p, (cells arg4 f4 p).toInt < 744) (hl : Linked (cells arg4 f4) k.val (cells arg14 f14) (cells arg15 f15)) :
    (iprop((arg4.view.loc (c : Thread nD τ) ↦[arg4.view.set]{q} f4) ∗ (arg14.view.loc (c : Thread nD τ) ↦[arg14.view.set]{fullShare} f14)
      ∗ (arg15.view.loc (c : Thread nD τ) ↦[arg15.view.set]{fullShare} f15)) : sProp 𝕄)
    ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 h1 k ())
        (fun _ => iprop((arg4.view.loc (c : Thread nD τ) ↦[arg4.view.set]{q} f4)
          ∗ ∃ f14 f15, (arg14.view.loc (c : Thread nD τ) ↦[arg14.view.set]{fullShare} f14)
            ∗ (arg15.view.loc (c : Thread nD τ) ↦[arg15.view.set]{fullShare} f15)
            ∗ ⌜Linked (cells arg4 f4) (k.val + 1) (cells arg14 f14) (cells arg15 f15)⌝)) := by
  have hk : k.val < 320 := Nat.lt_of_lt_of_le k.isLt k0_t2_abs.2.1
  have hiv : Scf.iv 0#32 1#32 k = BitVec.ofNat 32 k.val := by simp [Scf.iv]
  have ho3 : k0_off3 k 0 = k.val := by
    show (Scf.iv 0#32 1#32 k).toNat = k.val
    rw [hiv, BitVec.toNat_ofNat]; omega
  have hw : View.readAt (Elt F) arg4.view (Rect.unit (s := S320) (k0_off3 k) S1.size (k0_off3_inb i k h1)).toLoadRect f4
      (Shape.Idx.first (numel1_S1.symm ▸ Nat.one_pos)) = cells arg4 f4 ⟨k.val, hk⟩ := by
    refine (readAt_cell arg4 f4 (k0_off3 k) (k0_off3_inb i k h1) (by rw [ho3]; exact hk)).trans ?_
    congr 1
    exact Fin.ext ho3
  have hc1 : k0_chk1 i (View.readAt (Elt F) arg4.view (Rect.unit (s := S320) (k0_off3 k) S1.size (k0_off3_inb i k h1)).toLoadRect f4
      (Shape.Idx.first (numel1_S1.symm ▸ Nat.one_pos))) := by rw [hw]; exact chk1_of i (hpos _)
  unfold k0_t2_body
  iintro ⟨H4, H14, H15⟩
  sl_exec (disch := first | sl_exact hc1)
  sl_step
  have hne : ∀ e : Fin 25, last (cells arg4 f4) e.val (k.val + 1)
      = if own (cells arg4 f4 ⟨k.val, hk⟩) = e.val then BitVec.ofNat 32 k.val else last (cells arg4 f4) e.val k.val := fun e => by
    rw [last, dif_pos hk]
  have ho4 : k0_off4 (trip_link.sl.r i arg4 h1 k f4) 0 = own (cells arg4 f4 ⟨k.val, hk⟩) := by
    rw [← off4_eq (hpos _), ← hw]; rfl
  have ho5 : k0_off5 k 0 = k.val := ho3
  have hown : own (cells arg4 f4 ⟨k.val, hk⟩) < 25 := own_lt (hpos _)
  have hr1 : trip_link.sl.r_1 i arg4 arg14 h1 k f4 f14 hc1 = last (cells arg4 f4) (own (cells arg4 f4 ⟨k.val, hk⟩)) k.val := by
    refine (readAt_cell arg14 f14 _ (k0_off4_inb i _ hc1 h1) (lt_of_eq_of_lt ho4 hown)).trans ?_
    rw [hl.1]
    exact congrArg (fun e => last (cells arg4 f4) e k.val) ho4
  isplitl [H4]; · iexact H4
  iexists _; iexists _
  isplitl [H14]; · iexact H14
  isplitl [H15]; · iexact H15
  ipureintro
  refine ⟨fun e => ?_, fun p hp => ?_⟩
  · rw [cells_writes_cons arg14 f14 _ _ (lt_of_eq_of_lt ho4 hown), cells_writes_nil, hne]
    by_cases he : own (cells arg4 f4 ⟨k.val, hk⟩) = e.val
    · rw [if_pos he, update_at _ _ _ _ (ho4.trans he)]
      exact hiv
    · rw [if_neg he, update_off _ _ _ _ (fun h => he (ho4.symm.trans h)), hl.1]
  · rw [cells_writes_cons arg15 f15 _ _ (by rw [ho5]; exact hk), cells_writes_nil]
    by_cases he : p.val = k.val
    · obtain rfl : p = ⟨k.val, hk⟩ := Fin.ext he
      refine (update_at _ _ _ _ ho5).trans hr1
    · rw [Function.update_of_ne (fun h => he ((congrArg Fin.val h).trans ho5)), hl.2 p (by omega)]

/-- The loop's invariant before trip `k`. -/
def linkInv (q : PosShare TreeShare) (f4 : arg4.view.ty.Contents (Elt F)) (k : ℕ) (_ : Unit) : sProp 𝕄 :=
  iprop(⌜∀ p, (cells arg4 f4 p).toInt < 744⌝ ∗ (arg4.view.loc (c : Thread nD τ) ↦[arg4.view.set]{q} f4)
    ∗ ∃ f14 f15, (arg14.view.loc (c : Thread nD τ) ↦[arg14.view.set]{fullShare} f14)
      ∗ (arg15.view.loc (c : Thread nD τ) ↦[arg15.view.set]{fullShare} f15)
      ∗ ⌜Linked (cells arg4 f4) k (cells arg14 f14) (cells arg15 f15)⌝)

@[reducible] def linkLoop (𝒱 : Variants) (bd : Option 𝒱.V) (E : Set ℕ) (h1 : k0_cond1 i = 1#1) (q : PosShare TreeShare)
    (f4 : arg4.view.ty.Contents (Elt F)) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 h1 where
  inv := linkInv c arg4 arg14 arg15 q f4
  step k acc := by
    unfold linkInv
    iintro ⟨%hpos, H4, %f14, %f15, H14, H15, %hl⟩
    iapply (wp_wand_r Idealize.ShloMosaic.frame (wpE (defs₀ (F := F)) 𝒱 (c : Thread nD τ) bd) E)
    isplitl [H4 H14 H15]
    · iapply (trip_link c i arg2 harg2 arg3 harg3 arg4 harg4 arg5 harg5 arg6 harg6 arg7 harg7 arg8 harg8 arg9 harg9 arg10 harg10 arg11 harg11 arg12 harg12 arg13 harg13 arg14 harg14 arg15 harg15 𝒱 bd E h1 k q f4 f14 f15 hpos hl)
      isplitl [H4]; · iexact H4
      isplitl [H14]; · iexact H14
      iexact H15
    · iintro %_ ⟨H4, H⟩
      isplitr; · ipureintro; exact hpos
      isplitl [H4]; · iexact H4
      iexact H

/-! ### The clear loop -/

theorem trip_clear (𝒱 : Variants) (bd : Option 𝒱.V) (E : Set ℕ) (h1 : k0_cond1 i = 1#1) (k : Fin k0_t1_loop.trips)
    (f14 : arg14.view.ty.Contents (Elt F)) (hl : ∀ e : Fin 25, e.val < k.val → cells arg14 f14 e = 4294967295#32) :
    ((arg14.view.loc (c : Thread nD τ) ↦[arg14.view.set]{fullShare} f14) : sProp 𝕄)
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 h1 k ())
        (fun _ => iprop(∃ f14, (arg14.view.loc (c : Thread nD τ) ↦[arg14.view.set]{fullShare} f14)
            ∗ ⌜∀ e : Fin 25, e.val < k.val + 1 → cells arg14 f14 e = 4294967295#32⌝)) := by
  have hk : k.val < 25 := Nat.lt_of_lt_of_le k.isLt k0_t1_abs.2.1
  have hiv : Scf.iv 0#32 1#32 k = BitVec.ofNat 32 k.val := by simp [Scf.iv]
  have ho2 : k0_off2 k 0 = k.val := by
    show (Scf.iv 0#32 1#32 k).toNat = k.val
    rw [hiv, BitVec.toNat_ofNat]; omega
  unfold k0_t1_body
  iintro H14
  sl_exec
  sl_step
  iexists _
  isplitl [H14]; · iexact H14
  ipureintro
  intro e he
  rw [cells_writes_cons arg14 f14 _ _ (by rw [ho2]; exact hk), cells_writes_nil]
  by_cases h : e.val = k.val
  · rw [show (⟨k0_off2 k 0, by rw [ho2]; exact hk⟩ : Fin 25) = e from Fin.ext (ho2.trans h.symm), Function.update_self]
  · rw [Function.update_of_ne (fun h' => h ((congrArg Fin.val h').trans ho2)), hl e (by omega)]

@[reducible] def clearLoop (𝒱 : Variants) (bd : Option 𝒱.V) (E : Set ℕ) (h1 : k0_cond1 i = 1#1) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 h1 where
  inv k _ := iprop(∃ f14, (arg14.view.loc (c : Thread nD τ) ↦[arg14.view.set]{fullShare} f14)
            ∗ ⌜∀ e : Fin 25, e.val < k → cells arg14 f14 e = 4294967295#32⌝)
  step k acc := by
    iintro ⟨%f14, H14, %hl⟩
    iapply (trip_clear c i arg2 harg2 arg3 harg3 arg4 harg4 arg5 harg5 arg6 harg6 arg7 harg7 arg8 harg8 arg9 harg9 arg10 harg10 arg11 harg11 arg12 harg12 arg13 harg13 arg14 harg14 arg15 harg15 𝒱 bd E h1 k f14 hl)
    iexact H14

/-! ### What the first point does before anything else -/

/-- The part of the body that the first point alone runs, before `rest`. -/
abbrev initSeg (h1 : k0_cond1 i = 1#1) {β : Type} (rest : Prog (TpuEff nD τ sig (Elt F) (Λ₀ F) .tc) β) :
    Prog (TpuEff nD τ sig (Elt F) (Λ₀ F) .tc) β := do
  let _ : Vec F S56x40x128 .f32 ← Prog.lift (.load arg13 (Rect.unit (s := S56x40x128) ![0, 0, 0] S56x40x128.size inb_S56x40x128_S56x40x128_0_0_0).toLoadRect (View.loadsAt_vmem h_S56x40x128))
  Prog.lift (.store arg13 (Rect.unit (s := S56x40x128) ![0, 0, 0] S56x40x128.size inb_S56x40x128_S56x40x128_0_0_0) (k0_pay1 (F := F)) Finset.univ (View.stores_vmem_bits_univ h_S56x40x128 rfl) (.inl rfl))
  Scf.Loop.for k0_t1_loop (k0_t1_ok i h1) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 h1)
  Scf.Loop.for k0_t2_loop (k0_t2_ok i h1) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 h1)
  rest

set_option maxHeartbeats 1000000 in
theorem run_init (𝒱 : Variants) (bd : Option 𝒱.V) (E : Set ℕ) (h1 : k0_cond1 i = 1#1) (q : PosShare TreeShare)
    (f4 : arg4.view.ty.Contents (Elt F)) (f13 : arg13.view.ty.Contents (Elt F)) (f14 : arg14.view.ty.Contents (Elt F))
    (f15 : arg15.view.ty.Contents (Elt F)) (hpos : ∀ p, (cells arg4 f4 p).toInt < 744)
    {β : Type} (rest : Prog (TpuEff nD τ sig (Elt F) (Λ₀ F) .tc) β) (K : β → sProp 𝕄) :
    (iprop((arg4.view.loc (c : Thread nD τ) ↦[arg4.view.set]{q} f4)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (∀ f13 f14 f15, ((arg4.view.loc (c : Thread nD τ) ↦[arg4.view.set]{q} f4)
          ∗ (arg13.view.loc (c : Thread nD τ) ↦[arg13.view.set]{fullShare} f13)
          ∗ (arg14.view.loc (c : Thread nD τ) ↦[arg14.view.set]{fullShare} f14)
          ∗ (arg15.view.loc (c : Thread nD τ) ↦[arg15.view.set]{fullShare} f15)
          ∗ ⌜arg13.view.read (Elt F) f13 = k0_pay1⌝ ∗ ⌜Linked (cells arg4 f4) 320 (cells arg14 f14) (cells arg15 f15)⌝)
          -∗ wp frame (wpE (defs₀ (F := F)) 𝒱 (c : Thread nD τ) bd) E rest K)) : sProp 𝕄)
    ⊢ wp frame (wpE (defs₀ (F := F)) 𝒱 (c : Thread nD τ) bd) E (initSeg i arg2 harg2 arg3 harg3 arg4 harg4 arg5 harg5 arg6 harg6 arg7 harg7 arg8 harg8 arg9 harg9 arg10 harg10 arg11 harg11 arg12 harg12 arg13 harg13 arg14 harg14 arg15 harg15 h1 rest) K := by
  have ht1 : k0_t1_loop.trips = 25 := by decide
  have ht2 : k0_t2_loop.trips = 320 := by decide
  unfold initSeg
  simp only [Prog.lift, Prog.bind_op, Prog.bind_ret, Prog.pure_eq_ret]
  iintro ⟨H4, H13, H14, H15, Hk⟩
  iapply (wp_load 𝒱 (c : Thread nD τ) bd E (m := arg13) (View.setOn_subset_set _ _)) $$ H13; iintro H13
  iapply (wp_store 𝒱 (c : Thread nD τ) bd E (m := arg13) (r := Rect.unit (s := S56x40x128) ![0, 0, 0] S56x40x128.size inb_S56x40x128_S56x40x128_0_0_0) (Mk := Finset.univ) (by
    rw [View.setOn_univ, View.set_slice]; exact View.setOn_subset_set _ _)) $$ H13; iintro H13
  iapply (exec_loop Idealize.ShloMosaic.frame (wpE (defs₀ (F := F)) 𝒱 (c : Thread nD τ) bd) E _ _ _ _ _ _ (clearLoop c i arg2 harg2 arg3 harg3 arg4 harg4 arg5 harg5 arg6 harg6 arg7 harg7 arg8 harg8 arg9 harg9 arg10 harg10 arg11 harg11 arg12 harg12 arg13 harg13 arg14 harg14 arg15 harg15 𝒱 bd E h1)) $$ [H14]
  · unfold clearLoop
    dsimp only
    iexists _
    isplitl [H14]; · iexact H14
    ipureintro
    intro e he
    exact absurd he (Nat.not_lt_zero _)
  unfold clearLoop
  dsimp only
  iintro %_ ⟨%f14', H14, %h14⟩
  iapply (exec_loop Idealize.ShloMosaic.frame (wpE (defs₀ (F := F)) 𝒱 (c : Thread nD τ) bd) E _ _ _ _ _ _ (linkLoop c i arg2 harg2 arg3 harg3 arg4 harg4 arg5 harg5 arg6 harg6 arg7 harg7 arg8 harg8 arg9 harg9 arg10 harg10 arg11 harg11 arg12 harg12 arg13 harg13 arg14 harg14 arg15 harg15 𝒱 bd E h1 q f4)) $$ [H4 H14 H15]
  · unfold linkLoop
    dsimp only
    unfold linkInv
    isplitr; · ipureintro; exact hpos
    isplitl [H4]; · iexact H4
    iexists _; iexists _
    isplitl [H14]; · iexact H14
    isplitl [H15]; · iexact H15
    ipureintro
    exact ⟨fun e => h14 e (lt_of_lt_of_eq e.isLt ht1.symm), fun q hq => absurd hq (Nat.not_lt_zero _)⟩
  unfold linkLoop
  dsimp only
  unfold linkInv
  iintro %_ ⟨-, H4, %f14'', %f15', H14, H15, %hl⟩
  have hl' : ∀ n, Scf.trips (0#32) (Scalar.addi 0#32 320#32) 1#32 = n → Linked (cells arg4 f4) n (cells arg14 f14'') (cells arg15 f15') :=
    fun n e => by subst e; exact hl
  iapply Hk
  isplitl [H4]; · iexact H4
  isplitl [H13]; · iexact H13
  isplitl [H14]; · iexact H14
  isplitl [H15]; · iexact H15
  isplitr
  · ipureintro
    exact View.read_writes_full arg13.view f13 inb_S56x40x128_S56x40x128_0_0_0 _ []
  · ipureintro; exact hl' 320 (by decide)

end Cert.DownIdeal.Body

end
-- ==== Proof.DownWhile.lean ====
/- THE COMBINING LOOP: entered at the last position of an expert before `n`, it adds the rows of all its positions before `n`
   to their tokens. -/
module

public import proofs.«01_k».proof.Proof.DownLink
public import Idealize.ShloMosaic.Lib.Pipeline.Value

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

/-! ### What one position adds -/

/-- The kernel's constant 2.827. -/
abbrev routed : F .f32 := Scalar.ofBits .f32 0x4034ED91#32

/-- Row `n` of the projected tile. -/
def yIdx (j : ℕ) (n : ℕ) (y : S56x40x128.Idx) : S8x32x128.Idx := fun a => match a with
  | ⟨0, _⟩ => ⟨((y 0).val - 8 * j) % 8, Nat.mod_lt _ (by decide)⟩
  | ⟨1, _⟩ => ⟨n % 31, show n % 31 < 32 from (Nat.mod_lt n (by decide)).trans (by decide)⟩
  | ⟨2, _⟩ => y 2

/-- The combination after position `p` of tile `j` is added. -/
def addPos (j : ℕ) (pos : Fin 320 → BitVec 32) (wt : Fin 744 → F .f32) (Y : Vec F S8x32x128 .f32) (p : ℕ) (hp : p < 320)
    (C : Vec F S56x40x128 .f32) : Vec F S56x40x128 .f32 := fun y =>
  if 8 * j ≤ (y 0).val ∧ (y 0).val < 8 * j + 8 ∧ (y 1).val = p / 8 then
    FloatOps.addf (C y) (FloatOps.mulf (Y (yIdx j (pos ⟨p, hp⟩).toNat y)) (Scalar.mulf (wt ⟨(pos ⟨p, hp⟩).toNat % 744, Nat.mod_lt _ (by decide)⟩) routed))
  else C y

/-- The combination after all positions before `n` of expert `e` are added, the last first. -/
def addAll (j : ℕ) (pos : Fin 320 → BitVec 32) (wt : Fin 744 → F .f32) (Y : Vec F S8x32x128 .f32) (e : ℕ) :
    ℕ → Vec F S56x40x128 .f32 → Vec F S56x40x128 .f32
  | 0, C => C
  | n + 1, C => if h : n < 320 then (if own (pos ⟨n, h⟩) = e then addAll j pos wt Y e n (addPos j pos wt Y n h C) else addAll j pos wt Y e n C)
      else addAll j pos wt Y e n C

theorem last_cases (j : ℕ) (pos : Fin 320 → BitVec 32) (wt : Fin 744 → F .f32) (Y : Vec F S8x32x128 .f32) (e : ℕ) : ∀ n,
    (last pos e n = 4294967295#32 ∧ ∀ C, addAll j pos wt Y e n C = C)
    ∨ ∃ p, ∃ hp : p < 320, p < n ∧ last pos e n = BitVec.ofNat 32 p ∧ own (pos ⟨p, hp⟩) = e
        ∧ ∀ C, addAll j pos wt Y e n C = addAll j pos wt Y e p (addPos j pos wt Y p hp C)
  | 0 => .inl ⟨rfl, fun _ => rfl⟩
  | n + 1 => by
    by_cases h : n < 320
    · by_cases ho : own (pos ⟨n, h⟩) = e
      · refine .inr ⟨n, h, Nat.lt_succ_self n, ?_, ho, fun C => ?_⟩
        · rw [last, dif_pos h, if_pos ho]
        · rw [addAll, dif_pos h, if_pos ho]
      · rcases last_cases j pos wt Y e n with ⟨h1, h2⟩ | ⟨p, hp, h1, h2, h3, h4⟩
        · refine .inl ⟨by rw [last, dif_pos h, if_neg ho, h1], fun C => by rw [addAll, dif_pos h, if_neg ho, h2]⟩
        · refine .inr ⟨p, hp, by omega, by rw [last, dif_pos h, if_neg ho, h2], h3, fun C => by rw [addAll, dif_pos h, if_neg ho, h4]⟩
    · rcases last_cases j pos wt Y e n with ⟨h1, h2⟩ | ⟨p, hp, h1, h2, h3, h4⟩
      · refine .inl ⟨by rw [last, dif_neg h, h1], fun C => by rw [addAll, dif_neg h, h2]⟩
      · refine .inr ⟨p, hp, by omega, by rw [last, dif_neg h, h2], h3, fun C => by rw [addAll, dif_neg h, h4]⟩

theorem own_cases {w : BitVec 32} {e : ℕ} (he : e < 24) (h : own w = e) : 0 ≤ w.toInt ∧ w.toNat / 31 = e := by
  unfold own at h
  split at h
  · exact ⟨‹_›, h⟩
  · omega

/-- The store of one trip is `addPos`. -/
theorem put_eq (i : grid0.Coords) (pos : Fin 320 → BitVec 32) (wt : Fin 744 → F .f32) (Y : Vec F S8x32x128 .f32) (p : ℕ) (hp : p < 320)
    (hn : (pos ⟨p, hp⟩).toNat < 744) (C : Vec F S56x40x128 .f32) (inb inbY) :
    VecWindow.put (s := S56x40x128) C ![8 * (i 1).val, p / 8, 0] S8x1x128.size
      (k0_pay564 (wt ⟨(pos ⟨p, hp⟩).toNat, hn⟩) (VecWindow.window C ![8 * (i 1).val, p / 8, 0] S8x1x128.size inb)
        (VecWindow.window Y ![0, (pos ⟨p, hp⟩).toNat % 31, 0] S8x1x128.size inbY)) = addPos (i 1).val pos wt Y p hp C := by
  funext y
  unfold VecWindow.put addPos
  have hiff : (∀ a, (![8 * (i 1).val, p / 8, 0] : Fin 3 → ℕ) a ≤ (y a).val ∧ (y a).val < (![8 * (i 1).val, p / 8, 0] : Fin 3 → ℕ) a + S8x1x128.size a)
      ↔ (8 * (i 1).val ≤ (y 0).val ∧ (y 0).val < 8 * (i 1).val + 8 ∧ (y 1).val = p / 8) := by
    constructor
    · intro h
      have h0 := h 0; have h1 := h 1
      have e0 : (![8 * (i 1).val, p / 8, 0] : Fin 3 → ℕ) 0 = 8 * (i 1).val := rfl
      have e1 : (![8 * (i 1).val, p / 8, 0] : Fin 3 → ℕ) 1 = p / 8 := rfl
      have s0 : S8x1x128.size 0 = 8 := rfl
      have s1 : S8x1x128.size 1 = 1 := rfl
      rw [e0, s0] at h0; rw [e1, s1] at h1
      omega
    · rintro ⟨h0, h1, h2⟩ a
      have hy2 : (y 2).val < 128 := (y 2).isLt
      fin_cases a
      · exact ⟨h0, h1⟩
      · exact ⟨h2.ge, by show (y 1).val < p / 8 + 1; omega⟩
      · exact ⟨Nat.zero_le _, by show (y 2).val < 0 + 128; omega⟩
  by_cases h : ∀ a, (![8 * (i 1).val, p / 8, 0] : Fin 3 → ℕ) a ≤ (y a).val ∧ (y a).val < (![8 * (i 1).val, p / 8, 0] : Fin 3 → ℕ) a + S8x1x128.size a
  · rw [dif_pos h, if_pos (hiff.mp h)]
    obtain ⟨h0, h1, h2⟩ := hiff.mp h
    unfold k0_pay564
    rw [show ∀ v : FVec F S8x1x128 .f32, shapeCast S8x1x128 v shapeCasts_S8x1x128_S8x1x128 = v from fun v => funext fun z => congrArg v (Shape.reshapeEquiv_self _ z)]
    have ec : ∀ z, z = (Rect.unitLocal (s := S56x40x128) (off := ![8 * (i 1).val, p / 8, 0]) (size := S8x1x128.size) y h) →
        VecWindow.window C ![8 * (i 1).val, p / 8, 0] S8x1x128.size inb z = C y := by
      rintro z rfl
      exact congrArg C (funext fun a => Fin.ext (by
        show (![8 * (i 1).val, p / 8, 0] : Fin 3 → ℕ) a + 1 * ((y a).val - (![8 * (i 1).val, p / 8, 0] : Fin 3 → ℕ) a) = (y a).val
        have := (h a).1; omega))
    have ey : ∀ z, z = (Rect.unitLocal (s := S56x40x128) (off := ![8 * (i 1).val, p / 8, 0]) (size := S8x1x128.size) y h) →
        VecWindow.window Y ![0, (pos ⟨p, hp⟩).toNat % 31, 0] S8x1x128.size inbY z = Y (yIdx (i 1).val (pos ⟨p, hp⟩).toNat y) := by
      rintro z rfl
      refine congrArg Y (funext fun a => Fin.ext ?_)
      fin_cases a
      · show 0 + 1 * ((y 0).val - 8 * (i 1).val) = ((y 0).val - 8 * (i 1).val) % 8; omega
      · show (pos ⟨p, hp⟩).toNat % 31 + 1 * ((y 1).val - p / 8) = (pos ⟨p, hp⟩).toNat % 31; omega
      · show 0 + 1 * ((y 2).val - 0) = (y 2).val; omega
    have er : wt ⟨(pos ⟨p, hp⟩).toNat, hn⟩ = wt ⟨(pos ⟨p, hp⟩).toNat % 744, Nat.mod_lt _ (by decide)⟩ :=
      congrArg wt (Fin.ext (Nat.mod_eq_of_lt hn).symm)
    rw [← ec _ rfl, ← ey _ rfl, ← er]
    rfl
  · rw [dif_neg h, if_neg (fun h' => h (hiff.mpr h'))]

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)
/-- The buffers that the loop reads and writes. -/
def held (q2 q4 q5 : PosShare TreeShare) (f2 : arg2.view.ty.Contents (Elt F)) (f4 : arg4.view.ty.Contents (Elt F)) (f5 : arg5.view.ty.Contents (Elt F))
    (f12 : arg12.view.ty.Contents (Elt F)) (f15 : arg15.view.ty.Contents (Elt F)) (f13 : arg13.view.ty.Contents (Elt F)) : sProp 𝕄 :=
  iprop((arg2.view.loc (c : Thread nD τ) ↦[arg2.view.set]{q2} f2) ∗ (arg4.view.loc (c : Thread nD τ) ↦[arg4.view.set]{q4} f4)
    ∗ (arg5.view.loc (c : Thread nD τ) ↦[arg5.view.set]{q5} f5) ∗ (arg12.view.loc (c : Thread nD τ) ↦[arg12.view.set]{fullShare} f12)
    ∗ (arg15.view.loc (c : Thread nD τ) ↦[arg15.view.set]{fullShare} f15) ∗ (arg13.view.loc (c : Thread nD τ) ↦[arg13.view.set]{fullShare} f13))

/-- Row weights, cell by cell. -/
def weights (f5 : arg5.view.ty.Contents (Elt F)) : Fin 744 → F .f32 := fun k => arg5.view.read (Elt F) f5 (idxR k)

theorem readAt_weight (f5 : arg5.view.ty.Contents (Elt F)) (off : Fin 1 → ℕ) (pf : ∀ a, off a + (![1] : Fin 1 → ℕ) a ≤ S744.size a) (h0 : off 0 < 744) :
    View.readAt (Elt F) arg5.view (Rect.unit (s := S744) off ![1] pf).toLoadRect f5 (Shape.Idx.first (numel_unit_pos off pf))
      = weights arg5 f5 ⟨off 0, h0⟩ := by
  rw [View.readAt_apply]
  unfold weights
  congr 1; funext a; apply Fin.ext
  have : a = 0 := Subsingleton.elim _ _
  subst this
  show off 0 + 1 * 0 = off 0
  omega

abbrev 𝒱₀ : Variants := Variants.nat

/-- Entered at the last position of `e` before `n`, the loop adds all positions of `e` before `n`. -/
def spec (q2 q4 q5 : PosShare TreeShare) (f2 : arg2.view.ty.Contents (Elt F)) (f4 : arg4.view.ty.Contents (Elt F)) (f5 : arg5.view.ty.Contents (Elt F))
    (f12 : arg12.view.ty.Contents (Elt F)) (f15 : arg15.view.ty.Contents (Elt F)) (e n : ℕ) (f13 : arg13.view.ty.Contents (Elt F)) :
    sWPT 𝕄 (BitVec 32) := do
  sWPT.consume (held c arg2 arg4 arg5 arg12 arg13 arg15 q2 q4 q5 f2 f4 f5 f12 f15 f13)
  let r ← sWPT.arbitrary
  let f13' : arg13.view.ty.Contents (Elt F) ← sWPT.arbitrary
  sWPT.assume (arg13.view.read (Elt F) f13' = addAll (i 1).val (cells arg4 f4) (weights arg5 f5) (arg12.view.read (Elt F) f12) e n (arg13.view.read (Elt F) f13))
  sWPT.produce (held c arg2 arg4 arg5 arg12 arg13 arg15 q2 q4 q5 f2 f4 f5 f12 f15 f13')
  pure r

theorem spec_apply (q2 q4 q5 : PosShare TreeShare) (f2 : arg2.view.ty.Contents (Elt F)) (f4 : arg4.view.ty.Contents (Elt F)) (f5 : arg5.view.ty.Contents (Elt F))
    (f12 : arg12.view.ty.Contents (Elt F)) (f15 : arg15.view.ty.Contents (Elt F)) (e n : ℕ) (f13 : arg13.view.ty.Contents (Elt F))
    (K : BitVec 32 → sProp 𝕄) :
    spec c i arg2 arg4 arg5 arg12 arg13 arg15 q2 q4 q5 f2 f4 f5 f12 f15 e n f13 K
      = iprop(held c arg2 arg4 arg5 arg12 arg13 arg15 q2 q4 q5 f2 f4 f5 f12 f15 f13
        ∗ ∀ r : BitVec 32, ∀ f13' : arg13.view.ty.Contents (Elt F),
          ⌜arg13.view.read (Elt F) f13' = addAll (i 1).val (cells arg4 f4) (weights arg5 f5) (arg12.view.read (Elt F) f12) e n (arg13.view.read (Elt F) f13)⌝
          -∗ (held c arg2 arg4 arg5 arg12 arg13 arg15 q2 q4 q5 f2 f4 f5 f12 f15 f13' -∗ K r)) := rfl

set_option maxHeartbeats 2000000 in
theorem spec_le (E : Set ℕ) (v5 v12 : BitVec 32) (hw2 : k0_chk2 v12)
    (q2 q4 q5 : PosShare TreeShare) (f2 : arg2.view.ty.Contents (Elt F)) (f4 : arg4.view.ty.Contents (Elt F)) (f5 : arg5.view.ty.Contents (Elt F))
    (f12 : arg12.view.ty.Contents (Elt F)) (f15 : arg15.view.ty.Contents (Elt F))
    (hpos : ∀ p, (cells arg4 f4 p).toInt < 744) (e : ℕ) (he : e < 24)
    (hord : (cells arg2 f2 ⟨(i 0).val, (i 0).isLt⟩).toNat = e)
    (hnext : ∀ q : Fin 320, cells arg15 f15 q = last (cells arg4 f4) (own (cells arg4 f4 q)) q.val) :
    ∀ n, ∀ (f13 : arg13.view.ty.Contents (Elt F)) (K : BitVec 32 → sProp 𝕄),
      spec c i arg2 arg4 arg5 arg12 arg13 arg15 q2 q4 q5 f2 f4 f5 f12 f15 e n f13 K
      ⊢ wp frame (wpE (defs₀ (F := F)) 𝒱₀ (c : Thread nD τ) (some n)) E
          (defs₀ (F := F) .tc 1 ⟨i, v5, v12, hw2, arg4, harg4, arg5, harg5, arg2, harg2, arg13, harg13, arg12, harg12, arg15, harg15, last (cells arg4 f4) e n⟩) K := by
  intro n
  induction n using Nat.strong_induction_on with
  | _ n ih =>
  intro f13 K
  rw [spec_apply]
  show _ ⊢ wp frame (wpE (defs₀ (F := F)) 𝒱₀ (c : Thread nD τ) (some n)) E
    (cc0_while1 i v5 v12 hw2 arg4 harg4 arg5 harg5 arg2 harg2 arg13 harg13 arg12 harg12 arg15 harg15 (last (cells arg4 f4) e n)) K
  simp only [cc0_while1_eq_skeleton]; unfold cc0_while1_skel
  rcases last_cases (i 1).val (cells arg4 f4) (weights arg5 f5) (arg12.view.read (Elt F) f12) e n with ⟨h1, h2⟩ | ⟨p, hp, hpn, h1, ho, h2⟩
  · rw [h1]
    have htest : ¬Scalar.cmpi .sge (4294967295#32) 0#32 = 1#1 := by decide
    simp only [htest, ↓reduceIte, Prog.pure_eq_ret]
    iintro ⟨H, Hk⟩
    rw [wp_ret]; imodintro
    iapply Hk
    · ipureintro; exact (h2 _).symm
    · iexact H
  · rw [h1]
    obtain ⟨hge, hdiv⟩ := own_cases he ho
    have hn744 := nonneg_lt hge (hpos ⟨p, hp⟩)
    have htest : Scalar.cmpi .sge (BitVec.ofNat 32 p) 0#32 = 1#1 := by
      have hs : BitVec.sle 0#32 (BitVec.ofNat 32 p) = true := by
        simp [BitVec.sle, BitVec.toInt_eq_toNat_cond]; omega
      simp [Scalar.cmpi, IntOp.cmpi, hs]
    have hc3 : k0_chk3 i (BitVec.ofNat 32 p) := chk3_of i hp
    have h8 : k0_off8 (BitVec.ofNat 32 p) 0 = p := by rw [off8_eq hp]; rfl
    have hr4 : View.readAt (Elt F) arg4.view (Rect.unit (s := S320) (k0_off8 (BitVec.ofNat 32 p)) S1.size (k0_off8_inb i (BitVec.ofNat 32 p) hc3)).toLoadRect f4
        (Shape.Idx.first (numel1_S1.symm ▸ Nat.one_pos)) = cells arg4 f4 ⟨p, hp⟩ := by
      refine (readAt_cell arg4 f4 _ (k0_off8_inb i _ hc3) (lt_of_eq_of_lt h8 hp)).trans ?_
      exact congrArg _ (Fin.ext h8)
    have hr2 : View.readAt (Elt F) arg2.view (Rect.unit (s := S24) (k0_off10 i) S1.size (k0_off10_inb i)).toLoadRect f2
        (Shape.Idx.first (numel1_S1.symm ▸ Nat.one_pos)) = cells arg2 f2 ⟨(i 0).val, (i 0).isLt⟩ := by
      have h10 : k0_off10 i 0 = (i 0).val := by
        show (BitVec.ofNat 32 (i 0).val).toNat = _
        have : (i 0).val < 24 := (i 0).isLt
        rw [BitVec.toNat_ofNat]; omega
      refine (readAt_cell arg2 f2 _ (k0_off10_inb i) (lt_of_eq_of_lt h10 (i 0).isLt)).trans ?_
      exact congrArg _ (Fin.ext h10)
    have hc4 : k0_chk4 (View.readAt (Elt F) arg4.view (Rect.unit (s := S320) (k0_off8 (BitVec.ofNat 32 p)) S1.size (k0_off8_inb i (BitVec.ofNat 32 p) hc3)).toLoadRect f4
        (Shape.Idx.first (numel1_S1.symm ▸ Nat.one_pos))) := by rw [hr4]; exact chk4_of hge (hpos _)
    have hc5 : k0_chk5 (View.readAt (Elt F) arg4.view (Rect.unit (s := S320) (k0_off8 (BitVec.ofNat 32 p)) S1.size (k0_off8_inb i (BitVec.ofNat 32 p) hc3)).toLoadRect f4
        (Shape.Idx.first (numel1_S1.symm ▸ Nat.one_pos))) (View.readAt (Elt F) arg2.view (Rect.unit (s := S24) (k0_off10 i) S1.size (k0_off10_inb i)).toLoadRect f2
        (Shape.Idx.first (numel1_S1.symm ▸ Nat.one_pos))) := by rw [hr4, hr2]; exact chk5_of hge (hpos _) (hord.trans hdiv.symm)
    rw [if_pos htest]
    simp only [k0_part100_eq_skeleton]; unfold k0_part100_skel
    unfold held
    iintro ⟨⟨H2, H4, H5, H12, H15, H13⟩, Hk⟩
    sl_exec (disch := first | sl_exact hc3 | sl_exact hc4 | sl_exact hc5)
    have hr5 : spec_le.sl.r_1 i arg4 arg5 f4 f5 p hc3 hc4 = weights arg5 f5 ⟨(cells arg4 f4 ⟨p, hp⟩).toNat, hn744⟩ := by
      have h9 : k0_off9 (spec_le.sl.r i arg4 f4 p hc3) 0 = (cells arg4 f4 ⟨p, hp⟩).toNat := congrArg BitVec.toNat hr4
      refine (readAt_weight arg5 f5 _ (k0_off9_inb _ hc4) (lt_of_eq_of_lt h9 hn744)).trans ?_
      exact congrArg _ (Fin.ext h9)
    have hr15 : spec_le.sl.r_3 i arg15 f15 p hc3 = last (cells arg4 f4) e p := by
      refine (readAt_cell arg15 f15 _ (k0_off14_inb i _ hc3) (lt_of_eq_of_lt h8 hp)).trans ?_
      refine (congrArg _ (Fin.ext h8 : _ = (⟨p, hp⟩ : Fin 320))).trans ((hnext _).trans ?_)
      rw [ho]
    have h13 : arg13.view.read (Elt F) (arg13.view.writes (Elt F) f13
        [⟨Rect.unit (s := S56x40x128) (k0_off13 i (BitVec.ofNat 32 p)) S8x1x128.size (k0_off13_inb i (BitVec.ofNat 32 p) hc3),
          k0_pay564 (spec_le.sl.r_1 i arg4 arg5 f4 f5 p hc3 hc4)
            (View.readAt (Elt F) arg13.view (Rect.unit (s := S56x40x128) (k0_off11 i (BitVec.ofNat 32 p)) S8x1x128.size (k0_off11_inb i (BitVec.ofNat 32 p) hc3)).toLoadRect f13)
            (View.readAt (Elt F) arg12.view (Rect.unit (s := S8x32x128) (k0_off12 (spec_le.sl.r i arg4 f4 p hc3) (spec_le.sl.r_2 i arg2 f2)) S8x1x128.size
              (k0_off12_inb _ _ hc5)).toLoadRect f12)⟩])
        = addPos (i 1).val (cells arg4 f4) (weights arg5 f5) (arg12.view.read (Elt F) f12) p hp (arg13.view.read (Elt F) f13) := by
      have e12 : k0_off12 (spec_le.sl.r i arg4 f4 p hc3) (spec_le.sl.r_2 i arg2 f2) = ![0, (cells arg4 f4 ⟨p, hp⟩).toNat % 31, 0] :=
        (congrArg₂ k0_off12 hr4 hr2).trans (off12_eq hge (hpos _) (hord.trans hdiv.symm))
      have i11 : ∀ a, (![8 * (i 1).val, p / 8, 0] : Fin 3 → ℕ) a + S8x1x128.size a ≤ S56x40x128.size a := off11_eq i hp ▸ k0_off11_inb i _ hc3
      have i12 : ∀ a, (![0, (cells arg4 f4 ⟨p, hp⟩).toNat % 31, 0] : Fin 3 → ℕ) a + S8x1x128.size a ≤ S8x32x128.size a := e12 ▸ k0_off12_inb _ _ hc5
      refine (View.read_writes_cons_put arg13.view f13 _ _ [] ((off13_eq i _).trans (off11_eq i hp))).trans ?_
      rw [View.readAt_unit arg13.view f13 _ (off11_eq i hp) i11, View.readAt_unit arg12.view f12 _ e12 i12, hr5, View.writes_nil]
      exact put_eq i _ _ _ p hp hn744 _ i11 i12
    rw [hr15]
    iapply (wp_call_spec 𝒱₀ (c : Thread nD τ) (some n) E (spec c i arg2 arg4 arg5 arg12 arg13 arg15 q2 q4 q5 f2 f4 f5 f12 f15 e p _) p
      (fun u hu => by cases hu; exact hpn) (ih p hpn _))
    rw [spec_apply]; unfold held
    isplitl [H2 H4 H5 H12 H15 H13]
    · isplitl [H2]; · iexact H2
      isplitl [H4]; · iexact H4
      isplitl [H5]; · iexact H5
      isplitl [H12]; · iexact H12
      isplitl [H15]; · iexact H15
      iexact H13
    iintro %r %f13' %hr H
    rw [wp_ret]; imodintro
    iapply Hk
    · ipureintro; rw [h2, ← h13]; exact hr
    · iexact H

end Cert.DownIdeal.Body

end
-- ==== Proof.DownQuant.lean ====
/- THE QUANTISER OF THE DOWN PROJECTION: at the last grid point the combined rows are quantised, block by block, and the codes
   and scales are stored into the two output windows. -/
module
public import proofs.«01_k».proof.Proof.DownWhile
@[expose] public section
set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)

/-- The last point's quantisation, as the body has it. -/
def quantSeg : Prog (TpuEff nD τ sig (Elt F) (Λ₀ F) .tc) PUnit := do
  if k0_h3 : k0_cond3 i = 1#1 then do
    let ⟨v2378, cst_1023, v2387⟩ : Σ' (v2378 : IVec S40x1 32) (cst_1023 : F .f32), FVec F S40x128 .f32 ← k0_part99 i arg2 harg2 arg3 harg3 arg4 harg4 arg5 harg5 arg6 harg6 arg7 harg7 arg8 harg8 arg9 harg9 arg10 harg10 arg11 harg11 arg12 harg12 arg13 harg13 arg14 harg14 arg15 harg15
    let ⟨v2399, v2422, v2426⟩ : Σ' (v2399 : FVec F S40x128 .f32) (v2422 : IVec S40x1 32), IVec S40x1 32 ← k0_part97 i arg2 harg2 arg3 harg3 arg4 harg4 arg5 harg5 arg6 harg6 arg7 harg7 arg8 harg8 arg9 harg9 arg10 harg10 arg11 harg11 arg12 harg12 arg13 harg13 arg14 harg14 arg15 harg15 v2378 cst_1023 v2387
    let ⟨v2443, v2462, v2464, v2465⟩ : Σ' (v2443 : FVec F S40x128 .f32) (v2462 : IVec S40x1 32) (v2464 : IVec S40x1 1), IVec S40x1 32 ← k0_part98 i arg2 harg2 arg3 harg3 arg4 harg4 arg5 harg5 arg6 harg6 arg7 harg7 arg8 harg8 arg9 harg9 arg10 harg10 arg11 harg11 arg12 harg12 arg13 harg13 arg14 harg14 arg15 harg15 v2399 v2422 v2426
    let v2479 : Vec F S40x128 .fp8e4m3 ← Prog.lift (.load arg9 (Rect.unit (s := S40x7168) ![0, 7040] S40x128.size inb_S40x7168_S40x128_0_7040).toLoadRect (View.loadsAt_vmem h_S40x128))
    Prog.lift (.store arg9 (Rect.unit (s := S40x7168) ![0, 7040] S40x128.size inb_S40x7168_S40x128_0_7040) (k0_pay6 v2443 v2462 v2464 v2465) Finset.univ (View.stores_vmem h_S40x128 (harg9.storeExact_slice rfl _ packedfp8e4m3_S40x7168_S40x128_0_7040) (fun _ => rfl)) (.inl rfl))
    let v2485 : Vec F S40x1 .f32 ← Prog.lift (.load arg10 (Rect.unit (s := S40x56) ![0, 55] S40x1.size inb_S40x56_S40x1_0_55).toLoadRect (View.loadsAt_vmem h_S40x1))
    Prog.lift (.store arg10 (Rect.unit (s := S40x56) ![0, 55] S40x1.size inb_S40x56_S40x1_0_55) (k0_pay7 (F := F) v2462 v2464 v2465) Finset.univ (View.stores_vmem_bits_univ h_S40x1 rfl) (.inl rfl))
    pure ⟨⟩
  else do
    pure ⟨⟩
  pure ⟨⟩

theorem run_rest (E : Set ℕ) (h3 : ¬ k0_cond3 i = 1#1) (K : PUnit → sProp 𝕄) :
    (K ⟨⟩ : sProp 𝕄) ⊢ wp frame (wpE (defs₀ (F := F)) 𝒱₀ (c : Thread nD τ) none) E (quantSeg i arg2 harg2 arg3 harg3 arg4 harg4 arg5 harg5 arg6 harg6 arg7 harg7 arg8 harg8 arg9 harg9 arg10 harg10 arg11 harg11 arg12 harg12 arg13 harg13 arg14 harg14 arg15 harg15) K := by
  unfold quantSeg
  rw [dif_neg h3]
  iintro H
  sl_exec
  sl_step
  iexact H

set_option maxRecDepth 65536 in
set_option maxHeartbeats 16000000 in
/-- The last point writes codes and scales of every block over its two outputs. -/
def run_quant (h3 : k0_cond3 i = 1#1) (f13 : arg13.view.ty.Contents (Elt F)) :
    { L : List (View.Piece (Elt F) S40x7168 .fp8e4m3) × List (View.Piece (Elt F) S40x56 .f32) //
      ∀ (f9 : arg9.view.ty.Contents (Elt F)) (f10 : arg10.view.ty.Contents (Elt F)) (E : Set ℕ) (K : PUnit → sProp 𝕄),
    (iprop((arg13.view.loc (c : Thread nD τ) ↦[arg13.view.set]{fullShare} f13) ∗ (arg9.view.loc (c : Thread nD τ) ↦[arg9.view.set]{fullShare} f9) ∗ (arg10.view.loc (c : Thread nD τ) ↦[arg10.view.set]{fullShare} f10)
      ∗ (((arg13.view.loc (c : Thread nD τ) ↦[arg13.view.set]{fullShare} f13) ∗ (arg9.view.loc (c : Thread nD τ) ↦[arg9.view.set]{fullShare} (arg9.view.writes (Elt F) f9 L.1)) ∗ (arg10.view.loc (c : Thread nD τ) ↦[arg10.view.set]{fullShare} (arg10.view.writes (Elt F) f10 L.2)))
          -∗ K ⟨⟩)) : sProp 𝕄)
    ⊢ wp frame (wpE (defs₀ (F := F)) 𝒱₀ (c : Thread nD τ) none) E (quantSeg i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?L9, ?L10), fun f9 f10 E K => ?run⟩
  case run =>
    unfold quantSeg
    dsimp only
    iintro ⟨H13, H9, H10, Hk⟩
    sl_exec (disch := first | sl_exact h3)
    sl_step
    iapply Hk
    isplitl [H13]; · iexact H13
    isplitl [H9]; · iexact H9
    iexact H10

end Cert.DownIdeal.Body

end
-- ==== Proof.DownTail.lean ====
/- THE TAIL OF THE BODY of the down projection: all blocks of the combined rows, quantised and stored one after another. -/
module
public import proofs.«01_k».proof.Proof.DownQuant
@[expose] public section
set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)

set_option maxRecDepth 65536 in
set_option maxHeartbeats 4000000 in
/-- The body after its first part. -/
def tail : { T : Prog (TpuEff nD τ sig (Elt F) (Λ₀ F) .tc) PUnit //
    cc0_down_combine (F := F) i arg2 harg2 arg3 harg3 arg4 harg4 arg5 harg5 arg6 harg6 arg7 harg7 arg8 harg8 arg9 harg9 arg10 harg10 arg11 harg11 arg12 harg12 arg13 harg13 arg14 harg14 arg15 harg15 = if h1 : k0_cond1 i = 1#1 then initSeg i arg2 harg2 arg3 harg3 arg4 harg4 arg5 harg5 arg6 harg6 arg7 harg7 arg8 harg8 arg9 harg9 arg10 harg10 arg11 harg11 arg12 harg12 arg13 harg13 arg14 harg14 arg15 harg15 h1 T else T } := by
  refine ⟨?_, ?_⟩
  rotate_left
  · simp only [cc0_down_combine_eq_skeleton]; unfold cc0_down_combine_skel
    exact rfl

/-- How many positions the loop looks at: all if the point has an expert, none otherwise. -/
def looked (v9 : BitVec 32) : ℕ := if Scalar.cmpi .slt (BitVec.ofNat 32 (i 0).val) v9 = 1#1 then 320 else 0

/-- Whether the point has an expert. -/
abbrev active (v : BitVec 32) : Prop := Scalar.cmpi .ne (Scalar.extui (Scalar.cmpi .slt (BitVec.ofNat 32 (i 0).val) v)) 0#32 = 1#1

theorem looked_active (v : BitVec 32) (h : active i v) : looked i v = 320 := by
  unfold looked; unfold active at h
  rcases BitVec.eq_zero_or_eq_one (Scalar.cmpi .slt (BitVec.ofNat 32 (i 0).val) v) with h1 | h1
  · rw [h1] at h; exact absurd h (by decide)
  · rw [if_pos h1]

theorem looked_idle (v : BitVec 32) (h : ¬ active i v) : looked i v = 0 := by
  unfold looked; unfold active at h
  rcases BitVec.eq_zero_or_eq_one (Scalar.cmpi .slt (BitVec.ofNat 32 (i 0).val) v) with h1 | h1
  · rw [if_neg (by rw [h1]; decide)]
  · rw [h1] at h; exact absurd (by decide) h

theorem head_read (f2 : arg2.view.ty.Contents (Elt F)) (f4 : arg4.view.ty.Contents (Elt F)) (f14 : arg14.view.ty.Contents (Elt F)) (f15 : arg15.view.ty.Contents (Elt F)) (v12 : BitVec 32)
    (he : (cells arg2 f2 ⟨(i 0).val, (i 0).isLt⟩).toNat < 24) (h2 : v12 = cells arg2 f2 ⟨(i 0).val, (i 0).isLt⟩)
    (hl : Linked (cells arg4 f4) 320 (cells arg14 f14) (cells arg15 f15)) (pf) :
    View.readAt (Elt F) arg14.view (Rect.unit (s := S25) (k0_off7 v12) S1.size pf).toLoadRect f14
      (Shape.Idx.first (numel1_S1.symm ▸ Nat.one_pos)) = last (cells arg4 f4) (cells arg2 f2 ⟨(i 0).val, (i 0).isLt⟩).toNat 320 := by
  subst h2
  refine (readAt_cell arg14 f14 _ pf (show (cells arg2 f2 ⟨(i 0).val, (i 0).isLt⟩).toNat < 25 by omega)).trans ?_
  exact hl.1 ⟨(cells arg2 f2 ⟨(i 0).val, (i 0).isLt⟩).toNat, by omega⟩

theorem select_looked (v9 : BitVec 32) (pos : Fin 320 → BitVec 32) (e : ℕ) :
    Scalar.select (Scalar.cmpi .slt (BitVec.ofNat 32 (i 0).val) v9) (last pos e 320) 4294967295#32 = last pos e (looked i v9) := by
  unfold looked Scalar.select
  by_cases h : Scalar.cmpi .slt (BitVec.ofNat 32 (i 0).val) v9 = 1#1
  · rw [if_pos h]; exact if_pos h
  · rw [if_neg h]; exact if_neg h

set_option maxRecDepth 65536 in
set_option maxHeartbeats 8000000 in
/-- A point without an expert leaves everything and goes to its end. -/
theorem run_idle (E : Set ℕ) (q2 q3 q4 q5 : PosShare TreeShare) (f2 : arg2.view.ty.Contents (Elt F)) (f3 : arg3.view.ty.Contents (Elt F)) (f4 : arg4.view.ty.Contents (Elt F)) (f5 : arg5.view.ty.Contents (Elt F)) (f12 : arg12.view.ty.Contents (Elt F)) (f13 : arg13.view.ty.Contents (Elt F)) (f14 : arg14.view.ty.Contents (Elt F)) (f15 : arg15.view.ty.Contents (Elt F))
    (hpos : ∀ p, (cells arg4 f4 p).toInt < 744) (he : (cells arg2 f2 ⟨(i 0).val, (i 0).isLt⟩).toNat < 24)
    (hl : Linked (cells arg4 f4) 320 (cells arg14 f14) (cells arg15 f15))
    (ha : ¬ active i (cells arg3 f3 0)) (K : PUnit → sProp 𝕄) :
    (iprop(((arg3.view.loc (c : Thread nD τ) ↦[arg3.view.set]{q3} f3)) ∗ held c arg2 arg4 arg5 arg12 arg13 arg15 q2 q4 q5 f2 f4 f5 f12 f15 f13 ∗ (arg14.view.loc (c : Thread nD τ) ↦[arg14.view.set]{fullShare} f14)
      ∗ (∀ f13' : arg13.view.ty.Contents (Elt F),
          (((arg3.view.loc (c : Thread nD τ) ↦[arg3.view.set]{q3} f3)) ∗ held c arg2 arg4 arg5 arg12 arg13 arg15 q2 q4 q5 f2 f4 f5 f12 f15 f13' ∗ (arg14.view.loc (c : Thread nD τ) ↦[arg14.view.set]{fullShare} f14) ∗ ⌜arg13.view.read (Elt F) f13' = arg13.view.read (Elt F) f13⌝)
          -∗ wp frame (wpE (defs₀ (F := F)) 𝒱₀ (c : Thread nD τ) none) E (quantSeg i arg2 harg2 arg3 harg3 arg4 harg4 arg5 harg5 arg6 harg6 arg7 harg7 arg8 harg8 arg9 harg9 arg10 harg10 arg11 harg11 arg12 harg12 arg13 harg13 arg14 harg14 arg15 harg15) K)) : sProp 𝕄)
    ⊢ wp frame (wpE (defs₀ (F := F)) 𝒱₀ (c : Thread nD τ) none) E (tail (F := F) i arg2 harg2 arg3 harg3 arg4 harg4 arg5 harg5 arg6 harg6 arg7 harg7 arg8 harg8 arg9 harg9 arg10 harg10 arg11 harg11 arg12 harg12 arg13 harg13 arg14 harg14 arg15 harg15).1 K := by
  have h3 : View.readAt (Elt F) arg3.view (Rect.unit (s := S1) ![0] S1.size inb_S1_S1_0).toLoadRect f3
      (Shape.Idx.first (numel1_S1.symm ▸ Nat.one_pos)) = cells arg3 f3 0 :=
    readAt_cell arg3 f3 _ inb_S1_S1_0 (by decide)
  have h2 : View.readAt (Elt F) arg2.view (Rect.unit (s := S24) (k0_off6 i) S1.size (k0_off6_inb i)).toLoadRect f2
      (Shape.Idx.first (numel1_S1.symm ▸ Nat.one_pos)) = cells arg2 f2 ⟨(i 0).val, (i 0).isLt⟩ := by
    have h10 : k0_off6 i 0 = (i 0).val := by
      show (BitVec.ofNat 32 (i 0).val).toNat = _
      have : (i 0).val < 24 := (i 0).isLt
      rw [BitVec.toNat_ofNat]; omega
    refine (readAt_cell arg2 f2 _ (k0_off6_inb i) (lt_of_eq_of_lt h10 (i 0).isLt)).trans ?_
    exact congrArg _ (Fin.ext h10)
  have hc : ¬ Scalar.cmpi .ne (Scalar.extui (Scalar.cmpi .slt (BitVec.ofNat 32 (i 0).val) (View.readAt (Elt F) arg3.view (Rect.unit (s := S1) ![0] S1.size inb_S1_S1_0).toLoadRect f3
      (Shape.Idx.first (numel1_S1.symm ▸ Nat.one_pos))))) 0#32 = 1#1 := by rw [h3]; exact ha
  have hc2 : k0_chk2 (View.readAt (Elt F) arg2.view (Rect.unit (s := S24) (k0_off6 i) S1.size (k0_off6_inb i)).toLoadRect f2
      (Shape.Idx.first (numel1_S1.symm ▸ Nat.one_pos))) := by rw [h2]; exact chk2_of he
  have hlook : looked i (cells arg3 f3 0) = 0 := looked_idle i _ ha
  have hs : Scalar.select (Scalar.cmpi .slt (BitVec.ofNat 32 (i 0).val) (View.readAt (Elt F) arg3.view (Rect.unit (s := S1) ![0] S1.size inb_S1_S1_0).toLoadRect f3
      (Shape.Idx.first (numel1_S1.symm ▸ Nat.one_pos)))) (View.readAt (Elt F) arg14.view (Rect.unit (s := S25) (k0_off7 _) S1.size (k0_off7_inb _ hc2)).toLoadRect f14
      (Shape.Idx.first (numel1_S1.symm ▸ Nat.one_pos))) 4294967295#32
      = last (cells arg4 f4) (cells arg2 f2 ⟨(i 0).val, (i 0).isLt⟩).toNat 0 := by
    rw [h3, head_read i arg2 arg4 arg14 arg15 f2 f4 f14 f15 _ he h2 hl, select_looked, hlook]
  unfold tail held
  dsimp only
  iintro ⟨H3, ⟨H2, H4, H5, H12, H15, H13⟩, H14, Hk⟩
  sl_exec (disch := first | sl_exact hc | sl_exact hc2)
  rw [show Scalar.select (Scalar.cmpi .slt (BitVec.ofNat 32 (i 0).val) (run_idle.sl.r arg3 f3)) (run_idle.sl.r_2 i arg2 arg14 f2 f14 hc2) 4294967295#32 = _ from hs]
  iapply (wp_call_spec 𝒱₀ (c : Thread nD τ) none E (spec c i arg2 arg4 arg5 arg12 arg13 arg15 q2 q4 q5 f2 f4 f5 _ f15 (cells arg2 f2 ⟨(i 0).val, (i 0).isLt⟩).toNat 0 f13)
    0 (fun u hu => nomatch hu)
    (spec_le c i arg2 harg2 arg4 harg4 arg5 harg5 arg12 harg12 arg13 harg13 arg15 harg15 E _ _ hc2 q2 q4 q5 f2 f4 f5 _ f15 hpos _ he
      rfl (fun q => hl.2 q q.isLt) 0 f13))
  rw [spec_apply]; unfold held
  isplitl [H2 H4 H5 H12 H15 H13]
  · isplitl [H2]; · iexact H2
    isplitl [H4]; · iexact H4
    isplitl [H5]; · iexact H5
    isplitl [H12]; · iexact H12
    isplitl [H15]; · iexact H15
    iexact H13
  iintro %r %f13' %hr ⟨H2, H4, H5, H12, H15, H13⟩
  iapply Hk $$ %f13'
  isplitl [H3]
  · iexact H3
  isplitl [H2 H4 H5 H12 H15 H13]
  · isplitl [H2]; · iexact H2
    isplitl [H4]; · iexact H4
    isplitl [H5]; · iexact H5
    isplitl [H12]; · iexact H12
    isplitl [H15]; · iexact H15
    iexact H13
  isplitl [H14]; · iexact H14
  ipureintro
  exact hr

set_option maxRecDepth 65536 in
set_option maxHeartbeats 16000000 in
/-- A point with an expert writes its projection over the projection's buffer, then adds the expert's rows. -/
def run_active (q2 q3 q4 q5 : PosShare TreeShare) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F))
    (hpos : ∀ p, (cells arg4 f4 p).toInt < 744) (he : (cells arg2 f2 ⟨(i 0).val, (i 0).isLt⟩).toNat < 24)
    (hl : Linked (cells arg4 f4) 320 (cells arg14 f14) (cells arg15 f15))
    (ha : active i (cells arg3 f3 0)) :
    { L : List (View.Piece (Elt F) S8x32x128 .f32) // ∀ (E : Set ℕ) (K : PUnit → sProp 𝕄),
    (iprop(((arg3.view.loc (c : Thread nD τ) ↦[arg3.view.set]{q3} f3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} f11)) ∗ held c arg2 arg4 arg5 arg12 arg13 arg15 q2 q4 q5 f2 f4 f5 f12 f15 f13 ∗ (arg14.view.loc (c : Thread nD τ) ↦[arg14.view.set]{fullShare} f14)
      ∗ (∀ f13' : arg13.view.ty.Contents (Elt F),
          (((arg3.view.loc (c : Thread nD τ) ↦[arg3.view.set]{q3} f3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f11, (arg11.view.loc (c : Thread nD τ) ↦[arg11.view.set]{fullShare} f11))) ∗ held c arg2 arg4 arg5 arg12 arg13 arg15 q2 q4 q5 f2 f4 f5 (arg12.view.writes (Elt F) f12 L) f15 f13' ∗ (arg14.view.loc (c : Thread nD τ) ↦[arg14.view.set]{fullShare} f14) ∗ ⌜arg13.view.read (Elt F) f13' = addAll (i 1).val (cells arg4 f4) (weights arg5 f5) (arg12.view.read (Elt F) (arg12.view.writes (Elt F) f12 L)) (cells arg2 f2 ⟨(i 0).val, (i 0).isLt⟩).toNat 320 (arg13.view.read (Elt F) f13)⌝)
          -∗ wp frame (wpE (defs₀ (F := F)) 𝒱₀ (c : Thread nD τ) none) E (quantSeg i arg2 harg2 arg3 harg3 arg4 harg4 arg5 harg5 arg6 harg6 arg7 harg7 arg8 harg8 arg9 harg9 arg10 harg10 arg11 harg11 arg12 harg12 arg13 harg13 arg14 harg14 arg15 harg15) K)) : sProp 𝕄)
    ⊢ wp frame (wpE (defs₀ (F := F)) 𝒱₀ (c : Thread nD τ) none) E (tail (F := F) i arg2 harg2 arg3 harg3 arg4 harg4 arg5 harg5 arg6 harg6 arg7 harg7 arg8 harg8 arg9 harg9 arg10 harg10 arg11 harg11 arg12 harg12 arg13 harg13 arg14 harg14 arg15 harg15).1 K } := by
  have h3 : View.readAt (Elt F) arg3.view (Rect.unit (s := S1) ![0] S1.size inb_S1_S1_0).toLoadRect f3
      (Shape.Idx.first (numel1_S1.symm ▸ Nat.one_pos)) = cells arg3 f3 0 :=
    readAt_cell arg3 f3 _ inb_S1_S1_0 (by decide)
  have h2 : View.readAt (Elt F) arg2.view (Rect.unit (s := S24) (k0_off6 i) S1.size (k0_off6_inb i)).toLoadRect f2
      (Shape.Idx.first (numel1_S1.symm ▸ Nat.one_pos)) = cells arg2 f2 ⟨(i 0).val, (i 0).isLt⟩ := by
    have h10 : k0_off6 i 0 = (i 0).val := by
      show (BitVec.ofNat 32 (i 0).val).toNat = _
      have : (i 0).val < 24 := (i 0).isLt
      rw [BitVec.toNat_ofNat]; omega
    refine (readAt_cell arg2 f2 _ (k0_off6_inb i) (lt_of_eq_of_lt h10 (i 0).isLt)).trans ?_
    exact congrArg _ (Fin.ext h10)
  have hc : Scalar.cmpi .ne (Scalar.extui (Scalar.cmpi .slt (BitVec.ofNat 32 (i 0).val) (View.readAt (Elt F) arg3.view (Rect.unit (s := S1) ![0] S1.size inb_S1_S1_0).toLoadRect f3
      (Shape.Idx.first (numel1_S1.symm ▸ Nat.one_pos))))) 0#32 = 1#1 := by rw [h3]; exact ha
  have hc2 : k0_chk2 (View.readAt (Elt F) arg2.view (Rect.unit (s := S24) (k0_off6 i) S1.size (k0_off6_inb i)).toLoadRect f2
      (Shape.Idx.first (numel1_S1.symm ▸ Nat.one_pos))) := by rw [h2]; exact chk2_of he
  have hlook : looked i (cells arg3 f3 0) = 320 := looked_active i _ ha
  have hs : Scalar.select (Scalar.cmpi .slt (BitVec.ofNat 32 (i 0).val) (View.readAt (Elt F) arg3.view (Rect.unit (s := S1) ![0] S1.size inb_S1_S1_0).toLoadRect f3
      (Shape.Idx.first (numel1_S1.symm ▸ Nat.one_pos)))) (View.readAt (Elt F) arg14.view (Rect.unit (s := S25) (k0_off7 _) S1.size (k0_off7_inb _ hc2)).toLoadRect f14
      (Shape.Idx.first (numel1_S1.symm ▸ Nat.one_pos))) 4294967295#32
      = last (cells arg4 f4) (cells arg2 f2 ⟨(i 0).val, (i 0).isLt⟩).toNat 320 := by
    rw [h3, head_read i arg2 arg4 arg14 arg15 f2 f4 f14 f15 _ he h2 hl, select_looked, hlook]
  refine ⟨?_, fun E K => ?run⟩
  rotate_left
  unfold tail held
  dsimp only
  iintro ⟨⟨H3, H6, H7, H8, H11⟩, ⟨H2, H4, H5, H12, H15, H13⟩, H14, Hk⟩
  sl_exec (disch := first | sl_exact hc | sl_exact hc2)
  rw [show Scalar.select (Scalar.cmpi .slt (BitVec.ofNat 32 (i 0).val) (run_active.sl.r arg3 f3)) (run_active.sl.r_248 i arg2 arg14 f2 f14 hc2) 4294967295#32 = _ from hs]
  iapply (wp_call_spec 𝒱₀ (c : Thread nD τ) none E (spec c i arg2 arg4 arg5 arg12 arg13 arg15 q2 q4 q5 f2 f4 f5 _ f15 (cells arg2 f2 ⟨(i 0).val, (i 0).isLt⟩).toNat 320 f13)
    320 (fun u hu => nomatch hu)
    (spec_le c i arg2 harg2 arg4 harg4 arg5 harg5 arg12 harg12 arg13 harg13 arg15 harg15 E _ _ hc2 q2 q4 q5 f2 f4 f5 _ f15 hpos _ he
      rfl (fun q => hl.2 q q.isLt) 320 f13))
  rw [spec_apply]; unfold held
  isplitl [H2 H4 H5 H12 H15 H13]
  · isplitl [H2]; · iexact H2
    isplitl [H4]; · iexact H4
    isplitl [H5]; · iexact H5
    isplitl [H12]; · iexact H12
    isplitl [H15]; · iexact H15
    iexact H13
  iintro %r %f13' %hr ⟨H2, H4, H5, H12, H15, H13⟩
  iapply Hk $$ %f13'
  isplitl [H3 H6 H7 H8 H11]
  · isplitl [H3]; · iexact H3
    isplitl [H6]; · iexact H6
    isplitl [H7]; · iexact H7
    isplitl [H8]; · iexact H8
    iexists _; iexact H11
  isplitl [H2 H4 H5 H12 H15 H13]
  · isplitl [H2]; · iexact H2
    isplitl [H4]; · iexact H4
    isplitl [H5]; · iexact H5
    isplitl [H12]; · iexact H12
    isplitl [H15]; · iexact H15
    iexact H13
  isplitl [H14]; · iexact H14
  ipureintro
  exact hr

end Cert.DownIdeal.Body

end
-- ==== Proof.DownPoint.lean ====
/- ONE GRID POINT of the down projection: the body, run from the buffers as it finds them, under each of its guards. -/
module
public import proofs.«01_k».proof.Proof.DownTail
@[expose] public section
set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)

variable (q2 q3 q4 : PosShare TreeShare) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F))

/-- What a point reads: the tables, the row weights and the blocks of its three arrays. -/
def inputs : sProp 𝕄 := iprop((arg2.view.loc (c : Thread nD τ) ↦[arg2.view.set]{q2} f2) ∗ (arg3.view.loc (c : Thread nD τ) ↦[arg3.view.set]{q3} f3) ∗ (arg4.view.loc (c : Thread nD τ) ↦[arg4.view.set]{q4} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- What a point may change besides the chains: its two outputs and three buffers. -/
def others : sProp 𝕄 := iprop((∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)))

/-- The chains of all positions by expert. -/
def chain : sProp 𝕄 := iprop(∃ f14, ∃ f15, (arg14.view.loc (c : Thread nD τ) ↦[arg14.view.set]{fullShare} f14) ∗ (arg15.view.loc (c : Thread nD τ) ↦[arg15.view.set]{fullShare} f15) ∗ ⌜Linked (cells arg4 f4) 320 (cells arg14 f14) (cells arg15 f15)⌝)

/-- The end of a point: quantise at the last one, nothing at the others. -/
theorem point_end :
    iprop(inputs c arg2 arg3 arg4 arg5 arg6 arg7 arg8 q2 q3 q4 f2 f3 f4 f5 f6 f7 f8 ∗ others (F := F) c arg9 arg10 arg11 arg12 arg13 ∗ chain c arg4 arg14 arg15 f4) ⊢ wp frame (wpE (defs₀ (F := F)) 𝒱₀ (c : Thread nD τ) none) Set.univ (quantSeg i arg2 harg2 arg3 harg3 arg4 harg4 arg5 harg5 arg6 harg6 arg7 harg7 arg8 harg8 arg9 harg9 arg10 harg10 arg11 harg11 arg12 harg12 arg13 harg13 arg14 harg14 arg15 harg15) (fun _ => iprop(inputs c arg2 arg3 arg4 arg5 arg6 arg7 arg8 q2 q3 q4 f2 f3 f4 f5 f6 f7 f8 ∗ others (F := F) c arg9 arg10 arg11 arg12 arg13 ∗ chain c arg4 arg14 arg15 f4)) := by
  unfold inputs others chain
  iintro ⟨HI, ⟨⟨%f9, H9⟩, ⟨%f10, H10⟩, H11, H12, ⟨%f13, H13⟩⟩, HC⟩
  by_cases h3 : k0_cond3 i = 1#1
  · iapply ((run_quant c i arg2 harg2 arg3 harg3 arg4 harg4 arg5 harg5 arg6 harg6 arg7 harg7 arg8 harg8 arg9 harg9 arg10 harg10 arg11 harg11 arg12 harg12 arg13 harg13 arg14 harg14 arg15 harg15 h3 f13).2 f9 f10 Set.univ _)
    isplitl [H13]; · iexact H13
    isplitl [H9]; · iexact H9
    isplitl [H10]; · iexact H10
    iintro ⟨H13, H9, H10⟩
    isplitl [HI]; · iexact HI
    isplitr [HC]
    · isplitl [H9]; · iexists _; iexact H9
      isplitl [H10]; · iexists _; iexact H10
      isplitl [H11]; · iexact H11
      isplitl [H12]; · iexact H12
      iexists _; iexact H13
    iexact HC
  · iapply (run_rest c i arg2 harg2 arg3 harg3 arg4 harg4 arg5 harg5 arg6 harg6 arg7 harg7 arg8 harg8 arg9 harg9 arg10 harg10 arg11 harg11 arg12 harg12 arg13 harg13 arg14 harg14 arg15 harg15 Set.univ h3 _)
    isplitl [HI]; · iexact HI
    isplitr [HC]
    · isplitl [H9]; · iexists _; iexact H9
      isplitl [H10]; · iexists _; iexact H10
      isplitl [H11]; · iexact H11
      isplitl [H12]; · iexact H12
      iexists _; iexact H13
    iexact HC

set_option maxHeartbeats 2000000 in
/-- A point once the chains are built. -/
theorem point_tail
    (hpos : ∀ p, (cells arg4 f4 p).toInt < 744) (he : (cells arg2 f2 ⟨(i 0).val, (i 0).isLt⟩).toNat < 24) :
    iprop(inputs c arg2 arg3 arg4 arg5 arg6 arg7 arg8 q2 q3 q4 f2 f3 f4 f5 f6 f7 f8 ∗ others (F := F) c arg9 arg10 arg11 arg12 arg13 ∗ chain c arg4 arg14 arg15 f4) ⊢ wp frame (wpE (defs₀ (F := F)) 𝒱₀ (c : Thread nD τ) none) Set.univ ((tail (F := F) i arg2 harg2 arg3 harg3 arg4 harg4 arg5 harg5 arg6 harg6 arg7 harg7 arg8 harg8 arg9 harg9 arg10 harg10 arg11 harg11 arg12 harg12 arg13 harg13 arg14 harg14 arg15 harg15).1) (fun _ => iprop(inputs c arg2 arg3 arg4 arg5 arg6 arg7 arg8 q2 q3 q4 f2 f3 f4 f5 f6 f7 f8 ∗ others (F := F) c arg9 arg10 arg11 arg12 arg13 ∗ chain c arg4 arg14 arg15 f4)) := by
  unfold inputs others chain
  iintro ⟨⟨H2, H3, H4, H5, H6, H7, H8⟩, ⟨H9, H10, ⟨%f11, H11⟩, ⟨%f12, H12⟩, ⟨%f13, H13⟩⟩, ⟨%f14, %f15, H14, H15, %hl⟩⟩
  by_cases ha : active i (cells arg3 f3 0)
  · iapply ((run_active c i arg2 harg2 arg3 harg3 arg4 harg4 arg5 harg5 arg6 harg6 arg7 harg7 arg8 harg8 arg9 harg9 arg10 harg10 arg11 harg11 arg12 harg12 arg13 harg13 arg14 harg14 arg15 harg15 q2 q3 q4 fullShare f2 f3 f4 f5 f6 f7 f8 f11 f12 f13 f14 f15 hpos he hl ha).2 Set.univ _)
    isplitl [H3 H6 H7 H8 H11]
    · isplitl [H3]; · iexact H3
      isplitl [H6]; · iexact H6
      isplitl [H7]; · iexact H7
      isplitl [H8]; · iexact H8
      iexact H11
    isplitl [H2 H4 H5 H12 H15 H13]
    · unfold held
      isplitl [H2]; · iexact H2
      isplitl [H4]; · iexact H4
      isplitl [H5]; · iexact H5
      isplitl [H12]; · iexact H12
      isplitl [H15]; · iexact H15
      iexact H13
    isplitl [H14]; · iexact H14
    unfold held
    iintro %f13' ⟨⟨H3, H6, H7, H8, H11⟩, ⟨H2, H4, H5, H12, H15, H13⟩, H14, -⟩
    iapply (point_end c i arg2 harg2 arg3 harg3 arg4 harg4 arg5 harg5 arg6 harg6 arg7 harg7 arg8 harg8 arg9 harg9 arg10 harg10 arg11 harg11 arg12 harg12 arg13 harg13 arg14 harg14 arg15 harg15 q2 q3 q4 f2 f3 f4 f5 f6 f7 f8)
    unfold inputs others chain
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9 H10 H11 H12 H13]
    · isplitl [H9]; · iexact H9
      isplitl [H10]; · iexact H10
      isplitl [H11]; · iexact H11
      isplitl [H12]; · iexists _; iexact H12
      iexists _; iexact H13
    iexists _; iexists _
    isplitl [H14]; · iexact H14
    isplitl [H15]; · iexact H15
    ipureintro; exact hl
  · iapply (run_idle c i arg2 harg2 arg3 harg3 arg4 harg4 arg5 harg5 arg6 harg6 arg7 harg7 arg8 harg8 arg9 harg9 arg10 harg10 arg11 harg11 arg12 harg12 arg13 harg13 arg14 harg14 arg15 harg15 Set.univ q2 q3 q4 fullShare f2 f3 f4 f5 f12 f13 f14 f15 hpos he hl ha _)
    isplitl [H3]; · iexact H3
    isplitl [H2 H4 H5 H12 H15 H13]
    · unfold held
      isplitl [H2]; · iexact H2
      isplitl [H4]; · iexact H4
      isplitl [H5]; · iexact H5
      isplitl [H12]; · iexact H12
      isplitl [H15]; · iexact H15
      iexact H13
    isplitl [H14]; · iexact H14
    unfold held
    iintro %f13' ⟨H3, ⟨H2, H4, H5, H12, H15, H13⟩, H14, -⟩
    iapply (point_end c i arg2 harg2 arg3 harg3 arg4 harg4 arg5 harg5 arg6 harg6 arg7 harg7 arg8 harg8 arg9 harg9 arg10 harg10 arg11 harg11 arg12 harg12 arg13 harg13 arg14 harg14 arg15 harg15 q2 q3 q4 f2 f3 f4 f5 f6 f7 f8)
    unfold inputs others chain
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9 H10 H11 H12 H13]
    · isplitl [H9]; · iexact H9
      isplitl [H10]; · iexact H10
      isplitl [H11]; · iexists _; iexact H11
      isplitl [H12]; · iexists _; iexact H12
      iexists _; iexact H13
    iexists _; iexists _
    isplitl [H14]; · iexact H14
    isplitl [H15]; · iexact H15
    ipureintro; exact hl

/-- The first point builds the chains. -/
theorem point_first (h1 : k0_cond1 i = 1#1)
    (hpos : ∀ p, (cells arg4 f4 p).toInt < 744) (he : (cells arg2 f2 ⟨(i 0).val, (i 0).isLt⟩).toNat < 24) :
    iprop(inputs c arg2 arg3 arg4 arg5 arg6 arg7 arg8 q2 q3 q4 f2 f3 f4 f5 f6 f7 f8 ∗ others (F := F) c arg9 arg10 arg11 arg12 arg13 ∗ (∃ f14, (arg14.view.loc (c : Thread nD τ) ↦[arg14.view.set]{fullShare} f14)) ∗ (∃ f15, (arg15.view.loc (c : Thread nD τ) ↦[arg15.view.set]{fullShare} f15))) ⊢ wp frame (wpE (defs₀ (F := F)) 𝒱₀ (c : Thread nD τ) none) Set.univ (cc0_down_combine (F := F) i arg2 harg2 arg3 harg3 arg4 harg4 arg5 harg5 arg6 harg6 arg7 harg7 arg8 harg8 arg9 harg9 arg10 harg10 arg11 harg11 arg12 harg12 arg13 harg13 arg14 harg14 arg15 harg15) (fun _ => iprop(inputs c arg2 arg3 arg4 arg5 arg6 arg7 arg8 q2 q3 q4 f2 f3 f4 f5 f6 f7 f8 ∗ others (F := F) c arg9 arg10 arg11 arg12 arg13 ∗ chain c arg4 arg14 arg15 f4)) := by
  rw [(tail (F := F) i arg2 harg2 arg3 harg3 arg4 harg4 arg5 harg5 arg6 harg6 arg7 harg7 arg8 harg8 arg9 harg9 arg10 harg10 arg11 harg11 arg12 harg12 arg13 harg13 arg14 harg14 arg15 harg15).2, dif_pos h1]
  iintro ⟨HI, HO, ⟨%f14, H14⟩, ⟨%f15, H15⟩⟩
  unfold inputs others
  icases HI with ⟨H2, H3, H4, H5, H6, H7, H8⟩
  icases HO with ⟨H9, H10, H11, H12, ⟨%f13, H13⟩⟩
  iapply (run_init c i arg2 harg2 arg3 harg3 arg4 harg4 arg5 harg5 arg6 harg6 arg7 harg7 arg8 harg8 arg9 harg9 arg10 harg10 arg11 harg11 arg12 harg12 arg13 harg13 arg14 harg14 arg15 harg15 𝒱₀ none Set.univ h1 q4 f4 f13 f14 f15 hpos _ _)
  isplitl [H4]; · iexact H4
  isplitl [H13]; · iexact H13
  isplitl [H14]; · iexact H14
  isplitl [H15]; · iexact H15
  iintro %f13 %f14 %f15 ⟨H4, H13, H14, H15, -, %hl⟩
  iapply (point_tail c i arg2 harg2 arg3 harg3 arg4 harg4 arg5 harg5 arg6 harg6 arg7 harg7 arg8 harg8 arg9 harg9 arg10 harg10 arg11 harg11 arg12 harg12 arg13 harg13 arg14 harg14 arg15 harg15 q2 q3 q4 f2 f3 f4 f5 f6 f7 f8 hpos he)
  unfold inputs others chain
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [H9 H10 H11 H12 H13]
  · isplitl [H9]; · iexact H9
    isplitl [H10]; · iexact H10
    isplitl [H11]; · iexact H11
    isplitl [H12]; · iexact H12
    iexists _; iexact H13
  iexists _; iexists _
  isplitl [H14]; · iexact H14
  isplitl [H15]; · iexact H15
  ipureintro; exact hl

/-- Every later point finds them. -/
theorem point_later (h1 : ¬ k0_cond1 i = 1#1)
    (hpos : ∀ p, (cells arg4 f4 p).toInt < 744) (he : (cells arg2 f2 ⟨(i 0).val, (i 0).isLt⟩).toNat < 24) :
    iprop(inputs c arg2 arg3 arg4 arg5 arg6 arg7 arg8 q2 q3 q4 f2 f3 f4 f5 f6 f7 f8 ∗ others (F := F) c arg9 arg10 arg11 arg12 arg13 ∗ chain c arg4 arg14 arg15 f4) ⊢ wp frame (wpE (defs₀ (F := F)) 𝒱₀ (c : Thread nD τ) none) Set.univ (cc0_down_combine (F := F) i arg2 harg2 arg3 harg3 arg4 harg4 arg5 harg5 arg6 harg6 arg7 harg7 arg8 harg8 arg9 harg9 arg10 harg10 arg11 harg11 arg12 harg12 arg13 harg13 arg14 harg14 arg15 harg15) (fun _ => iprop(inputs c arg2 arg3 arg4 arg5 arg6 arg7 arg8 q2 q3 q4 f2 f3 f4 f5 f6 f7 f8 ∗ others (F := F) c arg9 arg10 arg11 arg12 arg13 ∗ chain c arg4 arg14 arg15 f4)) := by
  rw [(tail (F := F) i arg2 harg2 arg3 harg3 arg4 harg4 arg5 harg5 arg6 harg6 arg7 harg7 arg8 harg8 arg9 harg9 arg10 harg10 arg11 harg11 arg12 harg12 arg13 harg13 arg14 harg14 arg15 harg15).2, dif_neg h1]
  exact point_tail c i arg2 harg2 arg3 harg3 arg4 harg4 arg5 harg5 arg6 harg6 arg7 harg7 arg8 harg8 arg9 harg9 arg10 harg10 arg11 harg11 arg12 harg12 arg13 harg13 arg14 harg14 arg15 harg15 q2 q3 q4 f2 f3 f4 f5 f6 f7 f8 hpos he

end Cert.DownIdeal.Body

end
-- ==== Proof.DownFrame.lean ====
/- THE DOWN PROJECTION'S CALL RUNS: at every point of the grid the body terminates and gives back what it was handed,
   for every contents of the tables whose expert numbers are below 24 and whose positions are below 744. Nothing is
   stated of the contents of the two outputs. -/
module

public import proofs.«01_k».proof.Proof.DownPoint
public import Idealize.ShloMosaic.Lib.Pipeline.FrameBody
public import Idealize.ShloMosaic.Lib.WordCmp
public import Idealize.ShloMosaic.Lib.Claim

@[expose] public section

set_option maxRecDepth 16384

noncomputable section

namespace Cert.DownIdeal.Body

open Cert.DownIdeal Cert.DownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The chains are built at the first point only. -/
theorem first_iff : ∀ t : Fin grid0.N, k0_cond1 (grid0.coords t) = 1#1 ↔ t.val % 168 = 0 :=
  (fun t => by
    have ht : t.val < 168 := Nat.lt_of_lt_of_eq t.isLt N_0
    have e0 : (grid0.coords t 0).val = t.val / 7 % 24 := Pipeline.Grid.coords_val t 0 (by decide) rfl
    have e1 : (grid0.coords t 1).val = t.val / 1 % 7 := Pipeline.Grid.coords_val t 1 (by decide) rfl
    simp only [k0_cond1, e0, e1]
    word_cmp
   : ∀ t : Fin grid0.N, k0_cond1 (grid0.coords t) = 1#1 ↔ t.val % 168 = 0)

/-- A table held whole is its memref's cells held. -/
theorem table_eq (c : Dev nD) {S : Shape} {e : EltTy} (M : Memref sig .tc .smem S e) (hM : M.IsWhole) (f : TbBuf0 (F := F) c M) :
    (tbPt0 c M f : sProp 𝕄) = (M.view.loc (c : Thread nD τ) ↦[M.view.set]{fullShare.right} f) := by
  unfold tbPt0; rw [hM.set_eq_univ]

/-- The tables' halves, as the cells of their memrefs. -/
theorem tables_eq (c : Dev nD) : (Pipeline.ΦT pre0 (tbl m) c : sProp 𝕄) = iprop((tbM0_0.view.loc (c : Thread nD τ) ↦[tbM0_0.view.set]{fullShare.right} (tbl m 0)) ∗ (tbM0_1.view.loc (c : Thread nD τ) ↦[tbM0_1.view.set]{fullShare.right} (tbl m 1)) ∗ (tbM0_2.view.loc (c : Thread nD τ) ↦[tbM0_2.view.set]{fullShare.right} (tbl m 2))) :=
  (PhiT0_eq m c).trans (congrArg₂ (fun a b : sProp 𝕄 => iprop(a ∗ b)) (table_eq c tbM0_0 htbM0_0 (tbl m 0))
    (congrArg₂ (fun a b : sProp 𝕄 => iprop(a ∗ b)) (table_eq c tbM0_1 htbM0_1 (tbl m 1)) (table_eq c tbM0_2 htbM0_2 (tbl m 2))))

/-- What is held before position `n`: before the first point every buffer at anything; afterwards the chains of all
    positions in the two scalar buffers, the other buffers at anything. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop((∃ d, owns (c : Thread nD τ) scM0_0 fullShare d) ∗ (∃ d, owns (c : Thread nD τ) scM0_1 fullShare d) ∗ (∃ d, owns (c : Thread nD τ) scM0_2 fullShare d) ∗ chain c tbM0_2 scM0_3 scM0_4 (tbl m 2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop((∃ d, owns (c : Thread nD τ) scM0_0 fullShare d) ∗ (∃ d, owns (c : Thread nD τ) scM0_1 fullShare d) ∗ (∃ d, owns (c : Thread nD τ) scM0_2 fullShare d) ∗ chain c tbM0_2 scM0_3 scM0_4 (tbl m 2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop((∃ d, owns (c : Thread nD τ) scM0_0 fullShare d) ∗ (∃ d, owns (c : Thread nD τ) scM0_1 fullShare d) ∗ (∃ d, owns (c : Thread nD τ) scM0_2 fullShare d) ∗ chain c tbM0_2 scM0_3 scM0_4 (tbl m 2)) ∗ (∃ r, prngReg c r)) ∗ Pipeline.ΦT pre0 (tbl m) c) := by
  cases n with
  | zero => exact absurd rfl hz
  | succ n => rfl

/-! ## The pipeline's proof data -/

/-- The output windows this certificate FORGETS (4, 5): nothing reads what the kernel leaves in them, so nothing
    of it is named. -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
    | ⟨5, h⟩ => Pipeline.Dat.unnamed (cfg := (cfgM m hO)) ⟨5, h⟩ t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare d)
    ∗ (∃ d, owns (c : Thread nD τ) (ms0_5 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (∃ d, owns (c : Thread nD τ) (ms0_4 m hO t) fullShare d)
    ∗ (∃ d, owns (c : Thread nD τ) (ms0_5 m hO t) fullShare d))

set_option maxHeartbeats 4000000 in
/-- The body at any point: the first builds the chains, every later one finds them. -/
theorem sound_body (hO : Ok m)
    (hpos : ∀ p, (cells tbM0_2 (tbl m 2) p).toInt < 744) (hord : ∀ e : Fin 24, (cells tbM0_0 (tbl m 0) e).toNat < 24)
    (c : Dev nD) (t : Fin (cfgM m hO).N) :
    bodyPre m hO c t ⊢ wp frame (wpE (defs₀ (F := F)) 𝒱₀ c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, tables_eq]
  have hN : t.val < 168 := lt_of_lt_of_eq t.isLt (show (cfgM m hO).N = 168 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  by_cases h0 : t.val = 0
  · rw [PhiS_castSucc m hO c t, PhiS_zero m hO c _ _ h0, tables_eq, PhiA0_eq]
    unfold owns
    iintro ⟨⟨⟨⟨⟨%e0, %f11, %he11, HS0⟩, ⟨%e1, %f12, %he12, HS1⟩, ⟨%e2, %f13, %he13, HS2⟩, ⟨%e3, %f14, %he14, HS3⟩, ⟨%e4, %f15, %he15, HS4⟩⟩, Hg⟩, ⟨HT0, HT1, HT2⟩⟩, Ho, ⟨%d0, %f5, %h5, H0⟩, ⟨%d1, %f6, %h6, H1⟩, ⟨%d2, %f7, %h7, H2⟩, ⟨%d3, %f8, %h8, H3⟩, ⟨%d4, %f9, %h9, H4⟩, ⟨%d5, %f10, %h10, H5⟩⟩
    iapply (wp_wand_r (Q := fun _ => _) frame (wpE (defs₀ (F := F)) 𝒱₀ (c : Thread nD τ) none) Set.univ)
    isplitl [HS0 HS1 HS2 HS3 HS4 HT0 HT1 HT2 H0 H1 H2 H3 H4 H5]
    · iapply (point_first c (grid0.coords t) tbM0_0 htbM0_0 tbM0_1 htbM0_1 tbM0_2 htbM0_2 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) fullShare.right fullShare.right fullShare.right (tbl m 0) (tbl m 1) (tbl m 2) f5 f6 f7 f8 ((first_iff t).mpr (by omega)) hpos (hord _))
      unfold inputs others
      isplitl [HT0 HT1 HT2 H0 H1 H2 H3]
      · isplitl [HT0]; · iexact HT0
        isplitl [HT1]; · iexact HT1
        isplitl [HT2]; · iexact HT2
        isplitl [H0]; · iexact H0
        isplitl [H1]; · iexact H1
        isplitl [H2]; · iexact H2
        iexact H3
      isplitl [H4 H5 HS0 HS1 HS2]
      · isplitl [H4]; · iexists _; iexact H4
        isplitl [H5]; · iexists _; iexact H5
        isplitl [HS0]; · iexists _; iexact HS0
        isplitl [HS1]; · iexists _; iexact HS1
        iexists _; iexact HS2
      isplitl [HS3]; · iexists _; iexact HS3
      iexists _; iexact HS4
    unfold inputs others
    iintro %a ⟨⟨HT0, HT1, HT2, H0, H1, H2, H3⟩, ⟨⟨%f9, H4⟩, ⟨%f10, H5⟩, ⟨%f11, HS0⟩, ⟨%f12, HS1⟩, ⟨%f13, HS2⟩⟩, HC⟩
    isplitl [HS0 HS1 HS2 HC Hg HT0 HT1 HT2]
    · isplitl [HS0 HS1 HS2 HC Hg]
      · isplitl [HS0 HS1 HS2 HC]
        · isplitl [HS0]
          · iexists _; iexists _; isplitr; swap; · iexact HS0
            ipureintro; rfl
          isplitl [HS1]
          · iexists _; iexists _; isplitr; swap; · iexact HS1
            ipureintro; rfl
          isplitl [HS2]
          · iexists _; iexists _; isplitr; swap; · iexact HS2
            ipureintro; rfl
          iexact HC
        iexact Hg
      isplitl [HT0]; · iexact HT0
      isplitl [HT1]; · iexact HT1
      iexact HT2
    isplitl [Ho]; · iexact Ho
    isplitl [H0]
    · iexists _; isplitr; swap; · iexact H0
      ipureintro; exact h5
    isplitl [H1]
    · iexists _; isplitr; swap; · iexact H1
      ipureintro; exact h6
    isplitl [H2]
    · iexists _; isplitr; swap; · iexact H2
      ipureintro; exact h7
    isplitl [H3]
    · iexists _; isplitr; swap; · iexact H3
      ipureintro; exact h8
    isplitl [H4]
    · iexists _; iexists _; isplitr; swap; · iexact H4
      ipureintro; rfl
    iexists _; iexists _; isplitr; swap; · iexact H5
    ipureintro; rfl
  · rw [PhiS_castSucc m hO c t, PhiS_pos m hO c _ _ h0, tables_eq]
    unfold owns
    iintro ⟨⟨⟨⟨⟨%e0, %f11, %he11, HS0⟩, ⟨%e1, %f12, %he12, HS1⟩, ⟨%e2, %f13, %he13, HS2⟩, HC⟩, Hg⟩, ⟨HT0, HT1, HT2⟩⟩, Ho, ⟨%d0, %f5, %h5, H0⟩, ⟨%d1, %f6, %h6, H1⟩, ⟨%d2, %f7, %h7, H2⟩, ⟨%d3, %f8, %h8, H3⟩, ⟨%d4, %f9, %h9, H4⟩, ⟨%d5, %f10, %h10, H5⟩⟩
    iapply (wp_wand_r (Q := fun _ => _) frame (wpE (defs₀ (F := F)) 𝒱₀ (c : Thread nD τ) none) Set.univ)
    isplitl [HS0 HS1 HS2 HC HT0 HT1 HT2 H0 H1 H2 H3 H4 H5]
    · iapply (point_later c (grid0.coords t) tbM0_0 htbM0_0 tbM0_1 htbM0_1 tbM0_2 htbM0_2 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) fullShare.right fullShare.right fullShare.right (tbl m 0) (tbl m 1) (tbl m 2) f5 f6 f7 f8 (fun h => h0 (by have := (first_iff t).mp h; omega)) hpos (hord _))
      unfold inputs others
      isplitl [HT0 HT1 HT2 H0 H1 H2 H3]
      · isplitl [HT0]; · iexact HT0
        isplitl [HT1]; · iexact HT1
        isplitl [HT2]; · iexact HT2
        isplitl [H0]; · iexact H0
        isplitl [H1]; · iexact H1
        isplitl [H2]; · iexact H2
        iexact H3
      isplitl [H4 H5 HS0 HS1 HS2]
      · isplitl [H4]; · iexists _; iexact H4
        isplitl [H5]; · iexists _; iexact H5
        isplitl [HS0]; · iexists _; iexact HS0
        isplitl [HS1]; · iexists _; iexact HS1
        iexists _; iexact HS2
      iexact HC
    unfold inputs others
    iintro %a ⟨⟨HT0, HT1, HT2, H0, H1, H2, H3⟩, ⟨⟨%f9, H4⟩, ⟨%f10, H5⟩, ⟨%f11, HS0⟩, ⟨%f12, HS1⟩, ⟨%f13, HS2⟩⟩, HC⟩
    isplitl [HS0 HS1 HS2 HC Hg HT0 HT1 HT2]
    · isplitl [HS0 HS1 HS2 HC Hg]
      · isplitl [HS0 HS1 HS2 HC]
        · isplitl [HS0]
          · iexists _; iexists _; isplitr; swap; · iexact HS0
            ipureintro; rfl
          isplitl [HS1]
          · iexists _; iexists _; isplitr; swap; · iexact HS1
            ipureintro; rfl
          isplitl [HS2]
          · iexists _; iexists _; isplitr; swap; · iexact HS2
            ipureintro; rfl
          iexact HC
        iexact Hg
      isplitl [HT0]; · iexact HT0
      isplitl [HT1]; · iexact HT1
      iexact HT2
    isplitl [Ho]; · iexact Ho
    isplitl [H0]
    · iexists _; isplitr; swap; · iexact H0
      ipureintro; exact h5
    isplitl [H1]
    · iexists _; isplitr; swap; · iexact H1
      ipureintro; exact h6
    isplitl [H2]
    · iexists _; isplitr; swap; · iexact H2
      ipureintro; exact h7
    isplitl [H3]
    · iexists _; isplitr; swap; · iexact H3
      ipureintro; exact h8
    isplitl [H4]
    · iexists _; iexists _; isplitr; swap; · iexact H4
      ipureintro; rfl
    iexists _; iexists _; isplitr; swap; · iexact H5
    ipureintro; rfl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m)
    (hpos : ∀ p, (cells tbM0_2 (tbl m 2) p).toInt < 744) (hord : ∀ e : Fin 24, (cells tbM0_0 (tbl m 0) e).toNat < 24)
    (c : Dev nD) : BodyObligation (dats (F := F) m hO 0 c) (defs₀ (F := F)) 𝒱₀ () Set.univ forgets0 := fun t => by
  rw [bigSep_W0, bigSep_W0, defs₀_row m hO]
  exact triple_restated (sound_body m hO hpos hord c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  unfold chain owns
  iintro ⟨⟨⟨HS0, HS1, HS2, ⟨%f14, %f15, HS3, HS4, -⟩⟩, Hg⟩, -⟩
  isplitl [HS0 HS1 HS2 HS3 HS4]
  · isplitl [HS0]
    · iexact HS0
    isplitl [HS1]
    · iexact HS1
    isplitl [HS2]
    · iexact HS2
    isplitl [HS3]
    · iexists _; iexists _; isplitr; swap; · iexact HS3
      ipureintro; rfl
    iexists _; iexists _; isplitr; swap; · iexact HS4
    ipureintro; rfl
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 168 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m)
    (hpos : ∀ p, (cells tbM0_2 (tbl m 2) p).toInt < 744) (hord : ∀ e : Fin 24, (cells tbM0_0 (tbl m 0) e).toNat < 24) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ 𝒱₀ forgets0 m ρ main
    (hbody := fun c => (body_obligation m hO hpos hord c).loose) (hshare := fun c => (dats m hO 0 c).share_full fun _ => rfl)
    (howed := fun _ _ => rfl) (V := V m) (hmain := hmain m 𝒱₀) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 4, 5), and every other unscoped buffer at its region-entry contents. -/
theorem run_main (hO : Ok m)
    (hpos : ∀ p, (cells tbM0_2 (tbl m 2) p).toInt < 744) (hord : ∀ e : Fin 24, (cells tbM0_0 (tbl m 0) e).toNat < 24) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hpos hord)

/-- `frame` without the counters: the argument arrays end unchanged. -/
theorem unchanged (hO : Ok m)
    (hpos : ∀ p, (cells tbM0_2 (tbl m 2) p).toInt < 744) (hord : ∀ e : Fin 24, (cells tbM0_0 (tbl m 0) e).toNat < 24) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO hpos hord)

/-- The launch runs to the end, its arguments unchanged and its semaphores at zero, at any scalars: given that its blocks lie
    inside their arrays, that the rows are below 744, and that the experts are of the 24. -/
theorem frame (hO : Ok m)
    (hpos : ∀ p, (cells tbM0_2 (tbl m 2) p).toInt < 744) (hord : ∀ e : Fin 24, (cells tbM0_0 (tbl m 0) e).toNat < 24) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hpos hord) ((θ_run defs _ _).mono (fun _ h => h.2) (run_main_quiescent m ρ hO hpos hord))

end Cert.DownIdeal.Body

end
-- ==== Proof.DownHost.lean ====
/- THE TABLES OF THE DOWN PROJECTION at the launch: the rows are the positions given, every expert of the order is one of
   the 24, and with that the blocks the launch reads by the tables lie inside their arrays. -/
module

public import proofs.«01_k».proof.Proof.DownOrder
public import proofs.«01_k».proof.Proof.DownFrame
public import Idealize.ShloMosaic.Lib.StableHlo.RunRead
public import Idealize.ShloMosaic.Lib.StableHlo.Run

@[expose] public section

set_option maxRecDepth 16384

noncomputable section

namespace Cert.DownIdeal.Body

open Cert.DownIdeal Cert.DownIdeal.Gen Cert.DownOrder
open Idealize.ShloMosaic Idealize.ShloMosaic.TcCoe Idealize.ShloMosaic.Tactic
open Idealize.ShloMosaic.Routing Idealize.ShloMosaic.ValueIdx Idealize.ShloMosaic.CellWrites.SmemRing

variable {F : FTy → Type} [FloatOps F]
variable (m : (ℓ : Loc nD τ sig) → Buf (Elt F) ℓ)

/-- The launch's host operations up to the bits of the experts that have rows. -/
abbrev opsA : List (HloOp τ sig (Elt F)) := List.flatten [hostOps0, hostOps0_1, hostOps0_2, hostOps0_3, hostOps0_4]
/-- The launch's host operations from there on. -/
abbrev opsB : List (HloOp τ sig (Elt F)) := List.flatten [hostOps0_5, hostOps0_6, hostOps0_7, hostOps0_8]

/-- The table of experts, from the bits of those that have rows and the ranks wanted: the row sums of the array with `j` at
    `(i, j)` where expert `j` has rows and the rank `want i`, and zero elsewhere. -/
def orderOf (used : IVec S24 1) (want : IVec S24 32) : IVec S24 32 :=
  Host.reduce IntOp.addi
    (select
      (andi (broadcastInDim S24x24 ![0, 1] bcast_S1x24_S24x24_0_1 (broadcastInDim S1x24 ![1] bcast_S24_S1x24_1 used))
        (cmpi CmpIPredicate.eq
          (broadcastInDim S24x24 ![0, 1] bcast_S1x24_S24x24_0_1 (broadcastInDim S1x24 ![1] bcast_S24_S1x24_1
            (subi (Host.reduceWindow IntOp.addi ![24] ![1] ![23] ![0] (extui 32 used natLt_1_32)
                (broadcastInDim S_ ![] bcast_S_S_ (constantI S_ 32 0#32)) reduceWindows_S24_S24_w24s1p23_0 h_S_)
              (broadcastInDim S24 ![] bcast_S_S24 (constantI S_ 32 1#32)))))
          (broadcastInDim S24x24 ![0, 1] bcast_S24x1_S24x24_0_1 (broadcastInDim S24x1 ![0] bcast_S24_S24x1_0 want))))
      (broadcastInDim S24x24 ![0, 1] bcast_S1x24_S24x24_0_1 (broadcastInDim S1x24 ![1] bcast_S24_S1x24_1 (iotaInDim S24 32 0)))
      (broadcastInDim S24x24 ![] bcast_S_S24x24 (constantI S_ 32 0#32)))
    (constantI S_ 32 0#32) reducesTo_S24x24_S24_d1 h_S_

/-- One entry of the array that is summed. -/
theorem order_entry (used : IVec S24 1) (want : IVec S24 32) (p q : Fin 24) :
    select
      (andi (broadcastInDim S24x24 ![0, 1] bcast_S1x24_S24x24_0_1 (broadcastInDim S1x24 ![1] bcast_S24_S1x24_1 used))
        (cmpi CmpIPredicate.eq
          (broadcastInDim S24x24 ![0, 1] bcast_S1x24_S24x24_0_1 (broadcastInDim S1x24 ![1] bcast_S24_S1x24_1
            (subi (Host.reduceWindow IntOp.addi ![24] ![1] ![23] ![0] (extui 32 used natLt_1_32)
                (broadcastInDim S_ ![] bcast_S_S_ (constantI S_ 32 0#32)) reduceWindows_S24_S24_w24s1p23_0 h_S_)
              (broadcastInDim S24 ![] bcast_S_S24 (constantI S_ 32 1#32)))))
          (broadcastInDim S24x24 ![0, 1] bcast_S24x1_S24x24_0_1 (broadcastInDim S24x1 ![0] bcast_S24_S24x1_0 want))))
      (broadcastInDim S24x24 ![0, 1] bcast_S1x24_S24x24_0_1 (broadcastInDim S1x24 ![1] bcast_S24_S1x24_1 (iotaInDim S24 32 0)))
      (broadcastInDim S24x24 ![] bcast_S_S24x24 (constantI S_ 32 0#32)) (ix2 p q)
    = if Used used q.val ∧ Nat.count (Used used) q.val = (want (ix1 p)).toNat then BitVec.ofNat 32 q.val else 0 := by
  refine (rfl : _ = Scalar.select _ _ _).trans ?_
  have e1 := bcCols bcast_S24_S1x24_1 bcast_S1x24_S24x24_0_1 used p q
  have e2 := bcCols bcast_S24_S1x24_1 bcast_S1x24_S24x24_0_1
    (subi (Host.reduceWindow IntOp.addi ![24] ![1] ![23] ![0] (extui 32 used natLt_1_32)
                (broadcastInDim S_ ![] bcast_S_S_ (constantI S_ 32 0#32)) reduceWindows_S24_S24_w24s1p23_0 h_S_)
              (broadcastInDim S24 ![] bcast_S_S24 (constantI S_ 32 1#32))) p q
  have e3 := bcRows bcast_S24_S24x1_0 bcast_S24x1_S24x24_0_1 want p q
  have e4 := bcCols bcast_S24_S1x24_1 bcast_S1x24_S24x24_0_1 (iotaInDim S24 32 0) p q
  have hc : (andi (broadcastInDim S24x24 ![0, 1] bcast_S1x24_S24x24_0_1 (broadcastInDim S1x24 ![1] bcast_S24_S1x24_1 used))
        (cmpi CmpIPredicate.eq
          (broadcastInDim S24x24 ![0, 1] bcast_S1x24_S24x24_0_1 (broadcastInDim S1x24 ![1] bcast_S24_S1x24_1
            (subi (Host.reduceWindow IntOp.addi ![24] ![1] ![23] ![0] (extui 32 used natLt_1_32)
                (broadcastInDim S_ ![] bcast_S_S_ (constantI S_ 32 0#32)) reduceWindows_S24_S24_w24s1p23_0 h_S_)
              (broadcastInDim S24 ![] bcast_S_S24 (constantI S_ 32 1#32)))))
          (broadcastInDim S24x24 ![0, 1] bcast_S24x1_S24x24_0_1 (broadcastInDim S24x1 ![0] bcast_S24_S24x1_0 want))) (ix2 p q)) = 1#1
      ↔ Used used q.val ∧ Nat.count (Used used) q.val = (want (ix1 p)).toNat := by
    refine IntOp.andi_eq_one.trans ?_
    rw [e1, ← used_iff]
    refine and_congr_right fun hq => ?_
    refine IntOp.cmpi_eq.trans ?_
    rw [e2, e3, ← count_eq_iff, ← rank_eq used _ _ reduceWindows_S24_S24_w24s1p23_0 h_S_ natLt_1_32 q hq]
    · rfl
    · rfl
  rw [e4]
  by_cases hb : Used used q.val ∧ Nat.count (Used used) q.val = (want (ix1 p)).toNat
  · rw [if_pos hb]; exact if_pos (hc.2 hb)
  · rw [if_neg hb]; exact if_neg (fun h => hb (hc.1 h))

/-- Every entry of the table of experts is one of the 24. -/
theorem orderOf_lt (used : IVec S24 1) (want : IVec S24 32) (p : Fin 24) : (orderOf used want (ix1 p)).toNat < 24 :=
  order_lt used _ (want (ix1 p)) p (order_entry used want p) _ rfl _ _

/-- What the second part of the host operations leaves in the table of experts, from the bits of those that have rows. -/
theorem table_order (V₀ : Valuation τ sig (Elt F)) :
    ∃ want, StableHlo.after opsB V₀ (main_v32 : DevRef τ sig) = orderOf (V₀ (main_v11 : DevRef τ sig)) want := by
  refine ⟨minsi (iotaInDim S24 32 0) (broadcastInDim S24 ![] bcast_S_S24
    (maxsi (subi (Host.reduce IntOp.addi (extui 32 (V₀ (main_v11 : DevRef τ sig)) natLt_1_32)
      (constantI S_ 32 0#32) reducesTo_S24_S_d0 h_S_) (constantI S_ 32 1#32)) (constantI S_ 32 0#32))), ?_⟩
  simp only [opsB, List.flatten_cons, List.flatten_nil, List.append_nil, List.cons_append, List.nil_append]
  after_results
  simp only [StableHlo.TRef.ofBuf_toBuf]
  simp -implicitDefEqProofs only [StableHlo.TRef.toBuf, StableHlo.TRef.ofBuf, cast_eq, id_eq]
  unfold orderOf
  rfl

/-- The host operations are their first part, then their second. -/
theorem after_split (l₁ l₂ : List (HloOp τ sig (Elt F))) (V₀ : Valuation τ sig (Elt F)) :
    StableHlo.after (l₁ ++ l₂) V₀ = StableHlo.after l₂ (StableHlo.after l₁ V₀) := by
  induction l₁ generalizing V₀ with
  | nil => rfl
  | cons a l ih => exact ih _

theorem idxR_eq {n : Nat} (k : Fin n) : idxR k = ix1 k := funext fun a => by
  obtain rfl : a = 0 := Subsingleton.elim _ _
  rfl

/-- Every expert of the order is one of the 24. -/
theorem order_inb (e : Fin 24) : (cells tbM0_0 (tbl m 0) e).toNat < 24 := by
  have h1 : V m 0 main_v32 = StableHlo.after opsB (StableHlo.after opsA (fun b => m ((0 : Dev nD), b))) (main_v32 : DevRef τ sig) :=
    congrFun (after_split opsA opsB _) _
  obtain ⟨want, h2⟩ := table_order (StableHlo.after opsA (fun b => m ((0 : Dev nD), b)))
  have h3 : cells tbM0_0 (tbl m 0) e = V m 0 main_v32 (ix1 e) := congrArg (V m 0 main_v32) (idxR_eq e)
  rw [h3, h1, h2]
  exact orderOf_lt _ want e

/-- The table of rows is the positions, read in order. -/
theorem table_pos (V₀ : Valuation τ sig (Elt F)) :
    StableHlo.after (List.flatten [hostOps0, hostOps0_1, hostOps0_2, hostOps0_3, hostOps0_4, hostOps0_5, hostOps0_6, hostOps0_7, hostOps0_8]) V₀
        (main_v0 : DevRef τ sig)
      = shapeCast S320 (V₀ (main_arg2 : DevRef τ sig)) shapeCasts_S40x8_S320 := by
  simp only [List.flatten_cons, List.flatten_nil, List.append_nil, List.cons_append, List.nil_append]
  after_results
  rfl

/-- Every row of the table of rows is below 744 when every position given is. -/
theorem rows_inb (hp : ∀ x : S40x8.Idx, (m ((0 : Dev nD).tc.loc main_arg2) x).toInt < 744) (p : Fin 320) :
    (cells tbM0_2 (tbl m 2) p).toInt < 744 := by
  have h3 : cells tbM0_2 (tbl m 2) p = V m 0 main_v0 (ix1 p) := congrArg (V m 0 main_v0) (idxR_eq p)
  rw [h3, show V m 0 main_v0 = _ from table_pos (fun b => m ((0 : Dev nD), b))]
  exact hp _

/-- The expert the index maps read at a grid point is one of the 24. -/
theorem at_lt (i : grid0.Coords) :
    ((tbl m).at 0 (Rect.unit (s := S24) ![(Scalar.indexCast (BitVec.ofNat 32 (i 0).val)).toNat] S1.size (k0_off1_inb i)) numel1_S1
      : BitVec 32).toNat < 24 := by
  have h : ((tbl m).at 0 (Rect.unit (s := S24) ![(Scalar.indexCast (BitVec.ofNat 32 (i 0).val)).toNat] S1.size (k0_off1_inb i)) numel1_S1
      : BitVec 32) = cells tbM0_0 (tbl m 0) (((Rect.unit (s := S24) ![(Scalar.indexCast (BitVec.ofNat 32 (i 0).val)).toNat] S1.size (k0_off1_inb i)).point numel1_S1) 0) :=
    congrArg (V m 0 main_v32) (funext fun a : Fin 1 => by
      obtain rfl : a = 0 := Subsingleton.elim _ _
      rfl)
  rw [h]
  exact order_inb m _

/-- The column block is one of the seven, read or not. -/
theorem col_le (i : grid0.Coords) (c : BitVec 1) : (BitVec.toNat (Scalar.select c (BitVec.ofNat 32 (i 1).val) 6#32) + 1) * 1024 ≤ 7168 := by
  have hi : (i 1).val < 7 := (i 1).isLt
  have hs : BitVec.toNat (Scalar.select c (BitVec.ofNat 32 (i 1).val) 6#32) ≤ 6 := by
    unfold Scalar.select
    split
    · rw [BitVec.toNat_ofNat]; exact (Nat.mod_le _ _).trans (by omega)
    · decide
  omega

theorem inb1 (t : Fin 3 → Nat) (h0 : t 0 < 24) (h1 : t 1 = 0) (h2 : t 2 = 0) : ∀ a, (t a + 1) * S1x31x2048.size a ≤ S24x31x2048.size a
  | ⟨0, _⟩ => show (t 0 + 1) * 1 ≤ 24 by omega
  | ⟨1, _⟩ => show (t 1 + 1) * 31 ≤ 31 by omega
  | ⟨2, _⟩ => show (t 2 + 1) * 2048 ≤ 2048 by omega

theorem inb2 (t : Fin 3 → Nat) (h0 : t 0 < 24) (h1 : (t 1 + 1) * 1024 ≤ 7168) (h2 : t 2 = 0) :
    ∀ a, (t a + 1) * S1x1024x256.size a ≤ S24x7168x256.size a
  | ⟨0, _⟩ => show (t 0 + 1) * 1 ≤ 24 by omega
  | ⟨1, _⟩ => h1
  | ⟨2, _⟩ => show (t 2 + 1) * 256 ≤ 256 by omega

theorem inb3 (t : Fin 3 → Nat) (h0 : t 0 < 24) (h1 : (t 1 + 1) * 1024 ≤ 7168) (h2 : t 2 = 0) :
    ∀ a, (t a + 1) * S1x1024x64.size a ≤ S24x7168x64.size a
  | ⟨0, _⟩ => show (t 0 + 1) * 1 ≤ 24 by omega
  | ⟨1, _⟩ => h1
  | ⟨2, _⟩ => show (t 2 + 1) * 64 ≤ 64 by omega

/-! The index maps' values, at any contents of the tables. -/

theorem map1_0 (pf : pre0.Contents (Elt F)) (i : grid0.Coords) : cc0_transform_1 k0_off1_inb numel1_S1 pf i 0
    = (pf.at 0 (Rect.unit (s := S24) ![(Scalar.indexCast (BitVec.ofNat 32 (i 0).val)).toNat] S1.size (k0_off1_inb i)) numel1_S1 : BitVec 32).toNat := rfl
theorem map1_1 (pf : pre0.Contents (Elt F)) (i : grid0.Coords) : cc0_transform_1 k0_off1_inb numel1_S1 pf i 1 = 0 := rfl
theorem map1_2 (pf : pre0.Contents (Elt F)) (i : grid0.Coords) : cc0_transform_1 k0_off1_inb numel1_S1 pf i 2 = 0 := rfl
theorem map2_0 (pf : pre0.Contents (Elt F)) (i : grid0.Coords) : cc0_transform_2 k0_off1_inb numel1_S1 inb_S1_S1_0 pf i 0
    = (pf.at 0 (Rect.unit (s := S24) ![(Scalar.indexCast (BitVec.ofNat 32 (i 0).val)).toNat] S1.size (k0_off1_inb i)) numel1_S1 : BitVec 32).toNat := rfl
theorem map2_1 (pf : pre0.Contents (Elt F)) (i : grid0.Coords) : ∃ c : BitVec 1, cc0_transform_2 k0_off1_inb numel1_S1 inb_S1_S1_0 pf i 1
    = (Scalar.select c (BitVec.ofNat 32 (i 1).val) 6#32).toNat :=
  ⟨Scalar.cmpi .slt (BitVec.ofNat 32 (i 0).val) (pf.at 1 (Rect.unit (s := S1) ![0] S1.size inb_S1_S1_0) numel1_S1), rfl⟩
theorem map2_2 (pf : pre0.Contents (Elt F)) (i : grid0.Coords) : cc0_transform_2 k0_off1_inb numel1_S1 inb_S1_S1_0 pf i 2 = 0 := rfl
theorem map3_0 (pf : pre0.Contents (Elt F)) (i : grid0.Coords) : cc0_transform_3 k0_off1_inb numel1_S1 inb_S1_S1_0 pf i 0
    = (pf.at 0 (Rect.unit (s := S24) ![(Scalar.indexCast (BitVec.ofNat 32 (i 0).val)).toNat] S1.size (k0_off1_inb i)) numel1_S1 : BitVec 32).toNat := rfl
theorem map3_1 (pf : pre0.Contents (Elt F)) (i : grid0.Coords) : ∃ c : BitVec 1, cc0_transform_3 k0_off1_inb numel1_S1 inb_S1_S1_0 pf i 1
    = (Scalar.select c (BitVec.ofNat 32 (i 1).val) 6#32).toNat :=
  ⟨Scalar.cmpi .slt (BitVec.ofNat 32 (i 0).val) (pf.at 1 (Rect.unit (s := S1) ![0] S1.size inb_S1_S1_0) numel1_S1), rfl⟩
theorem map3_2 (pf : pre0.Contents (Elt F)) (i : grid0.Coords) : cc0_transform_3 k0_off1_inb numel1_S1 inb_S1_S1_0 pf i 2 = 0 := rfl

theorem col2_le (i : grid0.Coords) (t : Nat) (h : ∃ c : BitVec 1, t = (Scalar.select c (BitVec.ofNat 32 (i 1).val) 6#32).toNat) :
    (t + 1) * 1024 ≤ 7168 := by
  obtain ⟨c, rfl⟩ := h
  exact col_le i c

/-- The launch's blocks lie inside their arrays and move whole words, at tables whose experts are of the 24. -/
theorem ok_of (pf : pre0.Contents (Elt F))
    (h : ∀ i : grid0.Coords, (pf.at 0 (Rect.unit (s := S24) ![(Scalar.indexCast (BitVec.ofNat 32 (i 0).val)).toNat] S1.size (k0_off1_inb i)) numel1_S1
      : BitVec 32).toNat < 24) : ok0 (F := F) pf :=
  ⟨fun i => ⟨inb1 _ ((map1_0 pf i).trans_lt (h i)) (map1_1 pf i) (map1_2 pf i),
      .inr (Affine.block_words_rows (of_decide_eq_true rfl) (by decide))⟩,
    fun i => ⟨inb2 _ ((map2_0 pf i).trans_lt (h i)) (col2_le i _ (map2_1 pf i)) (map2_2 pf i), .inl rfl⟩,
    fun i => ⟨inb3 _ ((map3_0 pf i).trans_lt (h i)) (col2_le i _ (map3_1 pf i)) (map3_2 pf i),
      .inr (Affine.block_words_dvd (of_decide_eq_true rfl) (by decide))⟩⟩

/-- The launch's blocks lie inside their arrays and move whole words. -/
theorem ok : Ok m := ok_of (tbl m) (at_lt m)

/-- The precondition, read at one position. -/
theorem pos_of_pre (x : IVec S40x8 32) (hb : S_.BroadcastsInDim S40x8 (![] : Fin 0 → Fin S40x8.rank))
    (h : cmpi .slt x (broadcastInDim S40x8 ![] hb (constantI S_ 32 744#32)) = fun _ => 1#1) (i : S40x8.Idx) : (x i).toInt < 744 :=
  IntOp.cmpi_slt.1 (congrFun h i)

end Cert.DownIdeal.Body

end
-- ==== Proof.DownBitsKit.lean ====
/- THE LAUNCH OF THE DOWN PROJECTION: its host operations up to the region, the contents of its prefetched tables, the
   windows' blocks, where each window is fetched or written back, the conditions of the body's branches at a point, and the
   staging and scratch memrefs. -/
module

public import proofs.«01_k».proof.Proof.Gen.Down.Launch
public import proofs.«01_k».proof.Proof.Gen.Down.Skeleton
public import proofs.«01_k».proof.Proof.Gen.Down.Loops
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 3 (%34)) is fetched at the first point only, at any contents of the tables (its index map reads none). -/
theorem fetch0_0 (a : (pcfg0 (F := F)).Adm) : ∀ t : Fin (cfg0 a).N, ((cfg0 a).win 0).fetch t = true ↔ t.val % 168 = 0 :=
  (fun t => Pipeline.Window.fetchOf_const cc0_transform_0 (fun _ _ => rfl) (n := 168) (by decide) t : ∀ t : Fin grid0.N, Pipeline.Window.fetchOf grid0 false cc0_transform_0 t = true ↔ t.val % 168 = 0)
-- window 1: no schedule fact — its index map reads a prefetched table, so where it is fetched or written back depends on the tables' contents
-- window 2: no schedule fact — its index map reads a prefetched table, so where it is fetched or written back depends on the tables' contents
-- window 3: no schedule fact — its index map reads a prefetched table, so where it is fetched or written back depends on the tables' contents
/-- Window 4 (result 0 (%35#0)) is written back at the last point only, at any contents of the tables (its index map reads none). -/
theorem flush0_4 (a : (pcfg0 (F := F)).Adm) : ∀ t : Fin (cfg0 a).N, ((cfg0 a).win 4).flush t = true ↔ t.val % 168 = 167 :=
  (fun t => Pipeline.Window.flushOf_const cc0_transform_4 (fun _ _ => rfl) (n := 168) (by decide) rfl t : ∀ t : Fin grid0.N, Pipeline.Window.flushOf grid0 true cc0_transform_4 t = true ↔ t.val % 168 = 167)
/-- Window 5 (result 1 (%35#1)) is written back at the last point only, at any contents of the tables (its index map reads none). -/
theorem flush0_5 (a : (pcfg0 (F := F)).Adm) : ∀ t : Fin (cfg0 a).N, ((cfg0 a).win 5).flush t = true ↔ t.val % 168 = 167 :=
  (fun t => Pipeline.Window.flushOf_const cc0_transform_5 (fun _ _ => rfl) (n := 168) (by decide) rfl t : ∀ t : Fin grid0.N, Pipeline.Window.flushOf grid0 true cc0_transform_5 t = true ↔ t.val % 168 = 167)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)

/-- The kernel body at point `t`, on what the pipeline calls it with (`defs₀`'s row at the slots). -/
abbrev bodyAt0 (a : (pcfg0 (F := F)).Adm) (t : Fin (cfg0 a).N) : Prog (TpuEff nD τ sig (Elt F) (Λ₀ F) .tc) PUnit :=
  cc0_down_combine (grid0.coords t) (Memref.whole main_v32) (Memref.isWhole_whole _) (Memref.whole main_v33) (Memref.isWhole_whole _) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 3) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; `ok` (DownHost, DownBitsHost) proves it. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig (Λ₀ F) := cfg0 (adm m hO)

/-- Each table as the body is handed it: its whole buffer as a memref, and that memref's wholeness. -/
abbrev tbM0_0 : Memref sig .tc .smem S24 .i32 := Memref.whole main_v32
abbrev htbM0_0 : tbM0_0.IsWhole := Memref.isWhole_whole _
abbrev tbM0_1 : Memref sig .tc .smem S1 .i32 := Memref.whole main_v33
abbrev htbM0_1 : tbM0_1.IsWhole := Memref.isWhole_whole _
abbrev tbM0_2 : Memref sig .tc .smem S320 .i32 := Memref.whole main_v0
abbrev htbM0_2 : tbM0_2.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (the frame, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 1 rfl).trans ((hA c 1).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 2 rfl).trans ((hA c 2).trans (V_main_arg3 m c)),
      (Pipeline.RDat.FramePost.arr_in h c 3 rfl).trans ((hA c 3).trans (V_main_arg4 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin grid0.N, cond0_0 (grid0.coords t) ↔ t.val % 168 = 0 :=
  (fun t => by
    have ht : t.val < 168 := Nat.lt_of_lt_of_eq t.isLt N_0
    have e0 : (grid0.coords t 0).val = t.val / 7 % 24 := Pipeline.Grid.coords_val t 0 (by decide) rfl
    have e1 : (grid0.coords t 1).val = t.val / 1 % 7 := Pipeline.Grid.coords_val t 1 (by decide) rfl
    simp only [cond0_0, e0, e1]
    word_cmp
   : ∀ t : Fin grid0.N, cond0_0 (grid0.coords t) ↔ t.val % 168 = 0)

/-- The condition of the body's `scf.if` 1: over WORDS the body reads from its tables or input SMEM windows
    (`v5`), so no function of the point — a case variable: a hypothesis of each run, a `by_cases`
    of the obligation and an `if` of `outsAt`, stated over the argument blocks' words there. -/
abbrev cond0_1 (i : grid0.Coords) (v5 : BitVec 32) : Prop := (Scalar.cmpi .ne (Scalar.extui (Scalar.cmpi .slt (BitVec.ofNat 32 (i 0).val) v5)) 0#32) = 1#1

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin grid0.N, cond0_2 (grid0.coords t) ↔ t.val % 168 = 167 :=
  (fun t => by
    have ht : t.val < 168 := Nat.lt_of_lt_of_eq t.isLt N_0
    have e0 : (grid0.coords t 0).val = t.val / 7 % 24 := Pipeline.Grid.coords_val t 0 (by decide) rfl
    have e1 : (grid0.coords t 1).val = t.val / 1 % 7 := Pipeline.Grid.coords_val t 1 (by decide) rfl
    simp only [cond0_2, k0_cond3, e0, e1]
    word_cmp
   : ∀ t : Fin grid0.N, cond0_2 (grid0.coords t) ↔ t.val % 168 = 167)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S744 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x31x2048 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x256 .i32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x64 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S40x7168 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S40x56 .f32 := spec0_5.stage ((cfgM m hO).slots t 5)
abbrev hs0_5 (hO : Ok m) (t : Fin (cfgM m hO).N) : (ms0_5 m hO t).IsWhole := hstage0_5 (((cfgM m hO).slots t 5).cast nbuf0_5)
/-- The scratch operands: whole scoped buffers of the kernel's own, passed beside the windows. -/
abbrev scM0_0 : Memref sig .tc .vmem S64x256 .bf16 := Memref.whole cc0_scratch0
abbrev scM0_1 : Memref sig .tc .vmem S8x32x128 .f32 := Memref.whole cc0_scratch1
abbrev scM0_2 : Memref sig .tc .vmem S56x40x128 .f32 := Memref.whole cc0_scratch2
abbrev scM0_3 : Memref sig .tc .smem S25 .i32 := Memref.whole cc0_scratch3
abbrev scM0_4 : Memref sig .tc .smem S320 .i32 := Memref.whole cc0_scratch4
/-- The scratch `arg13` the kernel carries between points, as a view: what it holds is stated through it. -/
abbrev VS0_2 : View sig .tc .vmem S56x40x128 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Down.Body

end
-- ==== Proof.DownBitsWords.lean ====
/- THE WORDS OF THE DOWN PROJECTION: which expert a position belongs to, the lists that its link loop builds, and the
   offsets of its loads and stores as numbers. -/
module

public import proofs.«01_k».proof.Proof.DownBitsKit
public import Idealize.ShloMosaic.Lib.CellWrites.SmemRing
public import Idealize.ShloMosaic.Lib.VecWindow

@[expose] public section

set_option maxRecDepth 16384

noncomputable section

namespace Cert.Down.Body

open Cert.Down Cert.Down.Gen
open Idealize.ShloMosaic
open Idealize.ShloMosaic.CellWrites.SmemRing

/-- The expert of a row: 31 rows each, and 24 for a position that is not routed. -/
def own (w : BitVec 32) : ℕ := if 0 ≤ w.toInt then w.toNat / 31 else 24

/-- The last position before `n` of expert `e`, or -1. -/
def last (pos : Fin 320 → BitVec 32) (e : ℕ) : ℕ → BitVec 32
  | 0 => 4294967295#32
  | n + 1 => if h : n < 320 then (if own (pos ⟨n, h⟩) = e then BitVec.ofNat 32 n else last pos e n) else last pos e n

theorem nonneg_lt {w : BitVec 32} (h0 : 0 ≤ w.toInt) (h : w.toInt < 744) : w.toNat < 744 := by
  have := BitVec.toInt_eq_toNat_cond w
  have h3 := w.isLt
  split at this <;> omega

theorem own_lt {w : BitVec 32} (h : w.toInt < 744) : own w < 25 := by
  unfold own
  split
  · have := nonneg_lt ‹_› h; omega
  · decide

theorem off4_pos : ∀ n : Fin 744, k0_off4 (BitVec.ofNat 32 n.val) 0 = n.val / 31 := by
  decide +kernel

theorem off4_eq {w : BitVec 32} (h : w.toInt < 744) : k0_off4 w 0 = own w := by
  unfold own
  split
  · rename_i h0
    have hn := nonneg_lt h0 h
    have := off4_pos ⟨w.toNat, hn⟩
    simpa using this
  · rename_i h0
    have : Scalar.cmpi .sge w 0#32 = 0#1 := by
      have hs : BitVec.sle 0#32 w = false := by simp [BitVec.sle]; omega
      simp [Scalar.cmpi, IntOp.cmpi, hs]
    show (Scalar.indexCast (Scalar.select (Scalar.cmpi .sge w 0#32) _ 24#32)).toNat = 24
    rw [this]
    rfl

theorem chk1_of (i : grid0.Coords) {w : BitVec 32} (h : w.toInt < 744) : k0_chk1 i w := by
  intro _ a
  have : a = 0 := Subsingleton.elim _ _
  subst this
  rw [off4_eq h]
  exact own_lt h

/-- The row of a position's token does not depend on the point. -/
theorem off11_any (i i' : grid0.Coords) (p : BitVec 32) : k0_off11 i p 1 = k0_off11 i' p 1 := by
  unfold k0_off11
  rfl

theorem off11_at : ∀ p : Fin 320, k0_off11 (grid0.coords ⟨0, by decide⟩) (BitVec.ofNat 32 p.val) 1 = p.val / 8 := by
  decide +kernel

theorem off11_aux (p : Fin 320) (i : grid0.Coords) : k0_off11 i (BitVec.ofNat 32 p.val) 1 = p.val / 8 :=
  (off11_any i _ _).trans (off11_at p)

theorem off11_zero (i : grid0.Coords) (p : BitVec 32) : k0_off11 i p 0 = 8 * (i 1).val := by
  have h : ∀ j : Fin 7, (Scalar.indexCast (Scalar.muli (BitVec.ofNat 32 j.val) 8#32)).toNat = 8 * j.val := by decide
  exact h ⟨(i 1).val, (i 1).isLt⟩

theorem off11_eq (i : grid0.Coords) {p : ℕ} (hp : p < 320) : k0_off11 i (BitVec.ofNat 32 p) = ![8 * (i 1).val, p / 8, 0] := by
  funext a
  fin_cases a
  · exact off11_zero i _
  · exact off11_aux ⟨p, hp⟩ i
  · rfl

theorem off13_eq (i : grid0.Coords) (p : BitVec 32) : k0_off13 i p = k0_off11 i p := rfl

theorem off8_eq {p : ℕ} (hp : p < 320) : k0_off8 (BitVec.ofNat 32 p) = ![p] := by
  funext a
  fin_cases a
  show (BitVec.ofNat 32 p).toNat = p
  rw [BitVec.toNat_ofNat]; omega

theorem off14_eq (p : BitVec 32) : k0_off14 p = k0_off8 p := rfl

theorem chk3_of (i : grid0.Coords) {p : ℕ} (hp : p < 320) : k0_chk3 i (BitVec.ofNat 32 p) := by
  have hi : (i 1).val < 7 := (i 1).isLt
  have h11 : ∀ a, (k0_off11 i (BitVec.ofNat 32 p)) a + S8x1x128.size a ≤ S56x40x128.size a := by
    rw [off11_eq i hp]
    intro a
    fin_cases a
    · show 8 * (i 1).val + 8 ≤ 56; omega
    · show p / 8 + 1 ≤ 40; omega
    · show 0 + 128 ≤ 128; omega
  have h8 : ∀ a, (k0_off8 (BitVec.ofNat 32 p)) a + S1.size a ≤ S320.size a := by
    rw [off8_eq hp]
    intro a
    fin_cases a
    show p + 1 ≤ 320; omega
  exact ⟨h8, h11, h11, h8⟩

theorem chk4_of {w : BitVec 32} (h0 : 0 ≤ w.toInt) (h : w.toInt < 744) : k0_chk4 w := by
  intro a
  have : a = 0 := Subsingleton.elim _ _
  subst this
  show w.toNat + 1 ≤ 744
  exact nonneg_lt h0 h

theorem off12_aux : ∀ n : Fin 744, ∀ a, k0_off12 (BitVec.ofNat 32 n.val) (BitVec.ofNat 32 (n.val / 31)) a = (![0, n.val % 31, 0] : Fin 3 → ℕ) a := by
  decide +kernel

theorem off12_eq {w o : BitVec 32} (h0 : 0 ≤ w.toInt) (h : w.toInt < 744) (ho : o.toNat = w.toNat / 31) :
    k0_off12 w o = ![0, w.toNat % 31, 0] := by
  have hn := nonneg_lt h0 h
  have e : o = BitVec.ofNat 32 (w.toNat / 31) := by rw [← ho]; simp
  have := off12_aux ⟨w.toNat, hn⟩
  funext a
  rw [e]
  simpa using this a

theorem chk5_of {w o : BitVec 32} (h0 : 0 ≤ w.toInt) (h : w.toInt < 744) (ho : o.toNat = w.toNat / 31) : k0_chk5 w o := by
  unfold k0_chk5
  rw [off12_eq h0 h ho]
  intro a
  fin_cases a
  · show 0 + 8 ≤ 8; omega
  · show w.toNat % 31 + 1 ≤ 32; omega
  · show 0 + 128 ≤ 128; omega

theorem chk2_of {o : BitVec 32} (h : o.toNat < 24) : k0_chk2 o := by
  intro a
  have : a = 0 := Subsingleton.elim _ _
  subst this
  show o.toNat + 1 ≤ 25
  omega

end Cert.Down.Body

end
-- ==== Proof.DownBitsLink.lean ====
/- THE LINK LOOP: it leaves in the word array `head` the last position of each expert and in `next`, for each position,
   the one before it of the same expert. -/
module

public import proofs.«01_k».proof.Proof.DownBitsWords

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)

theorem update_at {n : ℕ} (f : Fin n → BitVec 32) (a : ℕ) (ha : a < n) {e : Fin n} (p : BitVec 32) (h : a = e.val) :
    Function.update f ⟨a, ha⟩ p e = p := by
  subst h
  exact Function.update_self _ _ _

theorem update_off {n : ℕ} (f : Fin n → BitVec 32) (a : ℕ) (ha : a < n) {e : Fin n} (p : BitVec 32) (h : ¬a = e.val) :
    Function.update f ⟨a, ha⟩ p e = f e :=
  Function.update_of_ne (fun h' => h (congrArg Fin.val h').symm) _ _

/-- The words linked so far. -/
def Linked (pos : Fin 320 → BitVec 32) (k : ℕ) (head : Fin 25 → BitVec 32) (next : Fin 320 → BitVec 32) : Prop :=
  (∀ e : Fin 25, head e = last pos e.val k) ∧ ∀ q : Fin 320, q.val < k → next q = last pos (own (pos q)) q.val

theorem trip_link (𝒱 : Variants) (bd : Option 𝒱.V) (E : Set ℕ) (h1 : k0_cond1 i = 1#1) (k : Fin k0_t2_loop.trips) (q : PosShare TreeShare)
    (f4 : arg4.view.ty.Contents (Elt F)) (f14 : arg14.view.ty.Contents (Elt F)) (f15 : arg15.view.ty.Contents (Elt F))
    (hpos : ∀ p, (cells arg4 f4 p).toInt < 744) (hl : Linked (cells arg4 f4) k.val (cells arg14 f14) (cells arg15 f15)) :
    (iprop((arg4.view.loc (c : Thread nD τ) ↦[arg4.view.set]{q} f4) ∗ (arg14.view.loc (c : Thread nD τ) ↦[arg14.view.set]{fullShare} f14)
      ∗ (arg15.view.loc (c : Thread nD τ) ↦[arg15.view.set]{fullShare} f15)) : sProp 𝕄)
    ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 h1 k ())
        (fun _ => iprop((arg4.view.loc (c : Thread nD τ) ↦[arg4.view.set]{q} f4)
          ∗ ∃ f14 f15, (arg14.view.loc (c : Thread nD τ) ↦[arg14.view.set]{fullShare} f14)
            ∗ (arg15.view.loc (c : Thread nD τ) ↦[arg15.view.set]{fullShare} f15)
            ∗ ⌜Linked (cells arg4 f4) (k.val + 1) (cells arg14 f14) (cells arg15 f15)⌝)) := by
  have hk : k.val < 320 := Nat.lt_of_lt_of_le k.isLt k0_t2_abs.2.1
  have hiv : Scf.iv 0#32 1#32 k = BitVec.ofNat 32 k.val := by simp [Scf.iv]
  have ho3 : k0_off3 k 0 = k.val := by
    show (Scf.iv 0#32 1#32 k).toNat = k.val
    rw [hiv, BitVec.toNat_ofNat]; omega
  have hw : View.readAt (Elt F) arg4.view (Rect.unit (s := S320) (k0_off3 k) S1.size (k0_off3_inb i k h1)).toLoadRect f4
      (Shape.Idx.first (numel1_S1.symm ▸ Nat.one_pos)) = cells arg4 f4 ⟨k.val, hk⟩ := by
    refine (readAt_cell arg4 f4 (k0_off3 k) (k0_off3_inb i k h1) (by rw [ho3]; exact hk)).trans ?_
    congr 1
    exact Fin.ext ho3
  have hc1 : k0_chk1 i (View.readAt (Elt F) arg4.view (Rect.unit (s := S320) (k0_off3 k) S1.size (k0_off3_inb i k h1)).toLoadRect f4
      (Shape.Idx.first (numel1_S1.symm ▸ Nat.one_pos))) := by rw [hw]; exact chk1_of i (hpos _)
  unfold k0_t2_body
  iintro ⟨H4, H14, H15⟩
  sl_exec (disch := first | sl_exact hc1)
  sl_step
  have hne : ∀ e : Fin 25, last (cells arg4 f4) e.val (k.val + 1)
      = if own (cells arg4 f4 ⟨k.val, hk⟩) = e.val then BitVec.ofNat 32 k.val else last (cells arg4 f4) e.val k.val := fun e => by
    rw [last, dif_pos hk]
  have ho4 : k0_off4 (trip_link.sl.r i arg4 h1 k f4) 0 = own (cells arg4 f4 ⟨k.val, hk⟩) := by
    rw [← off4_eq (hpos _), ← hw]; rfl
  have ho5 : k0_off5 k 0 = k.val := ho3
  have hown : own (cells arg4 f4 ⟨k.val, hk⟩) < 25 := own_lt (hpos _)
  have hr1 : trip_link.sl.r_1 i arg4 arg14 h1 k f4 f14 hc1 = last (cells arg4 f4) (own (cells arg4 f4 ⟨k.val, hk⟩)) k.val := by
    refine (readAt_cell arg14 f14 _ (k0_off4_inb i _ hc1 h1) (lt_of_eq_of_lt ho4 hown)).trans ?_
    rw [hl.1]
    exact congrArg (fun e => last (cells arg4 f4) e k.val) ho4
  isplitl [H4]; · iexact H4
  iexists _; iexists _
  isplitl [H14]; · iexact H14
  isplitl [H15]; · iexact H15
  ipureintro
  refine ⟨fun e => ?_, fun p hp => ?_⟩
  · rw [cells_writes_cons arg14 f14 _ _ (lt_of_eq_of_lt ho4 hown), cells_writes_nil, hne]
    by_cases he : own (cells arg4 f4 ⟨k.val, hk⟩) = e.val
    · rw [if_pos he, update_at _ _ _ _ (ho4.trans he)]
      exact hiv
    · rw [if_neg he, update_off _ _ _ _ (fun h => he (ho4.symm.trans h)), hl.1]
  · rw [cells_writes_cons arg15 f15 _ _ (by rw [ho5]; exact hk), cells_writes_nil]
    by_cases he : p.val = k.val
    · obtain rfl : p = ⟨k.val, hk⟩ := Fin.ext he
      refine (update_at _ _ _ _ ho5).trans hr1
    · rw [Function.update_of_ne (fun h => he ((congrArg Fin.val h).trans ho5)), hl.2 p (by omega)]

/-- The loop's invariant before trip `k`. -/
def linkInv (q : PosShare TreeShare) (f4 : arg4.view.ty.Contents (Elt F)) (k : ℕ) (_ : Unit) : sProp 𝕄 :=
  iprop(⌜∀ p, (cells arg4 f4 p).toInt < 744⌝ ∗ (arg4.view.loc (c : Thread nD τ) ↦[arg4.view.set]{q} f4)
    ∗ ∃ f14 f15, (arg14.view.loc (c : Thread nD τ) ↦[arg14.view.set]{fullShare} f14)
      ∗ (arg15.view.loc (c : Thread nD τ) ↦[arg15.view.set]{fullShare} f15)
      ∗ ⌜Linked (cells arg4 f4) k (cells arg14 f14) (cells arg15 f15)⌝)

@[reducible] def linkLoop (𝒱 : Variants) (bd : Option 𝒱.V) (E : Set ℕ) (h1 : k0_cond1 i = 1#1) (q : PosShare TreeShare)
    (f4 : arg4.view.ty.Contents (Elt F)) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 h1 where
  inv := linkInv c arg4 arg14 arg15 q f4
  step k acc := by
    unfold linkInv
    iintro ⟨%hpos, H4, %f14, %f15, H14, H15, %hl⟩
    iapply (wp_wand_r Idealize.ShloMosaic.frame (wpE (defs₀ (F := F)) 𝒱 (c : Thread nD τ) bd) E)
    isplitl [H4 H14 H15]
    · iapply (trip_link c i arg2 harg2 arg3 harg3 arg4 harg4 arg5 harg5 arg6 harg6 arg7 harg7 arg8 harg8 arg9 harg9 arg10 harg10 arg11 harg11 arg12 harg12 arg13 harg13 arg14 harg14 arg15 harg15 𝒱 bd E h1 k q f4 f14 f15 hpos hl)
      isplitl [H4]; · iexact H4
      isplitl [H14]; · iexact H14
      iexact H15
    · iintro %_ ⟨H4, H⟩
      isplitr; · ipureintro; exact hpos
      isplitl [H4]; · iexact H4
      iexact H

/-! ### The clear loop -/

theorem trip_clear (𝒱 : Variants) (bd : Option 𝒱.V) (E : Set ℕ) (h1 : k0_cond1 i = 1#1) (k : Fin k0_t1_loop.trips)
    (f14 : arg14.view.ty.Contents (Elt F)) (hl : ∀ e : Fin 25, e.val < k.val → cells arg14 f14 e = 4294967295#32) :
    ((arg14.view.loc (c : Thread nD τ) ↦[arg14.view.set]{fullShare} f14) : sProp 𝕄)
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 h1 k ())
        (fun _ => iprop(∃ f14, (arg14.view.loc (c : Thread nD τ) ↦[arg14.view.set]{fullShare} f14)
            ∗ ⌜∀ e : Fin 25, e.val < k.val + 1 → cells arg14 f14 e = 4294967295#32⌝)) := by
  have hk : k.val < 25 := Nat.lt_of_lt_of_le k.isLt k0_t1_abs.2.1
  have hiv : Scf.iv 0#32 1#32 k = BitVec.ofNat 32 k.val := by simp [Scf.iv]
  have ho2 : k0_off2 k 0 = k.val := by
    show (Scf.iv 0#32 1#32 k).toNat = k.val
    rw [hiv, BitVec.toNat_ofNat]; omega
  unfold k0_t1_body
  iintro H14
  sl_exec
  sl_step
  iexists _
  isplitl [H14]; · iexact H14
  ipureintro
  intro e he
  rw [cells_writes_cons arg14 f14 _ _ (by rw [ho2]; exact hk), cells_writes_nil]
  by_cases h : e.val = k.val
  · rw [show (⟨k0_off2 k 0, by rw [ho2]; exact hk⟩ : Fin 25) = e from Fin.ext (ho2.trans h.symm), Function.update_self]
  · rw [Function.update_of_ne (fun h' => h ((congrArg Fin.val h').trans ho2)), hl e (by omega)]

@[reducible] def clearLoop (𝒱 : Variants) (bd : Option 𝒱.V) (E : Set ℕ) (h1 : k0_cond1 i = 1#1) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 h1 where
  inv k _ := iprop(∃ f14, (arg14.view.loc (c : Thread nD τ) ↦[arg14.view.set]{fullShare} f14)
            ∗ ⌜∀ e : Fin 25, e.val < k → cells arg14 f14 e = 4294967295#32⌝)
  step k acc := by
    iintro ⟨%f14, H14, %hl⟩
    iapply (trip_clear c i arg2 harg2 arg3 harg3 arg4 harg4 arg5 harg5 arg6 harg6 arg7 harg7 arg8 harg8 arg9 harg9 arg10 harg10 arg11 harg11 arg12 harg12 arg13 harg13 arg14 harg14 arg15 harg15 𝒱 bd E h1 k f14 hl)
    iexact H14

/-! ### What the first point does before anything else -/

/-- The part of the body that the first point alone runs, before `rest`. -/
abbrev initSeg (h1 : k0_cond1 i = 1#1) {β : Type} (rest : Prog (TpuEff nD τ sig (Elt F) (Λ₀ F) .tc) β) :
    Prog (TpuEff nD τ sig (Elt F) (Λ₀ F) .tc) β := do
  let _ : Vec F S56x40x128 .f32 ← Prog.lift (.load arg13 (Rect.unit (s := S56x40x128) ![0, 0, 0] S56x40x128.size inb_S56x40x128_S56x40x128_0_0_0).toLoadRect (View.loadsAt_vmem h_S56x40x128))
  Prog.lift (.store arg13 (Rect.unit (s := S56x40x128) ![0, 0, 0] S56x40x128.size inb_S56x40x128_S56x40x128_0_0_0) (k0_pay1 (F := F)) Finset.univ (View.stores_vmem_bits_univ h_S56x40x128 rfl) (.inl rfl))
  Scf.Loop.for k0_t1_loop (k0_t1_ok i h1) ⟨⟩ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 h1)
  Scf.Loop.for k0_t2_loop (k0_t2_ok i h1) ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 h1)
  rest

set_option maxHeartbeats 1000000 in
theorem run_init (𝒱 : Variants) (bd : Option 𝒱.V) (E : Set ℕ) (h1 : k0_cond1 i = 1#1) (q : PosShare TreeShare)
    (f4 : arg4.view.ty.Contents (Elt F)) (f13 : arg13.view.ty.Contents (Elt F)) (f14 : arg14.view.ty.Contents (Elt F))
    (f15 : arg15.view.ty.Contents (Elt F)) (hpos : ∀ p, (cells arg4 f4 p).toInt < 744)
    {β : Type} (rest : Prog (TpuEff nD τ sig (Elt F) (Λ₀ F) .tc) β) (K : β → sProp 𝕄) :
    (iprop((arg4.view.loc (c : Thread nD τ) ↦[arg4.view.set]{q} f4)
      ∗ (arg13.view.loc (c : Thread nD τ) ↦[arg13.view.set]{fullShare} f13)
      ∗ (arg14.view.loc (c : Thread nD τ) ↦[arg14.view.set]{fullShare} f14)
      ∗ (arg15.view.loc (c : Thread nD τ) ↦[arg15.view.set]{fullShare} f15)
      ∗ (∀ f13 f14 f15, ((arg4.view.loc (c : Thread nD τ) ↦[arg4.view.set]{q} f4)
          ∗ (arg13.view.loc (c : Thread nD τ) ↦[arg13.view.set]{fullShare} f13)
          ∗ (arg14.view.loc (c : Thread nD τ) ↦[arg14.view.set]{fullShare} f14)
          ∗ (arg15.view.loc (c : Thread nD τ) ↦[arg15.view.set]{fullShare} f15)
          ∗ ⌜arg13.view.read (Elt F) f13 = k0_pay1⌝ ∗ ⌜Linked (cells arg4 f4) 320 (cells arg14 f14) (cells arg15 f15)⌝)
          -∗ wp frame (wpE (defs₀ (F := F)) 𝒱 (c : Thread nD τ) bd) E rest K)) : sProp 𝕄)
    ⊢ wp frame (wpE (defs₀ (F := F)) 𝒱 (c : Thread nD τ) bd) E (initSeg i arg2 harg2 arg3 harg3 arg4 harg4 arg5 harg5 arg6 harg6 arg7 harg7 arg8 harg8 arg9 harg9 arg10 harg10 arg11 harg11 arg12 harg12 arg13 harg13 arg14 harg14 arg15 harg15 h1 rest) K := by
  have ht1 : k0_t1_loop.trips = 25 := by decide
  have ht2 : k0_t2_loop.trips = 320 := by decide
  unfold initSeg
  simp only [Prog.lift, Prog.bind_op, Prog.bind_ret, Prog.pure_eq_ret]
  iintro ⟨H4, H13, H14, H15, Hk⟩
  iapply (wp_load 𝒱 (c : Thread nD τ) bd E (m := arg13) (View.setOn_subset_set _ _)) $$ H13; iintro H13
  iapply (wp_store 𝒱 (c : Thread nD τ) bd E (m := arg13) (r := Rect.unit (s := S56x40x128) ![0, 0, 0] S56x40x128.size inb_S56x40x128_S56x40x128_0_0_0) (Mk := Finset.univ) (by
    rw [View.setOn_univ, View.set_slice]; exact View.setOn_subset_set _ _)) $$ H13; iintro H13
  iapply (exec_loop Idealize.ShloMosaic.frame (wpE (defs₀ (F := F)) 𝒱 (c : Thread nD τ) bd) E _ _ _ _ _ _ (clearLoop c i arg2 harg2 arg3 harg3 arg4 harg4 arg5 harg5 arg6 harg6 arg7 harg7 arg8 harg8 arg9 harg9 arg10 harg10 arg11 harg11 arg12 harg12 arg13 harg13 arg14 harg14 arg15 harg15 𝒱 bd E h1)) $$ [H14]
  · unfold clearLoop
    dsimp only
    iexists _
    isplitl [H14]; · iexact H14
    ipureintro
    intro e he
    exact absurd he (Nat.not_lt_zero _)
  unfold clearLoop
  dsimp only
  iintro %_ ⟨%f14', H14, %h14⟩
  iapply (exec_loop Idealize.ShloMosaic.frame (wpE (defs₀ (F := F)) 𝒱 (c : Thread nD τ) bd) E _ _ _ _ _ _ (linkLoop c i arg2 harg2 arg3 harg3 arg4 harg4 arg5 harg5 arg6 harg6 arg7 harg7 arg8 harg8 arg9 harg9 arg10 harg10 arg11 harg11 arg12 harg12 arg13 harg13 arg14 harg14 arg15 harg15 𝒱 bd E h1 q f4)) $$ [H4 H14 H15]
  · unfold linkLoop
    dsimp only
    unfold linkInv
    isplitr; · ipureintro; exact hpos
    isplitl [H4]; · iexact H4
    iexists _; iexists _
    isplitl [H14]; · iexact H14
    isplitl [H15]; · iexact H15
    ipureintro
    exact ⟨fun e => h14 e (lt_of_lt_of_eq e.isLt ht1.symm), fun q hq => absurd hq (Nat.not_lt_zero _)⟩
  unfold linkLoop
  dsimp only
  unfold linkInv
  iintro %_ ⟨-, H4, %f14'', %f15', H14, H15, %hl⟩
  have hl' : ∀ n, Scf.trips (0#32) (Scalar.addi 0#32 320#32) 1#32 = n → Linked (cells arg4 f4) n (cells arg14 f14'') (cells arg15 f15') :=
    fun n e => by subst e; exact hl
  iapply Hk
  isplitl [H4]; · iexact H4
  isplitl [H13]; · iexact H13
  isplitl [H14]; · iexact H14
  isplitl [H15]; · iexact H15
  isplitr
  · ipureintro
    exact View.read_writes_full arg13.view f13 inb_S56x40x128_S56x40x128_0_0_0 _ []
  · ipureintro; exact hl' 320 (by decide)

end Cert.Down.Body

end
-- ==== Proof.DownBitsWhile.lean ====
/- THE COMBINING LOOP: entered at the last position of an expert before `n`, it adds the rows of all its positions before `n`
   to their tokens. -/
module

public import proofs.«01_k».proof.Proof.DownBitsLink
public import Idealize.ShloMosaic.Lib.Pipeline.Value

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

/-! ### What one position adds -/

/-- The kernel's constant 2.827. -/
abbrev routed : F .f32 := Scalar.ofBits .f32 0x4034ED91#32

/-- Row `n` of the projected tile. -/
def yIdx (j : ℕ) (n : ℕ) (y : S56x40x128.Idx) : S8x32x128.Idx := fun a => match a with
  | ⟨0, _⟩ => ⟨((y 0).val - 8 * j) % 8, Nat.mod_lt _ (by decide)⟩
  | ⟨1, _⟩ => ⟨n % 31, show n % 31 < 32 from (Nat.mod_lt n (by decide)).trans (by decide)⟩
  | ⟨2, _⟩ => y 2

/-- The combination after position `p` of tile `j` is added. -/
def addPos (j : ℕ) (pos : Fin 320 → BitVec 32) (wt : Fin 744 → F .f32) (Y : Vec F S8x32x128 .f32) (p : ℕ) (hp : p < 320)
    (C : Vec F S56x40x128 .f32) : Vec F S56x40x128 .f32 := fun y =>
  if 8 * j ≤ (y 0).val ∧ (y 0).val < 8 * j + 8 ∧ (y 1).val = p / 8 then
    FloatOps.addf (C y) (FloatOps.mulf (Y (yIdx j (pos ⟨p, hp⟩).toNat y)) (Scalar.mulf (wt ⟨(pos ⟨p, hp⟩).toNat % 744, Nat.mod_lt _ (by decide)⟩) routed))
  else C y

/-- The combination after all positions before `n` of expert `e` are added, the last first. -/
def addAll (j : ℕ) (pos : Fin 320 → BitVec 32) (wt : Fin 744 → F .f32) (Y : Vec F S8x32x128 .f32) (e : ℕ) :
    ℕ → Vec F S56x40x128 .f32 → Vec F S56x40x128 .f32
  | 0, C => C
  | n + 1, C => if h : n < 320 then (if own (pos ⟨n, h⟩) = e then addAll j pos wt Y e n (addPos j pos wt Y n h C) else addAll j pos wt Y e n C)
      else addAll j pos wt Y e n C

theorem last_cases (j : ℕ) (pos : Fin 320 → BitVec 32) (wt : Fin 744 → F .f32) (Y : Vec F S8x32x128 .f32) (e : ℕ) : ∀ n,
    (last pos e n = 4294967295#32 ∧ ∀ C, addAll j pos wt Y e n C = C)
    ∨ ∃ p, ∃ hp : p < 320, p < n ∧ last pos e n = BitVec.ofNat 32 p ∧ own (pos ⟨p, hp⟩) = e
        ∧ ∀ C, addAll j pos wt Y e n C = addAll j pos wt Y e p (addPos j pos wt Y p hp C)
  | 0 => .inl ⟨rfl, fun _ => rfl⟩
  | n + 1 => by
    by_cases h : n < 320
    · by_cases ho : own (pos ⟨n, h⟩) = e
      · refine .inr ⟨n, h, Nat.lt_succ_self n, ?_, ho, fun C => ?_⟩
        · rw [last, dif_pos h, if_pos ho]
        · rw [addAll, dif_pos h, if_pos ho]
      · rcases last_cases j pos wt Y e n with ⟨h1, h2⟩ | ⟨p, hp, h1, h2, h3, h4⟩
        · refine .inl ⟨by rw [last, dif_pos h, if_neg ho, h1], fun C => by rw [addAll, dif_pos h, if_neg ho, h2]⟩
        · refine .inr ⟨p, hp, by omega, by rw [last, dif_pos h, if_neg ho, h2], h3, fun C => by rw [addAll, dif_pos h, if_neg ho, h4]⟩
    · rcases last_cases j pos wt Y e n with ⟨h1, h2⟩ | ⟨p, hp, h1, h2, h3, h4⟩
      · refine .inl ⟨by rw [last, dif_neg h, h1], fun C => by rw [addAll, dif_neg h, h2]⟩
      · refine .inr ⟨p, hp, by omega, by rw [last, dif_neg h, h2], h3, fun C => by rw [addAll, dif_neg h, h4]⟩

theorem own_cases {w : BitVec 32} {e : ℕ} (he : e < 24) (h : own w = e) : 0 ≤ w.toInt ∧ w.toNat / 31 = e := by
  unfold own at h
  split at h
  · exact ⟨‹_›, h⟩
  · omega

/-- The store of one trip is `addPos`. -/
theorem put_eq (i : grid0.Coords) (pos : Fin 320 → BitVec 32) (wt : Fin 744 → F .f32) (Y : Vec F S8x32x128 .f32) (p : ℕ) (hp : p < 320)
    (hn : (pos ⟨p, hp⟩).toNat < 744) (C : Vec F S56x40x128 .f32) (inb inbY) :
    VecWindow.put (s := S56x40x128) C ![8 * (i 1).val, p / 8, 0] S8x1x128.size
      (k0_pay564 (wt ⟨(pos ⟨p, hp⟩).toNat, hn⟩) (VecWindow.window C ![8 * (i 1).val, p / 8, 0] S8x1x128.size inb)
        (VecWindow.window Y ![0, (pos ⟨p, hp⟩).toNat % 31, 0] S8x1x128.size inbY)) = addPos (i 1).val pos wt Y p hp C := by
  funext y
  unfold VecWindow.put addPos
  have hiff : (∀ a, (![8 * (i 1).val, p / 8, 0] : Fin 3 → ℕ) a ≤ (y a).val ∧ (y a).val < (![8 * (i 1).val, p / 8, 0] : Fin 3 → ℕ) a + S8x1x128.size a)
      ↔ (8 * (i 1).val ≤ (y 0).val ∧ (y 0).val < 8 * (i 1).val + 8 ∧ (y 1).val = p / 8) := by
    constructor
    · intro h
      have h0 := h 0; have h1 := h 1
      have e0 : (![8 * (i 1).val, p / 8, 0] : Fin 3 → ℕ) 0 = 8 * (i 1).val := rfl
      have e1 : (![8 * (i 1).val, p / 8, 0] : Fin 3 → ℕ) 1 = p / 8 := rfl
      have s0 : S8x1x128.size 0 = 8 := rfl
      have s1 : S8x1x128.size 1 = 1 := rfl
      rw [e0, s0] at h0; rw [e1, s1] at h1
      omega
    · rintro ⟨h0, h1, h2⟩ a
      have hy2 : (y 2).val < 128 := (y 2).isLt
      fin_cases a
      · exact ⟨h0, h1⟩
      · exact ⟨h2.ge, by show (y 1).val < p / 8 + 1; omega⟩
      · exact ⟨Nat.zero_le _, by show (y 2).val < 0 + 128; omega⟩
  by_cases h : ∀ a, (![8 * (i 1).val, p / 8, 0] : Fin 3 → ℕ) a ≤ (y a).val ∧ (y a).val < (![8 * (i 1).val, p / 8, 0] : Fin 3 → ℕ) a + S8x1x128.size a
  · rw [dif_pos h, if_pos (hiff.mp h)]
    obtain ⟨h0, h1, h2⟩ := hiff.mp h
    unfold k0_pay564
    rw [show ∀ v : FVec F S8x1x128 .f32, shapeCast S8x1x128 v shapeCasts_S8x1x128_S8x1x128 = v from fun v => funext fun z => congrArg v (Shape.reshapeEquiv_self _ z)]
    have ec : ∀ z, z = (Rect.unitLocal (s := S56x40x128) (off := ![8 * (i 1).val, p / 8, 0]) (size := S8x1x128.size) y h) →
        VecWindow.window C ![8 * (i 1).val, p / 8, 0] S8x1x128.size inb z = C y := by
      rintro z rfl
      exact congrArg C (funext fun a => Fin.ext (by
        show (![8 * (i 1).val, p / 8, 0] : Fin 3 → ℕ) a + 1 * ((y a).val - (![8 * (i 1).val, p / 8, 0] : Fin 3 → ℕ) a) = (y a).val
        have := (h a).1; omega))
    have ey : ∀ z, z = (Rect.unitLocal (s := S56x40x128) (off := ![8 * (i 1).val, p / 8, 0]) (size := S8x1x128.size) y h) →
        VecWindow.window Y ![0, (pos ⟨p, hp⟩).toNat % 31, 0] S8x1x128.size inbY z = Y (yIdx (i 1).val (pos ⟨p, hp⟩).toNat y) := by
      rintro z rfl
      refine congrArg Y (funext fun a => Fin.ext ?_)
      fin_cases a
      · show 0 + 1 * ((y 0).val - 8 * (i 1).val) = ((y 0).val - 8 * (i 1).val) % 8; omega
      · show (pos ⟨p, hp⟩).toNat % 31 + 1 * ((y 1).val - p / 8) = (pos ⟨p, hp⟩).toNat % 31; omega
      · show 0 + 1 * ((y 2).val - 0) = (y 2).val; omega
    have er : wt ⟨(pos ⟨p, hp⟩).toNat, hn⟩ = wt ⟨(pos ⟨p, hp⟩).toNat % 744, Nat.mod_lt _ (by decide)⟩ :=
      congrArg wt (Fin.ext (Nat.mod_eq_of_lt hn).symm)
    rw [← ec _ rfl, ← ey _ rfl, ← er]
    rfl
  · rw [dif_neg h, if_neg (fun h' => h (hiff.mpr h'))]

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)
/-- The buffers that the loop reads and writes. -/
def held (q2 q4 q5 : PosShare TreeShare) (f2 : arg2.view.ty.Contents (Elt F)) (f4 : arg4.view.ty.Contents (Elt F)) (f5 : arg5.view.ty.Contents (Elt F))
    (f12 : arg12.view.ty.Contents (Elt F)) (f15 : arg15.view.ty.Contents (Elt F)) (f13 : arg13.view.ty.Contents (Elt F)) : sProp 𝕄 :=
  iprop((arg2.view.loc (c : Thread nD τ) ↦[arg2.view.set]{q2} f2) ∗ (arg4.view.loc (c : Thread nD τ) ↦[arg4.view.set]{q4} f4)
    ∗ (arg5.view.loc (c : Thread nD τ) ↦[arg5.view.set]{q5} f5) ∗ (arg12.view.loc (c : Thread nD τ) ↦[arg12.view.set]{fullShare} f12)
    ∗ (arg15.view.loc (c : Thread nD τ) ↦[arg15.view.set]{fullShare} f15) ∗ (arg13.view.loc (c : Thread nD τ) ↦[arg13.view.set]{fullShare} f13))

/-- Row weights, cell by cell. -/
def weights (f5 : arg5.view.ty.Contents (Elt F)) : Fin 744 → F .f32 := fun k => arg5.view.read (Elt F) f5 (idxR k)

theorem readAt_weight (f5 : arg5.view.ty.Contents (Elt F)) (off : Fin 1 → ℕ) (pf : ∀ a, off a + (![1] : Fin 1 → ℕ) a ≤ S744.size a) (h0 : off 0 < 744) :
    View.readAt (Elt F) arg5.view (Rect.unit (s := S744) off ![1] pf).toLoadRect f5 (Shape.Idx.first (numel_unit_pos off pf))
      = weights arg5 f5 ⟨off 0, h0⟩ := by
  rw [View.readAt_apply]
  unfold weights
  congr 1; funext a; apply Fin.ext
  have : a = 0 := Subsingleton.elim _ _
  subst this
  show off 0 + 1 * 0 = off 0
  omega

abbrev 𝒱₀ : Variants := Variants.nat

/-- Entered at the last position of `e` before `n`, the loop adds all positions of `e` before `n`. -/
def spec (q2 q4 q5 : PosShare TreeShare) (f2 : arg2.view.ty.Contents (Elt F)) (f4 : arg4.view.ty.Contents (Elt F)) (f5 : arg5.view.ty.Contents (Elt F))
    (f12 : arg12.view.ty.Contents (Elt F)) (f15 : arg15.view.ty.Contents (Elt F)) (e n : ℕ) (f13 : arg13.view.ty.Contents (Elt F)) :
    sWPT 𝕄 (BitVec 32) := do
  sWPT.consume (held c arg2 arg4 arg5 arg12 arg13 arg15 q2 q4 q5 f2 f4 f5 f12 f15 f13)
  let r ← sWPT.arbitrary
  let f13' : arg13.view.ty.Contents (Elt F) ← sWPT.arbitrary
  sWPT.assume (arg13.view.read (Elt F) f13' = addAll (i 1).val (cells arg4 f4) (weights arg5 f5) (arg12.view.read (Elt F) f12) e n (arg13.view.read (Elt F) f13))
  sWPT.produce (held c arg2 arg4 arg5 arg12 arg13 arg15 q2 q4 q5 f2 f4 f5 f12 f15 f13')
  pure r

theorem spec_apply (q2 q4 q5 : PosShare TreeShare) (f2 : arg2.view.ty.Contents (Elt F)) (f4 : arg4.view.ty.Contents (Elt F)) (f5 : arg5.view.ty.Contents (Elt F))
    (f12 : arg12.view.ty.Contents (Elt F)) (f15 : arg15.view.ty.Contents (Elt F)) (e n : ℕ) (f13 : arg13.view.ty.Contents (Elt F))
    (K : BitVec 32 → sProp 𝕄) :
    spec c i arg2 arg4 arg5 arg12 arg13 arg15 q2 q4 q5 f2 f4 f5 f12 f15 e n f13 K
      = iprop(held c arg2 arg4 arg5 arg12 arg13 arg15 q2 q4 q5 f2 f4 f5 f12 f15 f13
        ∗ ∀ r : BitVec 32, ∀ f13' : arg13.view.ty.Contents (Elt F),
          ⌜arg13.view.read (Elt F) f13' = addAll (i 1).val (cells arg4 f4) (weights arg5 f5) (arg12.view.read (Elt F) f12) e n (arg13.view.read (Elt F) f13)⌝
          -∗ (held c arg2 arg4 arg5 arg12 arg13 arg15 q2 q4 q5 f2 f4 f5 f12 f15 f13' -∗ K r)) := rfl

set_option maxHeartbeats 2000000 in
theorem spec_le (E : Set ℕ) (v5 v12 : BitVec 32) (hw2 : k0_chk2 v12)
    (q2 q4 q5 : PosShare TreeShare) (f2 : arg2.view.ty.Contents (Elt F)) (f4 : arg4.view.ty.Contents (Elt F)) (f5 : arg5.view.ty.Contents (Elt F))
    (f12 : arg12.view.ty.Contents (Elt F)) (f15 : arg15.view.ty.Contents (Elt F))
    (hpos : ∀ p, (cells arg4 f4 p).toInt < 744) (e : ℕ) (he : e < 24)
    (hord : (cells arg2 f2 ⟨(i 0).val, (i 0).isLt⟩).toNat = e)
    (hnext : ∀ q : Fin 320, cells arg15 f15 q = last (cells arg4 f4) (own (cells arg4 f4 q)) q.val) :
    ∀ n, ∀ (f13 : arg13.view.ty.Contents (Elt F)) (K : BitVec 32 → sProp 𝕄),
      spec c i arg2 arg4 arg5 arg12 arg13 arg15 q2 q4 q5 f2 f4 f5 f12 f15 e n f13 K
      ⊢ wp frame (wpE (defs₀ (F := F)) 𝒱₀ (c : Thread nD τ) (some n)) E
          (defs₀ (F := F) .tc 1 ⟨i, v5, v12, hw2, arg4, harg4, arg5, harg5, arg2, harg2, arg13, harg13, arg12, harg12, arg15, harg15, last (cells arg4 f4) e n⟩) K := by
  intro n
  induction n using Nat.strong_induction_on with
  | _ n ih =>
  intro f13 K
  rw [spec_apply]
  show _ ⊢ wp frame (wpE (defs₀ (F := F)) 𝒱₀ (c : Thread nD τ) (some n)) E
    (cc0_while1 i v5 v12 hw2 arg4 harg4 arg5 harg5 arg2 harg2 arg13 harg13 arg12 harg12 arg15 harg15 (last (cells arg4 f4) e n)) K
  simp only [cc0_while1_eq_skeleton]; unfold cc0_while1_skel
  rcases last_cases (i 1).val (cells arg4 f4) (weights arg5 f5) (arg12.view.read (Elt F) f12) e n with ⟨h1, h2⟩ | ⟨p, hp, hpn, h1, ho, h2⟩
  · rw [h1]
    have htest : ¬Scalar.cmpi .sge (4294967295#32) 0#32 = 1#1 := by decide
    simp only [htest, ↓reduceIte, Prog.pure_eq_ret]
    iintro ⟨H, Hk⟩
    rw [wp_ret]; imodintro
    iapply Hk
    · ipureintro; exact (h2 _).symm
    · iexact H
  · rw [h1]
    obtain ⟨hge, hdiv⟩ := own_cases he ho
    have hn744 := nonneg_lt hge (hpos ⟨p, hp⟩)
    have htest : Scalar.cmpi .sge (BitVec.ofNat 32 p) 0#32 = 1#1 := by
      have hs : BitVec.sle 0#32 (BitVec.ofNat 32 p) = true := by
        simp [BitVec.sle, BitVec.toInt_eq_toNat_cond]; omega
      simp [Scalar.cmpi, IntOp.cmpi, hs]
    have hc3 : k0_chk3 i (BitVec.ofNat 32 p) := chk3_of i hp
    have h8 : k0_off8 (BitVec.ofNat 32 p) 0 = p := by rw [off8_eq hp]; rfl
    have hr4 : View.readAt (Elt F) arg4.view (Rect.unit (s := S320) (k0_off8 (BitVec.ofNat 32 p)) S1.size (k0_off8_inb i (BitVec.ofNat 32 p) hc3)).toLoadRect f4
        (Shape.Idx.first (numel1_S1.symm ▸ Nat.one_pos)) = cells arg4 f4 ⟨p, hp⟩ := by
      refine (readAt_cell arg4 f4 _ (k0_off8_inb i _ hc3) (lt_of_eq_of_lt h8 hp)).trans ?_
      exact congrArg _ (Fin.ext h8)
    have hr2 : View.readAt (Elt F) arg2.view (Rect.unit (s := S24) (k0_off10 i) S1.size (k0_off10_inb i)).toLoadRect f2
        (Shape.Idx.first (numel1_S1.symm ▸ Nat.one_pos)) = cells arg2 f2 ⟨(i 0).val, (i 0).isLt⟩ := by
      have h10 : k0_off10 i 0 = (i 0).val := by
        show (BitVec.ofNat 32 (i 0).val).toNat = _
        have : (i 0).val < 24 := (i 0).isLt
        rw [BitVec.toNat_ofNat]; omega
      refine (readAt_cell arg2 f2 _ (k0_off10_inb i) (lt_of_eq_of_lt h10 (i 0).isLt)).trans ?_
      exact congrArg _ (Fin.ext h10)
    have hc4 : k0_chk4 (View.readAt (Elt F) arg4.view (Rect.unit (s := S320) (k0_off8 (BitVec.ofNat 32 p)) S1.size (k0_off8_inb i (BitVec.ofNat 32 p) hc3)).toLoadRect f4
        (Shape.Idx.first (numel1_S1.symm ▸ Nat.one_pos))) := by rw [hr4]; exact chk4_of hge (hpos _)
    have hc5 : k0_chk5 (View.readAt (Elt F) arg4.view (Rect.unit (s := S320) (k0_off8 (BitVec.ofNat 32 p)) S1.size (k0_off8_inb i (BitVec.ofNat 32 p) hc3)).toLoadRect f4
        (Shape.Idx.first (numel1_S1.symm ▸ Nat.one_pos))) (View.readAt (Elt F) arg2.view (Rect.unit (s := S24) (k0_off10 i) S1.size (k0_off10_inb i)).toLoadRect f2
        (Shape.Idx.first (numel1_S1.symm ▸ Nat.one_pos))) := by rw [hr4, hr2]; exact chk5_of hge (hpos _) (hord.trans hdiv.symm)
    rw [if_pos htest]
    simp only [k0_part100_eq_skeleton]; unfold k0_part100_skel
    unfold held
    iintro ⟨⟨H2, H4, H5, H12, H15, H13⟩, Hk⟩
    sl_exec (disch := first | sl_exact hc3 | sl_exact hc4 | sl_exact hc5)
    have hr5 : spec_le.sl.r_1 i arg4 arg5 f4 f5 p hc3 hc4 = weights arg5 f5 ⟨(cells arg4 f4 ⟨p, hp⟩).toNat, hn744⟩ := by
      have h9 : k0_off9 (spec_le.sl.r i arg4 f4 p hc3) 0 = (cells arg4 f4 ⟨p, hp⟩).toNat := congrArg BitVec.toNat hr4
      refine (readAt_weight arg5 f5 _ (k0_off9_inb _ hc4) (lt_of_eq_of_lt h9 hn744)).trans ?_
      exact congrArg _ (Fin.ext h9)
    have hr15 : spec_le.sl.r_3 i arg15 f15 p hc3 = last (cells arg4 f4) e p := by
      refine (readAt_cell arg15 f15 _ (k0_off14_inb i _ hc3) (lt_of_eq_of_lt h8 hp)).trans ?_
      refine (congrArg _ (Fin.ext h8 : _ = (⟨p, hp⟩ : Fin 320))).trans ((hnext _).trans ?_)
      rw [ho]
    have h13 : arg13.view.read (Elt F) (arg13.view.writes (Elt F) f13
        [⟨Rect.unit (s := S56x40x128) (k0_off13 i (BitVec.ofNat 32 p)) S8x1x128.size (k0_off13_inb i (BitVec.ofNat 32 p) hc3),
          k0_pay564 (spec_le.sl.r_1 i arg4 arg5 f4 f5 p hc3 hc4)
            (View.readAt (Elt F) arg13.view (Rect.unit (s := S56x40x128) (k0_off11 i (BitVec.ofNat 32 p)) S8x1x128.size (k0_off11_inb i (BitVec.ofNat 32 p) hc3)).toLoadRect f13)
            (View.readAt (Elt F) arg12.view (Rect.unit (s := S8x32x128) (k0_off12 (spec_le.sl.r i arg4 f4 p hc3) (spec_le.sl.r_2 i arg2 f2)) S8x1x128.size
              (k0_off12_inb _ _ hc5)).toLoadRect f12)⟩])
        = addPos (i 1).val (cells arg4 f4) (weights arg5 f5) (arg12.view.read (Elt F) f12) p hp (arg13.view.read (Elt F) f13) := by
      have e12 : k0_off12 (spec_le.sl.r i arg4 f4 p hc3) (spec_le.sl.r_2 i arg2 f2) = ![0, (cells arg4 f4 ⟨p, hp⟩).toNat % 31, 0] :=
        (congrArg₂ k0_off12 hr4 hr2).trans (off12_eq hge (hpos _) (hord.trans hdiv.symm))
      have i11 : ∀ a, (![8 * (i 1).val, p / 8, 0] : Fin 3 → ℕ) a + S8x1x128.size a ≤ S56x40x128.size a := off11_eq i hp ▸ k0_off11_inb i _ hc3
      have i12 : ∀ a, (![0, (cells arg4 f4 ⟨p, hp⟩).toNat % 31, 0] : Fin 3 → ℕ) a + S8x1x128.size a ≤ S8x32x128.size a := e12 ▸ k0_off12_inb _ _ hc5
      refine (View.read_writes_cons_put arg13.view f13 _ _ [] ((off13_eq i _).trans (off11_eq i hp))).trans ?_
      rw [View.readAt_unit arg13.view f13 _ (off11_eq i hp) i11, View.readAt_unit arg12.view f12 _ e12 i12, hr5, View.writes_nil]
      exact put_eq i _ _ _ p hp hn744 _ i11 i12
    rw [hr15]
    iapply (wp_call_spec 𝒱₀ (c : Thread nD τ) (some n) E (spec c i arg2 arg4 arg5 arg12 arg13 arg15 q2 q4 q5 f2 f4 f5 f12 f15 e p _) p
      (fun u hu => by cases hu; exact hpn) (ih p hpn _))
    rw [spec_apply]; unfold held
    isplitl [H2 H4 H5 H12 H15 H13]
    · isplitl [H2]; · iexact H2
      isplitl [H4]; · iexact H4
      isplitl [H5]; · iexact H5
      isplitl [H12]; · iexact H12
      isplitl [H15]; · iexact H15
      iexact H13
    iintro %r %f13' %hr H
    rw [wp_ret]; imodintro
    iapply Hk
    · ipureintro; rw [h2, ← h13]; exact hr
    · iexact H

end Cert.Down.Body

end
-- ==== Proof.DownBitsQuant.lean ====
/- THE QUANTISER OF THE DOWN PROJECTION: at the last grid point the combined rows are quantised, block by block, and the codes
   and scales are stored into the two output windows. -/
module
public import proofs.«01_k».proof.Proof.DownBitsWhile
@[expose] public section
set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)

/-- The last point's quantisation, as the body has it. -/
def quantSeg : Prog (TpuEff nD τ sig (Elt F) (Λ₀ F) .tc) PUnit := do
  if k0_h3 : k0_cond3 i = 1#1 then do
    let ⟨v2378, cst_1023, v2387⟩ : Σ' (v2378 : IVec S40x1 32) (cst_1023 : F .f32), FVec F S40x128 .f32 ← k0_part99 i arg2 harg2 arg3 harg3 arg4 harg4 arg5 harg5 arg6 harg6 arg7 harg7 arg8 harg8 arg9 harg9 arg10 harg10 arg11 harg11 arg12 harg12 arg13 harg13 arg14 harg14 arg15 harg15
    let ⟨v2399, v2422, v2426⟩ : Σ' (v2399 : FVec F S40x128 .f32) (v2422 : IVec S40x1 32), IVec S40x1 32 ← k0_part97 i arg2 harg2 arg3 harg3 arg4 harg4 arg5 harg5 arg6 harg6 arg7 harg7 arg8 harg8 arg9 harg9 arg10 harg10 arg11 harg11 arg12 harg12 arg13 harg13 arg14 harg14 arg15 harg15 v2378 cst_1023 v2387
    let ⟨v2443, v2462, v2464, v2465⟩ : Σ' (v2443 : FVec F S40x128 .f32) (v2462 : IVec S40x1 32) (v2464 : IVec S40x1 1), IVec S40x1 32 ← k0_part98 i arg2 harg2 arg3 harg3 arg4 harg4 arg5 harg5 arg6 harg6 arg7 harg7 arg8 harg8 arg9 harg9 arg10 harg10 arg11 harg11 arg12 harg12 arg13 harg13 arg14 harg14 arg15 harg15 v2399 v2422 v2426
    let v2479 : Vec F S40x128 .fp8e4m3 ← Prog.lift (.load arg9 (Rect.unit (s := S40x7168) ![0, 7040] S40x128.size inb_S40x7168_S40x128_0_7040).toLoadRect (View.loadsAt_vmem h_S40x128))
    Prog.lift (.store arg9 (Rect.unit (s := S40x7168) ![0, 7040] S40x128.size inb_S40x7168_S40x128_0_7040) (k0_pay6 v2443 v2462 v2464 v2465) Finset.univ (View.stores_vmem h_S40x128 (harg9.storeExact_slice rfl _ packedfp8e4m3_S40x7168_S40x128_0_7040) (fun _ => rfl)) (.inl rfl))
    let v2485 : Vec F S40x1 .f32 ← Prog.lift (.load arg10 (Rect.unit (s := S40x56) ![0, 55] S40x1.size inb_S40x56_S40x1_0_55).toLoadRect (View.loadsAt_vmem h_S40x1))
    Prog.lift (.store arg10 (Rect.unit (s := S40x56) ![0, 55] S40x1.size inb_S40x56_S40x1_0_55) (k0_pay7 (F := F) v2462 v2464 v2465) Finset.univ (View.stores_vmem_bits_univ h_S40x1 rfl) (.inl rfl))
    pure ⟨⟩
  else do
    pure ⟨⟩
  pure ⟨⟩

theorem run_rest (E : Set ℕ) (h3 : ¬ k0_cond3 i = 1#1) (K : PUnit → sProp 𝕄) :
    (K ⟨⟩ : sProp 𝕄) ⊢ wp frame (wpE (defs₀ (F := F)) 𝒱₀ (c : Thread nD τ) none) E (quantSeg i arg2 harg2 arg3 harg3 arg4 harg4 arg5 harg5 arg6 harg6 arg7 harg7 arg8 harg8 arg9 harg9 arg10 harg10 arg11 harg11 arg12 harg12 arg13 harg13 arg14 harg14 arg15 harg15) K := by
  unfold quantSeg
  rw [dif_neg h3]
  iintro H
  sl_exec
  sl_step
  iexact H

set_option maxRecDepth 65536 in
set_option maxHeartbeats 16000000 in
/-- The last point writes codes and scales of every block over its two outputs. -/
def run_quant (h3 : k0_cond3 i = 1#1) (f13 : arg13.view.ty.Contents (Elt F)) :
    { L : List (View.Piece (Elt F) S40x7168 .fp8e4m3) × List (View.Piece (Elt F) S40x56 .f32) //
      ∀ (f9 : arg9.view.ty.Contents (Elt F)) (f10 : arg10.view.ty.Contents (Elt F)) (E : Set ℕ) (K : PUnit → sProp 𝕄),
    (iprop((arg13.view.loc (c : Thread nD τ) ↦[arg13.view.set]{fullShare} f13) ∗ (arg9.view.loc (c : Thread nD τ) ↦[arg9.view.set]{fullShare} f9) ∗ (arg10.view.loc (c : Thread nD τ) ↦[arg10.view.set]{fullShare} f10)
      ∗ (((arg13.view.loc (c : Thread nD τ) ↦[arg13.view.set]{fullShare} f13) ∗ (arg9.view.loc (c : Thread nD τ) ↦[arg9.view.set]{fullShare} (arg9.view.writes (Elt F) f9 L.1)) ∗ (arg10.view.loc (c : Thread nD τ) ↦[arg10.view.set]{fullShare} (arg10.view.writes (Elt F) f10 L.2)))
          -∗ K ⟨⟩)) : sProp 𝕄)
    ⊢ wp frame (wpE (defs₀ (F := F)) 𝒱₀ (c : Thread nD τ) none) E (quantSeg i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨(?L9, ?L10), fun f9 f10 E K => ?run⟩
  case run =>
    unfold quantSeg
    dsimp only
    iintro ⟨H13, H9, H10, Hk⟩
    sl_exec (disch := first | sl_exact h3)
    sl_step
    iapply Hk
    isplitl [H13]; · iexact H13
    isplitl [H9]; · iexact H9
    iexact H10

end Cert.Down.Body

end
-- ==== Proof.DownBitsTail.lean ====
/- THE TAIL OF THE BODY of the down projection: all blocks of the combined rows, quantised and stored one after another. -/
module
public import proofs.«01_k».proof.Proof.DownBitsQuant
@[expose] public section
set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)

set_option maxRecDepth 65536 in
set_option maxHeartbeats 4000000 in
/-- The body after its first part. -/
def tail : { T : Prog (TpuEff nD τ sig (Elt F) (Λ₀ F) .tc) PUnit //
    cc0_down_combine (F := F) i arg2 harg2 arg3 harg3 arg4 harg4 arg5 harg5 arg6 harg6 arg7 harg7 arg8 harg8 arg9 harg9 arg10 harg10 arg11 harg11 arg12 harg12 arg13 harg13 arg14 harg14 arg15 harg15 = if h1 : k0_cond1 i = 1#1 then initSeg i arg2 harg2 arg3 harg3 arg4 harg4 arg5 harg5 arg6 harg6 arg7 harg7 arg8 harg8 arg9 harg9 arg10 harg10 arg11 harg11 arg12 harg12 arg13 harg13 arg14 harg14 arg15 harg15 h1 T else T } := by
  refine ⟨?_, ?_⟩
  rotate_left
  · simp only [cc0_down_combine_eq_skeleton]; unfold cc0_down_combine_skel
    exact rfl

/-- How many positions the loop looks at: all if the point has an expert, none otherwise. -/
def looked (v9 : BitVec 32) : ℕ := if Scalar.cmpi .slt (BitVec.ofNat 32 (i 0).val) v9 = 1#1 then 320 else 0

/-- Whether the point has an expert. -/
abbrev active (v : BitVec 32) : Prop := Scalar.cmpi .ne (Scalar.extui (Scalar.cmpi .slt (BitVec.ofNat 32 (i 0).val) v)) 0#32 = 1#1

theorem looked_active (v : BitVec 32) (h : active i v) : looked i v = 320 := by
  unfold looked; unfold active at h
  rcases BitVec.eq_zero_or_eq_one (Scalar.cmpi .slt (BitVec.ofNat 32 (i 0).val) v) with h1 | h1
  · rw [h1] at h; exact absurd h (by decide)
  · rw [if_pos h1]

theorem looked_idle (v : BitVec 32) (h : ¬ active i v) : looked i v = 0 := by
  unfold looked; unfold active at h
  rcases BitVec.eq_zero_or_eq_one (Scalar.cmpi .slt (BitVec.ofNat 32 (i 0).val) v) with h1 | h1
  · rw [if_neg (by rw [h1]; decide)]
  · rw [h1] at h; exact absurd (by decide) h

theorem head_read (f2 : arg2.view.ty.Contents (Elt F)) (f4 : arg4.view.ty.Contents (Elt F)) (f14 : arg14.view.ty.Contents (Elt F)) (f15 : arg15.view.ty.Contents (Elt F)) (v12 : BitVec 32)
    (he : (cells arg2 f2 ⟨(i 0).val, (i 0).isLt⟩).toNat < 24) (h2 : v12 = cells arg2 f2 ⟨(i 0).val, (i 0).isLt⟩)
    (hl : Linked (cells arg4 f4) 320 (cells arg14 f14) (cells arg15 f15)) (pf) :
    View.readAt (Elt F) arg14.view (Rect.unit (s := S25) (k0_off7 v12) S1.size pf).toLoadRect f14
      (Shape.Idx.first (numel1_S1.symm ▸ Nat.one_pos)) = last (cells arg4 f4) (cells arg2 f2 ⟨(i 0).val, (i 0).isLt⟩).toNat 320 := by
  subst h2
  refine (readAt_cell arg14 f14 _ pf (show (cells arg2 f2 ⟨(i 0).val, (i 0).isLt⟩).toNat < 25 by omega)).trans ?_
  exact hl.1 ⟨(cells arg2 f2 ⟨(i 0).val, (i 0).isLt⟩).toNat, by omega⟩

theorem select_looked (v9 : BitVec 32) (pos : Fin 320 → BitVec 32) (e : ℕ) :
    Scalar.select (Scalar.cmpi .slt (BitVec.ofNat 32 (i 0).val) v9) (last pos e 320) 4294967295#32 = last pos e (looked i v9) := by
  unfold looked Scalar.select
  by_cases h : Scalar.cmpi .slt (BitVec.ofNat 32 (i 0).val) v9 = 1#1
  · rw [if_pos h]; exact if_pos h
  · rw [if_neg h]; exact if_neg h

set_option maxRecDepth 65536 in
set_option maxHeartbeats 8000000 in
/-- A point without an expert leaves everything and goes to its end. -/
theorem run_idle (E : Set ℕ) (q2 q3 q4 q5 : PosShare TreeShare) (f2 : arg2.view.ty.Contents (Elt F)) (f3 : arg3.view.ty.Contents (Elt F)) (f4 : arg4.view.ty.Contents (Elt F)) (f5 : arg5.view.ty.Contents (Elt F)) (f12 : arg12.view.ty.Contents (Elt F)) (f13 : arg13.view.ty.Contents (Elt F)) (f14 : arg14.view.ty.Contents (Elt F)) (f15 : arg15.view.ty.Contents (Elt F))
    (hpos : ∀ p, (cells arg4 f4 p).toInt < 744) (he : (cells arg2 f2 ⟨(i 0).val, (i 0).isLt⟩).toNat < 24)
    (hl : Linked (cells arg4 f4) 320 (cells arg14 f14) (cells arg15 f15))
    (ha : ¬ active i (cells arg3 f3 0)) (K : PUnit → sProp 𝕄) :
    (iprop(((arg3.view.loc (c : Thread nD τ) ↦[arg3.view.set]{q3} f3)) ∗ held c arg2 arg4 arg5 arg12 arg13 arg15 q2 q4 q5 f2 f4 f5 f12 f15 f13 ∗ (arg14.view.loc (c : Thread nD τ) ↦[arg14.view.set]{fullShare} f14)
      ∗ (∀ f13' : arg13.view.ty.Contents (Elt F),
          (((arg3.view.loc (c : Thread nD τ) ↦[arg3.view.set]{q3} f3)) ∗ held c arg2 arg4 arg5 arg12 arg13 arg15 q2 q4 q5 f2 f4 f5 f12 f15 f13' ∗ (arg14.view.loc (c : Thread nD τ) ↦[arg14.view.set]{fullShare} f14) ∗ ⌜arg13.view.read (Elt F) f13' = arg13.view.read (Elt F) f13⌝)
          -∗ wp frame (wpE (defs₀ (F := F)) 𝒱₀ (c : Thread nD τ) none) E (quantSeg i arg2 harg2 arg3 harg3 arg4 harg4 arg5 harg5 arg6 harg6 arg7 harg7 arg8 harg8 arg9 harg9 arg10 harg10 arg11 harg11 arg12 harg12 arg13 harg13 arg14 harg14 arg15 harg15) K)) : sProp 𝕄)
    ⊢ wp frame (wpE (defs₀ (F := F)) 𝒱₀ (c : Thread nD τ) none) E (tail (F := F) i arg2 harg2 arg3 harg3 arg4 harg4 arg5 harg5 arg6 harg6 arg7 harg7 arg8 harg8 arg9 harg9 arg10 harg10 arg11 harg11 arg12 harg12 arg13 harg13 arg14 harg14 arg15 harg15).1 K := by
  have h3 : View.readAt (Elt F) arg3.view (Rect.unit (s := S1) ![0] S1.size inb_S1_S1_0).toLoadRect f3
      (Shape.Idx.first (numel1_S1.symm ▸ Nat.one_pos)) = cells arg3 f3 0 :=
    readAt_cell arg3 f3 _ inb_S1_S1_0 (by decide)
  have h2 : View.readAt (Elt F) arg2.view (Rect.unit (s := S24) (k0_off6 i) S1.size (k0_off6_inb i)).toLoadRect f2
      (Shape.Idx.first (numel1_S1.symm ▸ Nat.one_pos)) = cells arg2 f2 ⟨(i 0).val, (i 0).isLt⟩ := by
    have h10 : k0_off6 i 0 = (i 0).val := by
      show (BitVec.ofNat 32 (i 0).val).toNat = _
      have : (i 0).val < 24 := (i 0).isLt
      rw [BitVec.toNat_ofNat]; omega
    refine (readAt_cell arg2 f2 _ (k0_off6_inb i) (lt_of_eq_of_lt h10 (i 0).isLt)).trans ?_
    exact congrArg _ (Fin.ext h10)
  have hc : ¬ Scalar.cmpi .ne (Scalar.extui (Scalar.cmpi .slt (BitVec.ofNat 32 (i 0).val) (View.readAt (Elt F) arg3.view (Rect.unit (s := S1) ![0] S1.size inb_S1_S1_0).toLoadRect f3
      (Shape.Idx.first (numel1_S1.symm ▸ Nat.one_pos))))) 0#32 = 1#1 := by rw [h3]; exact ha
  have hc2 : k0_chk2 (View.readAt (Elt F) arg2.view (Rect.unit (s := S24) (k0_off6 i) S1.size (k0_off6_inb i)).toLoadRect f2
      (Shape.Idx.first (numel1_S1.symm ▸ Nat.one_pos))) := by rw [h2]; exact chk2_of he
  have hlook : looked i (cells arg3 f3 0) = 0 := looked_idle i _ ha
  have hs : Scalar.select (Scalar.cmpi .slt (BitVec.ofNat 32 (i 0).val) (View.readAt (Elt F) arg3.view (Rect.unit (s := S1) ![0] S1.size inb_S1_S1_0).toLoadRect f3
      (Shape.Idx.first (numel1_S1.symm ▸ Nat.one_pos)))) (View.readAt (Elt F) arg14.view (Rect.unit (s := S25) (k0_off7 _) S1.size (k0_off7_inb _ hc2)).toLoadRect f14
      (Shape.Idx.first (numel1_S1.symm ▸ Nat.one_pos))) 4294967295#32
      = last (cells arg4 f4) (cells arg2 f2 ⟨(i 0).val, (i 0).isLt⟩).toNat 0 := by
    rw [h3, head_read i arg2 arg4 arg14 arg15 f2 f4 f14 f15 _ he h2 hl, select_looked, hlook]
  unfold tail held
  dsimp only
  iintro ⟨H3, ⟨H2, H4, H5, H12, H15, H13⟩, H14, Hk⟩
  sl_exec (disch := first | sl_exact hc | sl_exact hc2)
  rw [show Scalar.select (Scalar.cmpi .slt (BitVec.ofNat 32 (i 0).val) (run_idle.sl.r arg3 f3)) (run_idle.sl.r_2 i arg2 arg14 f2 f14 hc2) 4294967295#32 = _ from hs]
  iapply (wp_call_spec 𝒱₀ (c : Thread nD τ) none E (spec c i arg2 arg4 arg5 arg12 arg13 arg15 q2 q4 q5 f2 f4 f5 _ f15 (cells arg2 f2 ⟨(i 0).val, (i 0).isLt⟩).toNat 0 f13)
    0 (fun u hu => nomatch hu)
    (spec_le c i arg2 harg2 arg4 harg4 arg5 harg5 arg12 harg12 arg13 harg13 arg15 harg15 E _ _ hc2 q2 q4 q5 f2 f4 f5 _ f15 hpos _ he
      rfl (fun q => hl.2 q q.isLt) 0 f13))
  rw [spec_apply]; unfold held
  isplitl [H2 H4 H5 H12 H15 H13]
  · isplitl [H2]; · iexact H2
    isplitl [H4]; · iexact H4
    isplitl [H5]; · iexact H5
    isplitl [H12]; · iexact H12
    isplitl [H15]; · iexact H15
    iexact H13
  iintro %r %f13' %hr ⟨H2, H4, H5, H12, H15, H13⟩
  iapply Hk $$ %f13'
  isplitl [H3]
  · iexact H3
  isplitl [H2 H4 H5 H12 H15 H13]
  · isplitl [H2]; · iexact H2
    isplitl [H4]; · iexact H4
    isplitl [H5]; · iexact H5
    isplitl [H12]; · iexact H12
    isplitl [H15]; · iexact H15
    iexact H13
  isplitl [H14]; · iexact H14
  ipureintro
  exact hr

set_option maxRecDepth 65536 in
set_option maxHeartbeats 16000000 in
/-- A point with an expert writes its projection over the projection's buffer, then adds the expert's rows. -/
def run_active (q2 q3 q4 q5 : PosShare TreeShare) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F))
    (hpos : ∀ p, (cells arg4 f4 p).toInt < 744) (he : (cells arg2 f2 ⟨(i 0).val, (i 0).isLt⟩).toNat < 24)
    (hl : Linked (cells arg4 f4) 320 (cells arg14 f14) (cells arg15 f15))
    (ha : active i (cells arg3 f3 0)) :
    { L : List (View.Piece (Elt F) S8x32x128 .f32) // ∀ (E : Set ℕ) (K : PUnit → sProp 𝕄),
    (iprop(((arg3.view.loc (c : Thread nD τ) ↦[arg3.view.set]{q3} f3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} f11)) ∗ held c arg2 arg4 arg5 arg12 arg13 arg15 q2 q4 q5 f2 f4 f5 f12 f15 f13 ∗ (arg14.view.loc (c : Thread nD τ) ↦[arg14.view.set]{fullShare} f14)
      ∗ (∀ f13' : arg13.view.ty.Contents (Elt F),
          (((arg3.view.loc (c : Thread nD τ) ↦[arg3.view.set]{q3} f3) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (∃ f11, (arg11.view.loc (c : Thread nD τ) ↦[arg11.view.set]{fullShare} f11))) ∗ held c arg2 arg4 arg5 arg12 arg13 arg15 q2 q4 q5 f2 f4 f5 (arg12.view.writes (Elt F) f12 L) f15 f13' ∗ (arg14.view.loc (c : Thread nD τ) ↦[arg14.view.set]{fullShare} f14) ∗ ⌜arg13.view.read (Elt F) f13' = addAll (i 1).val (cells arg4 f4) (weights arg5 f5) (arg12.view.read (Elt F) (arg12.view.writes (Elt F) f12 L)) (cells arg2 f2 ⟨(i 0).val, (i 0).isLt⟩).toNat 320 (arg13.view.read (Elt F) f13)⌝)
          -∗ wp frame (wpE (defs₀ (F := F)) 𝒱₀ (c : Thread nD τ) none) E (quantSeg i arg2 harg2 arg3 harg3 arg4 harg4 arg5 harg5 arg6 harg6 arg7 harg7 arg8 harg8 arg9 harg9 arg10 harg10 arg11 harg11 arg12 harg12 arg13 harg13 arg14 harg14 arg15 harg15) K)) : sProp 𝕄)
    ⊢ wp frame (wpE (defs₀ (F := F)) 𝒱₀ (c : Thread nD τ) none) E (tail (F := F) i arg2 harg2 arg3 harg3 arg4 harg4 arg5 harg5 arg6 harg6 arg7 harg7 arg8 harg8 arg9 harg9 arg10 harg10 arg11 harg11 arg12 harg12 arg13 harg13 arg14 harg14 arg15 harg15).1 K } := by
  have h3 : View.readAt (Elt F) arg3.view (Rect.unit (s := S1) ![0] S1.size inb_S1_S1_0).toLoadRect f3
      (Shape.Idx.first (numel1_S1.symm ▸ Nat.one_pos)) = cells arg3 f3 0 :=
    readAt_cell arg3 f3 _ inb_S1_S1_0 (by decide)
  have h2 : View.readAt (Elt F) arg2.view (Rect.unit (s := S24) (k0_off6 i) S1.size (k0_off6_inb i)).toLoadRect f2
      (Shape.Idx.first (numel1_S1.symm ▸ Nat.one_pos)) = cells arg2 f2 ⟨(i 0).val, (i 0).isLt⟩ := by
    have h10 : k0_off6 i 0 = (i 0).val := by
      show (BitVec.ofNat 32 (i 0).val).toNat = _
      have : (i 0).val < 24 := (i 0).isLt
      rw [BitVec.toNat_ofNat]; omega
    refine (readAt_cell arg2 f2 _ (k0_off6_inb i) (lt_of_eq_of_lt h10 (i 0).isLt)).trans ?_
    exact congrArg _ (Fin.ext h10)
  have hc : Scalar.cmpi .ne (Scalar.extui (Scalar.cmpi .slt (BitVec.ofNat 32 (i 0).val) (View.readAt (Elt F) arg3.view (Rect.unit (s := S1) ![0] S1.size inb_S1_S1_0).toLoadRect f3
      (Shape.Idx.first (numel1_S1.symm ▸ Nat.one_pos))))) 0#32 = 1#1 := by rw [h3]; exact ha
  have hc2 : k0_chk2 (View.readAt (Elt F) arg2.view (Rect.unit (s := S24) (k0_off6 i) S1.size (k0_off6_inb i)).toLoadRect f2
      (Shape.Idx.first (numel1_S1.symm ▸ Nat.one_pos))) := by rw [h2]; exact chk2_of he
  have hlook : looked i (cells arg3 f3 0) = 320 := looked_active i _ ha
  have hs : Scalar.select (Scalar.cmpi .slt (BitVec.ofNat 32 (i 0).val) (View.readAt (Elt F) arg3.view (Rect.unit (s := S1) ![0] S1.size inb_S1_S1_0).toLoadRect f3
      (Shape.Idx.first (numel1_S1.symm ▸ Nat.one_pos)))) (View.readAt (Elt F) arg14.view (Rect.unit (s := S25) (k0_off7 _) S1.size (k0_off7_inb _ hc2)).toLoadRect f14
      (Shape.Idx.first (numel1_S1.symm ▸ Nat.one_pos))) 4294967295#32
      = last (cells arg4 f4) (cells arg2 f2 ⟨(i 0).val, (i 0).isLt⟩).toNat 320 := by
    rw [h3, head_read i arg2 arg4 arg14 arg15 f2 f4 f14 f15 _ he h2 hl, select_looked, hlook]
  refine ⟨?_, fun E K => ?run⟩
  rotate_left
  unfold tail held
  dsimp only
  iintro ⟨⟨H3, H6, H7, H8, H11⟩, ⟨H2, H4, H5, H12, H15, H13⟩, H14, Hk⟩
  sl_exec (disch := first | sl_exact hc | sl_exact hc2)
  rw [show Scalar.select (Scalar.cmpi .slt (BitVec.ofNat 32 (i 0).val) (run_active.sl.r arg3 f3)) (run_active.sl.r_248 i arg2 arg14 f2 f14 hc2) 4294967295#32 = _ from hs]
  iapply (wp_call_spec 𝒱₀ (c : Thread nD τ) none E (spec c i arg2 arg4 arg5 arg12 arg13 arg15 q2 q4 q5 f2 f4 f5 _ f15 (cells arg2 f2 ⟨(i 0).val, (i 0).isLt⟩).toNat 320 f13)
    320 (fun u hu => nomatch hu)
    (spec_le c i arg2 harg2 arg4 harg4 arg5 harg5 arg12 harg12 arg13 harg13 arg15 harg15 E _ _ hc2 q2 q4 q5 f2 f4 f5 _ f15 hpos _ he
      rfl (fun q => hl.2 q q.isLt) 320 f13))
  rw [spec_apply]; unfold held
  isplitl [H2 H4 H5 H12 H15 H13]
  · isplitl [H2]; · iexact H2
    isplitl [H4]; · iexact H4
    isplitl [H5]; · iexact H5
    isplitl [H12]; · iexact H12
    isplitl [H15]; · iexact H15
    iexact H13
  iintro %r %f13' %hr ⟨H2, H4, H5, H12, H15, H13⟩
  iapply Hk $$ %f13'
  isplitl [H3 H6 H7 H8 H11]
  · isplitl [H3]; · iexact H3
    isplitl [H6]; · iexact H6
    isplitl [H7]; · iexact H7
    isplitl [H8]; · iexact H8
    iexists _; iexact H11
  isplitl [H2 H4 H5 H12 H15 H13]
  · isplitl [H2]; · iexact H2
    isplitl [H4]; · iexact H4
    isplitl [H5]; · iexact H5
    isplitl [H12]; · iexact H12
    isplitl [H15]; · iexact H15
    iexact H13
  isplitl [H14]; · iexact H14
  ipureintro
  exact hr

end Cert.Down.Body

end
-- ==== Proof.DownBitsPoint.lean ====
/- ONE GRID POINT of the down projection: the body, run from the buffers as it finds them, under each of its guards. -/
module
public import proofs.«01_k».proof.Proof.DownBitsTail
@[expose] public section
set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .smem S24 .i32) (harg2 : arg2.IsWhole)
  (arg3 : Memref sig .tc .smem S1 .i32) (harg3 : arg3.IsWhole)
  (arg4 : Memref sig .tc .smem S320 .i32) (harg4 : arg4.IsWhole)
  (arg5 : Memref sig .tc .smem S744 .f32) (harg5 : arg5.IsWhole)
  (arg6 : Memref sig .tc .vmem S1x31x2048 .bf16) (harg6 : arg6.IsWhole)
  (arg7 : Memref sig .tc .vmem S1x1024x256 .i32) (harg7 : arg7.IsWhole)
  (arg8 : Memref sig .tc .vmem S1x1024x64 .bf16) (harg8 : arg8.IsWhole)
  (arg9 : Memref sig .tc .vmem S40x7168 .fp8e4m3) (harg9 : arg9.IsWhole)
  (arg10 : Memref sig .tc .vmem S40x56 .f32) (harg10 : arg10.IsWhole)
  (arg11 : Memref sig .tc .vmem S64x256 .bf16) (harg11 : arg11.IsWhole)
  (arg12 : Memref sig .tc .vmem S8x32x128 .f32) (harg12 : arg12.IsWhole)
  (arg13 : Memref sig .tc .vmem S56x40x128 .f32) (harg13 : arg13.IsWhole)
  (arg14 : Memref sig .tc .smem S25 .i32) (harg14 : arg14.IsWhole)
  (arg15 : Memref sig .tc .smem S320 .i32) (harg15 : arg15.IsWhole)

variable (q2 q3 q4 : PosShare TreeShare) (f2 : arg2.view.ty.Contents (Elt F)) (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F))

/-- What a point reads: the tables, the row weights and the blocks of its three arrays. -/
def inputs : sProp 𝕄 := iprop((arg2.view.loc (c : Thread nD τ) ↦[arg2.view.set]{q2} f2) ∗ (arg3.view.loc (c : Thread nD τ) ↦[arg3.view.set]{q3} f3) ∗ (arg4.view.loc (c : Thread nD τ) ↦[arg4.view.set]{q4} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- What a point may change besides the chains: its two outputs and three buffers. -/
def others : sProp 𝕄 := iprop((∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)))

/-- The chains of all positions by expert. -/
def chain : sProp 𝕄 := iprop(∃ f14, ∃ f15, (arg14.view.loc (c : Thread nD τ) ↦[arg14.view.set]{fullShare} f14) ∗ (arg15.view.loc (c : Thread nD τ) ↦[arg15.view.set]{fullShare} f15) ∗ ⌜Linked (cells arg4 f4) 320 (cells arg14 f14) (cells arg15 f15)⌝)

/-- The end of a point: quantise at the last one, nothing at the others. -/
theorem point_end :
    iprop(inputs c arg2 arg3 arg4 arg5 arg6 arg7 arg8 q2 q3 q4 f2 f3 f4 f5 f6 f7 f8 ∗ others (F := F) c arg9 arg10 arg11 arg12 arg13 ∗ chain c arg4 arg14 arg15 f4) ⊢ wp frame (wpE (defs₀ (F := F)) 𝒱₀ (c : Thread nD τ) none) Set.univ (quantSeg i arg2 harg2 arg3 harg3 arg4 harg4 arg5 harg5 arg6 harg6 arg7 harg7 arg8 harg8 arg9 harg9 arg10 harg10 arg11 harg11 arg12 harg12 arg13 harg13 arg14 harg14 arg15 harg15) (fun _ => iprop(inputs c arg2 arg3 arg4 arg5 arg6 arg7 arg8 q2 q3 q4 f2 f3 f4 f5 f6 f7 f8 ∗ others (F := F) c arg9 arg10 arg11 arg12 arg13 ∗ chain c arg4 arg14 arg15 f4)) := by
  unfold inputs others chain
  iintro ⟨HI, ⟨⟨%f9, H9⟩, ⟨%f10, H10⟩, H11, H12, ⟨%f13, H13⟩⟩, HC⟩
  by_cases h3 : k0_cond3 i = 1#1
  · iapply ((run_quant c i arg2 harg2 arg3 harg3 arg4 harg4 arg5 harg5 arg6 harg6 arg7 harg7 arg8 harg8 arg9 harg9 arg10 harg10 arg11 harg11 arg12 harg12 arg13 harg13 arg14 harg14 arg15 harg15 h3 f13).2 f9 f10 Set.univ _)
    isplitl [H13]; · iexact H13
    isplitl [H9]; · iexact H9
    isplitl [H10]; · iexact H10
    iintro ⟨H13, H9, H10⟩
    isplitl [HI]; · iexact HI
    isplitr [HC]
    · isplitl [H9]; · iexists _; iexact H9
      isplitl [H10]; · iexists _; iexact H10
      isplitl [H11]; · iexact H11
      isplitl [H12]; · iexact H12
      iexists _; iexact H13
    iexact HC
  · iapply (run_rest c i arg2 harg2 arg3 harg3 arg4 harg4 arg5 harg5 arg6 harg6 arg7 harg7 arg8 harg8 arg9 harg9 arg10 harg10 arg11 harg11 arg12 harg12 arg13 harg13 arg14 harg14 arg15 harg15 Set.univ h3 _)
    isplitl [HI]; · iexact HI
    isplitr [HC]
    · isplitl [H9]; · iexists _; iexact H9
      isplitl [H10]; · iexists _; iexact H10
      isplitl [H11]; · iexact H11
      isplitl [H12]; · iexact H12
      iexists _; iexact H13
    iexact HC

set_option maxHeartbeats 2000000 in
/-- A point once the chains are built. -/
theorem point_tail
    (hpos : ∀ p, (cells arg4 f4 p).toInt < 744) (he : (cells arg2 f2 ⟨(i 0).val, (i 0).isLt⟩).toNat < 24) :
    iprop(inputs c arg2 arg3 arg4 arg5 arg6 arg7 arg8 q2 q3 q4 f2 f3 f4 f5 f6 f7 f8 ∗ others (F := F) c arg9 arg10 arg11 arg12 arg13 ∗ chain c arg4 arg14 arg15 f4) ⊢ wp frame (wpE (defs₀ (F := F)) 𝒱₀ (c : Thread nD τ) none) Set.univ ((tail (F := F) i arg2 harg2 arg3 harg3 arg4 harg4 arg5 harg5 arg6 harg6 arg7 harg7 arg8 harg8 arg9 harg9 arg10 harg10 arg11 harg11 arg12 harg12 arg13 harg13 arg14 harg14 arg15 harg15).1) (fun _ => iprop(inputs c arg2 arg3 arg4 arg5 arg6 arg7 arg8 q2 q3 q4 f2 f3 f4 f5 f6 f7 f8 ∗ others (F := F) c arg9 arg10 arg11 arg12 arg13 ∗ chain c arg4 arg14 arg15 f4)) := by
  unfold inputs others chain
  iintro ⟨⟨H2, H3, H4, H5, H6, H7, H8⟩, ⟨H9, H10, ⟨%f11, H11⟩, ⟨%f12, H12⟩, ⟨%f13, H13⟩⟩, ⟨%f14, %f15, H14, H15, %hl⟩⟩
  by_cases ha : active i (cells arg3 f3 0)
  · iapply ((run_active c i arg2 harg2 arg3 harg3 arg4 harg4 arg5 harg5 arg6 harg6 arg7 harg7 arg8 harg8 arg9 harg9 arg10 harg10 arg11 harg11 arg12 harg12 arg13 harg13 arg14 harg14 arg15 harg15 q2 q3 q4 fullShare f2 f3 f4 f5 f6 f7 f8 f11 f12 f13 f14 f15 hpos he hl ha).2 Set.univ _)
    isplitl [H3 H6 H7 H8 H11]
    · isplitl [H3]; · iexact H3
      isplitl [H6]; · iexact H6
      isplitl [H7]; · iexact H7
      isplitl [H8]; · iexact H8
      iexact H11
    isplitl [H2 H4 H5 H12 H15 H13]
    · unfold held
      isplitl [H2]; · iexact H2
      isplitl [H4]; · iexact H4
      isplitl [H5]; · iexact H5
      isplitl [H12]; · iexact H12
      isplitl [H15]; · iexact H15
      iexact H13
    isplitl [H14]; · iexact H14
    unfold held
    iintro %f13' ⟨⟨H3, H6, H7, H8, H11⟩, ⟨H2, H4, H5, H12, H15, H13⟩, H14, -⟩
    iapply (point_end c i arg2 harg2 arg3 harg3 arg4 harg4 arg5 harg5 arg6 harg6 arg7 harg7 arg8 harg8 arg9 harg9 arg10 harg10 arg11 harg11 arg12 harg12 arg13 harg13 arg14 harg14 arg15 harg15 q2 q3 q4 f2 f3 f4 f5 f6 f7 f8)
    unfold inputs others chain
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9 H10 H11 H12 H13]
    · isplitl [H9]; · iexact H9
      isplitl [H10]; · iexact H10
      isplitl [H11]; · iexact H11
      isplitl [H12]; · iexists _; iexact H12
      iexists _; iexact H13
    iexists _; iexists _
    isplitl [H14]; · iexact H14
    isplitl [H15]; · iexact H15
    ipureintro; exact hl
  · iapply (run_idle c i arg2 harg2 arg3 harg3 arg4 harg4 arg5 harg5 arg6 harg6 arg7 harg7 arg8 harg8 arg9 harg9 arg10 harg10 arg11 harg11 arg12 harg12 arg13 harg13 arg14 harg14 arg15 harg15 Set.univ q2 q3 q4 fullShare f2 f3 f4 f5 f12 f13 f14 f15 hpos he hl ha _)
    isplitl [H3]; · iexact H3
    isplitl [H2 H4 H5 H12 H15 H13]
    · unfold held
      isplitl [H2]; · iexact H2
      isplitl [H4]; · iexact H4
      isplitl [H5]; · iexact H5
      isplitl [H12]; · iexact H12
      isplitl [H15]; · iexact H15
      iexact H13
    isplitl [H14]; · iexact H14
    unfold held
    iintro %f13' ⟨H3, ⟨H2, H4, H5, H12, H15, H13⟩, H14, -⟩
    iapply (point_end c i arg2 harg2 arg3 harg3 arg4 harg4 arg5 harg5 arg6 harg6 arg7 harg7 arg8 harg8 arg9 harg9 arg10 harg10 arg11 harg11 arg12 harg12 arg13 harg13 arg14 harg14 arg15 harg15 q2 q3 q4 f2 f3 f4 f5 f6 f7 f8)
    unfold inputs others chain
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    isplitl [H9 H10 H11 H12 H13]
    · isplitl [H9]; · iexact H9
      isplitl [H10]; · iexact H10
      isplitl [H11]; · iexists _; iexact H11
      isplitl [H12]; · iexists _; iexact H12
      iexists _; iexact H13
    iexists _; iexists _
    isplitl [H14]; · iexact H14
    isplitl [H15]; · iexact H15
    ipureintro; exact hl

/-- The first point builds the chains. -/
theorem point_first (h1 : k0_cond1 i = 1#1)
    (hpos : ∀ p, (cells arg4 f4 p).toInt < 744) (he : (cells arg2 f2 ⟨(i 0).val, (i 0).isLt⟩).toNat < 24) :
    iprop(inputs c arg2 arg3 arg4 arg5 arg6 arg7 arg8 q2 q3 q4 f2 f3 f4 f5 f6 f7 f8 ∗ others (F := F) c arg9 arg10 arg11 arg12 arg13 ∗ (∃ f14, (arg14.view.loc (c : Thread nD τ) ↦[arg14.view.set]{fullShare} f14)) ∗ (∃ f15, (arg15.view.loc (c : Thread nD τ) ↦[arg15.view.set]{fullShare} f15))) ⊢ wp frame (wpE (defs₀ (F := F)) 𝒱₀ (c : Thread nD τ) none) Set.univ (cc0_down_combine (F := F) i arg2 harg2 arg3 harg3 arg4 harg4 arg5 harg5 arg6 harg6 arg7 harg7 arg8 harg8 arg9 harg9 arg10 harg10 arg11 harg11 arg12 harg12 arg13 harg13 arg14 harg14 arg15 harg15) (fun _ => iprop(inputs c arg2 arg3 arg4 arg5 arg6 arg7 arg8 q2 q3 q4 f2 f3 f4 f5 f6 f7 f8 ∗ others (F := F) c arg9 arg10 arg11 arg12 arg13 ∗ chain c arg4 arg14 arg15 f4)) := by
  rw [(tail (F := F) i arg2 harg2 arg3 harg3 arg4 harg4 arg5 harg5 arg6 harg6 arg7 harg7 arg8 harg8 arg9 harg9 arg10 harg10 arg11 harg11 arg12 harg12 arg13 harg13 arg14 harg14 arg15 harg15).2, dif_pos h1]
  iintro ⟨HI, HO, ⟨%f14, H14⟩, ⟨%f15, H15⟩⟩
  unfold inputs others
  icases HI with ⟨H2, H3, H4, H5, H6, H7, H8⟩
  icases HO with ⟨H9, H10, H11, H12, ⟨%f13, H13⟩⟩
  iapply (run_init c i arg2 harg2 arg3 harg3 arg4 harg4 arg5 harg5 arg6 harg6 arg7 harg7 arg8 harg8 arg9 harg9 arg10 harg10 arg11 harg11 arg12 harg12 arg13 harg13 arg14 harg14 arg15 harg15 𝒱₀ none Set.univ h1 q4 f4 f13 f14 f15 hpos _ _)
  isplitl [H4]; · iexact H4
  isplitl [H13]; · iexact H13
  isplitl [H14]; · iexact H14
  isplitl [H15]; · iexact H15
  iintro %f13 %f14 %f15 ⟨H4, H13, H14, H15, -, %hl⟩
  iapply (point_tail c i arg2 harg2 arg3 harg3 arg4 harg4 arg5 harg5 arg6 harg6 arg7 harg7 arg8 harg8 arg9 harg9 arg10 harg10 arg11 harg11 arg12 harg12 arg13 harg13 arg14 harg14 arg15 harg15 q2 q3 q4 f2 f3 f4 f5 f6 f7 f8 hpos he)
  unfold inputs others chain
  isplitl [H2 H3 H4 H5 H6 H7 H8]
  · isplitl [H2]; · iexact H2
    isplitl [H3]; · iexact H3
    isplitl [H4]; · iexact H4
    isplitl [H5]; · iexact H5
    isplitl [H6]; · iexact H6
    isplitl [H7]; · iexact H7
    iexact H8
  isplitl [H9 H10 H11 H12 H13]
  · isplitl [H9]; · iexact H9
    isplitl [H10]; · iexact H10
    isplitl [H11]; · iexact H11
    isplitl [H12]; · iexact H12
    iexists _; iexact H13
  iexists _; iexists _
  isplitl [H14]; · iexact H14
  isplitl [H15]; · iexact H15
  ipureintro; exact hl

/-- Every later point finds them. -/
theorem point_later (h1 : ¬ k0_cond1 i = 1#1)
    (hpos : ∀ p, (cells arg4 f4 p).toInt < 744) (he : (cells arg2 f2 ⟨(i 0).val, (i 0).isLt⟩).toNat < 24) :
    iprop(inputs c arg2 arg3 arg4 arg5 arg6 arg7 arg8 q2 q3 q4 f2 f3 f4 f5 f6 f7 f8 ∗ others (F := F) c arg9 arg10 arg11 arg12 arg13 ∗ chain c arg4 arg14 arg15 f4) ⊢ wp frame (wpE (defs₀ (F := F)) 𝒱₀ (c : Thread nD τ) none) Set.univ (cc0_down_combine (F := F) i arg2 harg2 arg3 harg3 arg4 harg4 arg5 harg5 arg6 harg6 arg7 harg7 arg8 harg8 arg9 harg9 arg10 harg10 arg11 harg11 arg12 harg12 arg13 harg13 arg14 harg14 arg15 harg15) (fun _ => iprop(inputs c arg2 arg3 arg4 arg5 arg6 arg7 arg8 q2 q3 q4 f2 f3 f4 f5 f6 f7 f8 ∗ others (F := F) c arg9 arg10 arg11 arg12 arg13 ∗ chain c arg4 arg14 arg15 f4)) := by
  rw [(tail (F := F) i arg2 harg2 arg3 harg3 arg4 harg4 arg5 harg5 arg6 harg6 arg7 harg7 arg8 harg8 arg9 harg9 arg10 harg10 arg11 harg11 arg12 harg12 arg13 harg13 arg14 harg14 arg15 harg15).2, dif_neg h1]
  exact point_tail c i arg2 harg2 arg3 harg3 arg4 harg4 arg5 harg5 arg6 harg6 arg7 harg7 arg8 harg8 arg9 harg9 arg10 harg10 arg11 harg11 arg12 harg12 arg13 harg13 arg14 harg14 arg15 harg15 q2 q3 q4 f2 f3 f4 f5 f6 f7 f8 hpos he

end Cert.Down.Body

end
-- ==== Proof.DownBitsFrame.lean ====
/- THE DOWN PROJECTION'S CALL RUNS: at every point of the grid the body terminates and gives back what it was handed,
   for every contents of the tables whose expert numbers are below 24 and whose positions are below 744. Nothing is
   stated of the contents of the two outputs. -/
module

public import proofs.«01_k».proof.Proof.DownBitsPoint
public import Idealize.ShloMosaic.Lib.Pipeline.FrameBody
public import Idealize.ShloMosaic.Lib.WordCmp
public import Idealize.ShloMosaic.Lib.Claim

@[expose] public section

set_option maxRecDepth 16384

noncomputable section

namespace Cert.Down.Body

open Cert.Down Cert.Down.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.CellWrites.SmemRing
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The chains are built at the first point only. -/
theorem first_iff : ∀ t : Fin grid0.N, k0_cond1 (grid0.coords t) = 1#1 ↔ t.val % 168 = 0 :=
  (fun t => by
    have ht : t.val < 168 := Nat.lt_of_lt_of_eq t.isLt N_0
    have e0 : (grid0.coords t 0).val = t.val / 7 % 24 := Pipeline.Grid.coords_val t 0 (by decide) rfl
    have e1 : (grid0.coords t 1).val = t.val / 1 % 7 := Pipeline.Grid.coords_val t 1 (by decide) rfl
    simp only [k0_cond1, e0, e1]
    word_cmp
   : ∀ t : Fin grid0.N, k0_cond1 (grid0.coords t) = 1#1 ↔ t.val % 168 = 0)

/-- A table held whole is its memref's cells held. -/
theorem table_eq (c : Dev nD) {S : Shape} {e : EltTy} (M : Memref sig .tc .smem S e) (hM : M.IsWhole) (f : TbBuf0 (F := F) c M) :
    (tbPt0 c M f : sProp 𝕄) = (M.view.loc (c : Thread nD τ) ↦[M.view.set]{fullShare.right} f) := by
  unfold tbPt0; rw [hM.set_eq_univ]

/-- The tables' halves, as the cells of their memrefs. -/
theorem tables_eq (c : Dev nD) : (Pipeline.ΦT pre0 (tbl m) c : sProp 𝕄) = iprop((tbM0_0.view.loc (c : Thread nD τ) ↦[tbM0_0.view.set]{fullShare.right} (tbl m 0)) ∗ (tbM0_1.view.loc (c : Thread nD τ) ↦[tbM0_1.view.set]{fullShare.right} (tbl m 1)) ∗ (tbM0_2.view.loc (c : Thread nD τ) ↦[tbM0_2.view.set]{fullShare.right} (tbl m 2))) :=
  (PhiT0_eq m c).trans (congrArg₂ (fun a b : sProp 𝕄 => iprop(a ∗ b)) (table_eq c tbM0_0 htbM0_0 (tbl m 0))
    (congrArg₂ (fun a b : sProp 𝕄 => iprop(a ∗ b)) (table_eq c tbM0_1 htbM0_1 (tbl m 1)) (table_eq c tbM0_2 htbM0_2 (tbl m 2))))

/-- What is held before position `n`: before the first point every buffer at anything; afterwards the chains of all
    positions in the two scalar buffers, the other buffers at anything. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop((∃ d, owns (c : Thread nD τ) scM0_0 fullShare d) ∗ (∃ d, owns (c : Thread nD τ) scM0_1 fullShare d) ∗ (∃ d, owns (c : Thread nD τ) scM0_2 fullShare d) ∗ chain c tbM0_2 scM0_3 scM0_4 (tbl m 2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop((∃ d, owns (c : Thread nD τ) scM0_0 fullShare d) ∗ (∃ d, owns (c : Thread nD τ) scM0_1 fullShare d) ∗ (∃ d, owns (c : Thread nD τ) scM0_2 fullShare d) ∗ chain c tbM0_2 scM0_3 scM0_4 (tbl m 2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop((∃ d, owns (c : Thread nD τ) scM0_0 fullShare d) ∗ (∃ d, owns (c : Thread nD τ) scM0_1 fullShare d) ∗ (∃ d, owns (c : Thread nD τ) scM0_2 fullShare d) ∗ chain c tbM0_2 scM0_3 scM0_4 (tbl m 2)) ∗ (∃ r, prngReg c r)) ∗ Pipeline.ΦT pre0 (tbl m) c) := by
  cases n with
  | zero => exact absurd rfl hz
  | succ n => rfl

/-! ## The pipeline's proof data -/

/-- The output windows this certificate FORGETS (4, 5): nothing reads what the kernel leaves in them, so nothing
    of it is named. -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, h⟩ => Pipeline.Dat.unnamed (cfg := (cfgM m hO)) ⟨4, h⟩ t
    | ⟨5, h⟩ => Pipeline.Dat.unnamed (cfg := (cfgM m hO)) ⟨5, h⟩ t
  Φ t := PhiS m hO c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- The invariant at a point's start (the proof data at `t.castSucc`), restated at `t.val`. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body obligation, at a generic point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare d)
    ∗ (∃ d, owns (c : Thread nD τ) (ms0_5 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (∃ d, owns (c : Thread nD τ) (ms0_4 m hO t) fullShare d)
    ∗ (∃ d, owns (c : Thread nD τ) (ms0_5 m hO t) fullShare d))

set_option maxHeartbeats 4000000 in
/-- The body at any point: the first builds the chains, every later one finds them. -/
theorem sound_body (hO : Ok m)
    (hpos : ∀ p, (cells tbM0_2 (tbl m 2) p).toInt < 744) (hord : ∀ e : Fin 24, (cells tbM0_0 (tbl m 0) e).toNat < 24)
    (c : Dev nD) (t : Fin (cfgM m hO).N) :
    bodyPre m hO c t ⊢ wp frame (wpE (defs₀ (F := F)) 𝒱₀ c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_succ, tables_eq]
  have hN : t.val < 168 := lt_of_lt_of_eq t.isLt (show (cfgM m hO).N = 168 from N_0)
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  by_cases h0 : t.val = 0
  · rw [PhiS_castSucc m hO c t, PhiS_zero m hO c _ _ h0, tables_eq, PhiA0_eq]
    unfold owns
    iintro ⟨⟨⟨⟨⟨%e0, %f11, %he11, HS0⟩, ⟨%e1, %f12, %he12, HS1⟩, ⟨%e2, %f13, %he13, HS2⟩, ⟨%e3, %f14, %he14, HS3⟩, ⟨%e4, %f15, %he15, HS4⟩⟩, Hg⟩, ⟨HT0, HT1, HT2⟩⟩, Ho, ⟨%d0, %f5, %h5, H0⟩, ⟨%d1, %f6, %h6, H1⟩, ⟨%d2, %f7, %h7, H2⟩, ⟨%d3, %f8, %h8, H3⟩, ⟨%d4, %f9, %h9, H4⟩, ⟨%d5, %f10, %h10, H5⟩⟩
    iapply (wp_wand_r (Q := fun _ => _) frame (wpE (defs₀ (F := F)) 𝒱₀ (c : Thread nD τ) none) Set.univ)
    isplitl [HS0 HS1 HS2 HS3 HS4 HT0 HT1 HT2 H0 H1 H2 H3 H4 H5]
    · iapply (point_first c (grid0.coords t) tbM0_0 htbM0_0 tbM0_1 htbM0_1 tbM0_2 htbM0_2 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) fullShare.right fullShare.right fullShare.right (tbl m 0) (tbl m 1) (tbl m 2) f5 f6 f7 f8 ((first_iff t).mpr (by omega)) hpos (hord _))
      unfold inputs others
      isplitl [HT0 HT1 HT2 H0 H1 H2 H3]
      · isplitl [HT0]; · iexact HT0
        isplitl [HT1]; · iexact HT1
        isplitl [HT2]; · iexact HT2
        isplitl [H0]; · iexact H0
        isplitl [H1]; · iexact H1
        isplitl [H2]; · iexact H2
        iexact H3
      isplitl [H4 H5 HS0 HS1 HS2]
      · isplitl [H4]; · iexists _; iexact H4
        isplitl [H5]; · iexists _; iexact H5
        isplitl [HS0]; · iexists _; iexact HS0
        isplitl [HS1]; · iexists _; iexact HS1
        iexists _; iexact HS2
      isplitl [HS3]; · iexists _; iexact HS3
      iexists _; iexact HS4
    unfold inputs others
    iintro %a ⟨⟨HT0, HT1, HT2, H0, H1, H2, H3⟩, ⟨⟨%f9, H4⟩, ⟨%f10, H5⟩, ⟨%f11, HS0⟩, ⟨%f12, HS1⟩, ⟨%f13, HS2⟩⟩, HC⟩
    isplitl [HS0 HS1 HS2 HC Hg HT0 HT1 HT2]
    · isplitl [HS0 HS1 HS2 HC Hg]
      · isplitl [HS0 HS1 HS2 HC]
        · isplitl [HS0]
          · iexists _; iexists _; isplitr; swap; · iexact HS0
            ipureintro; rfl
          isplitl [HS1]
          · iexists _; iexists _; isplitr; swap; · iexact HS1
            ipureintro; rfl
          isplitl [HS2]
          · iexists _; iexists _; isplitr; swap; · iexact HS2
            ipureintro; rfl
          iexact HC
        iexact Hg
      isplitl [HT0]; · iexact HT0
      isplitl [HT1]; · iexact HT1
      iexact HT2
    isplitl [Ho]; · iexact Ho
    isplitl [H0]
    · iexists _; isplitr; swap; · iexact H0
      ipureintro; exact h5
    isplitl [H1]
    · iexists _; isplitr; swap; · iexact H1
      ipureintro; exact h6
    isplitl [H2]
    · iexists _; isplitr; swap; · iexact H2
      ipureintro; exact h7
    isplitl [H3]
    · iexists _; isplitr; swap; · iexact H3
      ipureintro; exact h8
    isplitl [H4]
    · iexists _; iexists _; isplitr; swap; · iexact H4
      ipureintro; rfl
    iexists _; iexists _; isplitr; swap; · iexact H5
    ipureintro; rfl
  · rw [PhiS_castSucc m hO c t, PhiS_pos m hO c _ _ h0, tables_eq]
    unfold owns
    iintro ⟨⟨⟨⟨⟨%e0, %f11, %he11, HS0⟩, ⟨%e1, %f12, %he12, HS1⟩, ⟨%e2, %f13, %he13, HS2⟩, HC⟩, Hg⟩, ⟨HT0, HT1, HT2⟩⟩, Ho, ⟨%d0, %f5, %h5, H0⟩, ⟨%d1, %f6, %h6, H1⟩, ⟨%d2, %f7, %h7, H2⟩, ⟨%d3, %f8, %h8, H3⟩, ⟨%d4, %f9, %h9, H4⟩, ⟨%d5, %f10, %h10, H5⟩⟩
    iapply (wp_wand_r (Q := fun _ => _) frame (wpE (defs₀ (F := F)) 𝒱₀ (c : Thread nD τ) none) Set.univ)
    isplitl [HS0 HS1 HS2 HC HT0 HT1 HT2 H0 H1 H2 H3 H4 H5]
    · iapply (point_later c (grid0.coords t) tbM0_0 htbM0_0 tbM0_1 htbM0_1 tbM0_2 htbM0_2 (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) scM0_2 (Memref.isWhole_whole _) scM0_3 (Memref.isWhole_whole _) scM0_4 (Memref.isWhole_whole _) fullShare.right fullShare.right fullShare.right (tbl m 0) (tbl m 1) (tbl m 2) f5 f6 f7 f8 (fun h => h0 (by have := (first_iff t).mp h; omega)) hpos (hord _))
      unfold inputs others
      isplitl [HT0 HT1 HT2 H0 H1 H2 H3]
      · isplitl [HT0]; · iexact HT0
        isplitl [HT1]; · iexact HT1
        isplitl [HT2]; · iexact HT2
        isplitl [H0]; · iexact H0
        isplitl [H1]; · iexact H1
        isplitl [H2]; · iexact H2
        iexact H3
      isplitl [H4 H5 HS0 HS1 HS2]
      · isplitl [H4]; · iexists _; iexact H4
        isplitl [H5]; · iexists _; iexact H5
        isplitl [HS0]; · iexists _; iexact HS0
        isplitl [HS1]; · iexists _; iexact HS1
        iexists _; iexact HS2
      iexact HC
    unfold inputs others
    iintro %a ⟨⟨HT0, HT1, HT2, H0, H1, H2, H3⟩, ⟨⟨%f9, H4⟩, ⟨%f10, H5⟩, ⟨%f11, HS0⟩, ⟨%f12, HS1⟩, ⟨%f13, HS2⟩⟩, HC⟩
    isplitl [HS0 HS1 HS2 HC Hg HT0 HT1 HT2]
    · isplitl [HS0 HS1 HS2 HC Hg]
      · isplitl [HS0 HS1 HS2 HC]
        · isplitl [HS0]
          · iexists _; iexists _; isplitr; swap; · iexact HS0
            ipureintro; rfl
          isplitl [HS1]
          · iexists _; iexists _; isplitr; swap; · iexact HS1
            ipureintro; rfl
          isplitl [HS2]
          · iexists _; iexists _; isplitr; swap; · iexact HS2
            ipureintro; rfl
          iexact HC
        iexact Hg
      isplitl [HT0]; · iexact HT0
      isplitl [HT1]; · iexact HT1
      iexact HT2
    isplitl [Ho]; · iexact Ho
    isplitl [H0]
    · iexists _; isplitr; swap; · iexact H0
      ipureintro; exact h5
    isplitl [H1]
    · iexists _; isplitr; swap; · iexact H1
      ipureintro; exact h6
    isplitl [H2]
    · iexists _; isplitr; swap; · iexact H2
      ipureintro; exact h7
    isplitl [H3]
    · iexists _; isplitr; swap; · iexact H3
      ipureintro; exact h8
    isplitl [H4]
    · iexists _; iexists _; isplitr; swap; · iexact H4
      ipureintro; rfl
    iexists _; iexists _; isplitr; swap; · iexact H5
    ipureintro; rfl

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m)
    (hpos : ∀ p, (cells tbM0_2 (tbl m 2) p).toInt < 744) (hord : ∀ e : Fin 24, (cells tbM0_0 (tbl m 0) e).toNat < 24)
    (c : Dev nD) : BodyObligation (dats (F := F) m hO 0 c) (defs₀ (F := F)) 𝒱₀ () Set.univ forgets0 := fun t => by
  rw [bigSep_W0, bigSep_W0, defs₀_row m hO]
  exact triple_restated (sound_body m hO hpos hord c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  unfold chain owns
  iintro ⟨⟨⟨HS0, HS1, HS2, ⟨%f14, %f15, HS3, HS4, -⟩⟩, Hg⟩, -⟩
  isplitl [HS0 HS1 HS2 HS3 HS4]
  · isplitl [HS0]
    · iexact HS0
    isplitl [HS1]
    · iexact HS1
    isplitl [HS2]
    · iexact HS2
    isplitl [HS3]
    · iexists _; iexists _; isplitr; swap; · iexact HS3
      ipureintro; rfl
    iexists _; iexists _; isplitr; swap; · iexact HS4
    ipureintro; rfl
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 168 := N_0; omega)

/-! ## The run and the frame -/

-- `θ_run_frameP_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m)
    (hpos : ∀ p, (cells tbM0_2 (tbl m 2) p).toInt < 744) (hord : ∀ e : Fin 24, (cells tbM0_0 (tbl m 0) e).toNat < 24) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_track_forget (Q' := _) pcfgs (fun _ => adm m hO) (dats m hO) (0 : Fin 1) launch0 defs₀ 𝒱₀ forgets0 m ρ main
    (hbody := fun c => (body_obligation m hO hpos hord c).loose) (hshare := fun c => (dats m hO 0 c).share_full fun _ => rfl)
    (howed := fun _ _ => rfl) (V := V m) (hmain := hmain m 𝒱₀) (hA := A_eq m hO) (hpf := V_pre m) (hin := hin m hO) (hout := hout m hO)

/-- At the compiled mesh, for any values, from any memory with zero counters: every weakly fair execution of @main on the
    TensorCores terminates, and every final state has every INPUT array of the pipeline unchanged, nothing stated of the
    FORGOTTEN outputs (windows 4, 5), and every other unscoped buffer at its region-entry contents. -/
theorem run_main (hO : Ok m)
    (hpos : ∀ p, (cells tbM0_2 (tbl m 2) p).toInt < 744) (hord : ∀ e : Fin 24, (cells tbM0_0 (tbl m 0) e).toNat < 24) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hpos hord)

/-- `frame` without the counters: the argument arrays end unchanged. -/
theorem unchanged (hO : Ok m)
    (hpos : ∀ p, (cells tbM0_2 (tbl m 2) p).toInt < 744) (hord : ∀ e : Fin 24, (cells tbM0_0 (tbl m 0) e).toNat < 24) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (fun c => (dats m hO 0 c).toRForget forgets0) (A_eq m hO) (run_main m ρ hO hpos hord)

/-- The launch runs to the end, its arguments unchanged and its semaphores at zero, at any scalars: given that its blocks lie
    inside their arrays, that the rows are below 744, and that the experts are of the 24. -/
theorem frame (hO : Ok m)
    (hpos : ∀ p, (cells tbM0_2 (tbl m 2) p).toInt < 744) (hord : ∀ e : Fin 24, (cells tbM0_0 (tbl m 0) e).toNat < 24) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO hpos hord) ((θ_run defs _ _).mono (fun _ h => h.2) (run_main_quiescent m ρ hO hpos hord))

end Cert.Down.Body

end
-- ==== Proof.DownBitsHost.lean ====
/- THE TABLES OF THE DOWN PROJECTION at the launch: the rows are the positions given, every expert of the order is one of
   the 24, and with that the blocks the launch reads by the tables lie inside their arrays. -/
module

public import proofs.«01_k».proof.Proof.DownOrder
public import proofs.«01_k».proof.Proof.DownBitsFrame
public import Idealize.ShloMosaic.Lib.StableHlo.RunRead
public import Idealize.ShloMosaic.Lib.StableHlo.Run

@[expose] public section

set_option maxRecDepth 16384

noncomputable section

namespace Cert.Down.Body

open Cert.Down Cert.Down.Gen Cert.DownOrder
open Idealize.ShloMosaic Idealize.ShloMosaic.TcCoe Idealize.ShloMosaic.Tactic
open Idealize.ShloMosaic.Routing Idealize.ShloMosaic.ValueIdx Idealize.ShloMosaic.CellWrites.SmemRing

variable {F : FTy → Type} [FloatOps F]
variable (m : (ℓ : Loc nD τ sig) → Buf (Elt F) ℓ)

/-- The launch's host operations up to the bits of the experts that have rows. -/
abbrev opsA : List (HloOp τ sig (Elt F)) := List.flatten [hostOps0, hostOps0_1, hostOps0_2, hostOps0_3, hostOps0_4]
/-- The launch's host operations from there on. -/
abbrev opsB : List (HloOp τ sig (Elt F)) := List.flatten [hostOps0_5, hostOps0_6, hostOps0_7, hostOps0_8]

/-- The table of experts, from the bits of those that have rows and the ranks wanted: the row sums of the array with `j` at
    `(i, j)` where expert `j` has rows and the rank `want i`, and zero elsewhere. -/
def orderOf (used : IVec S24 1) (want : IVec S24 32) : IVec S24 32 :=
  Host.reduce IntOp.addi
    (select
      (andi (broadcastInDim S24x24 ![0, 1] bcast_S1x24_S24x24_0_1 (broadcastInDim S1x24 ![1] bcast_S24_S1x24_1 used))
        (cmpi CmpIPredicate.eq
          (broadcastInDim S24x24 ![0, 1] bcast_S1x24_S24x24_0_1 (broadcastInDim S1x24 ![1] bcast_S24_S1x24_1
            (subi (Host.reduceWindow IntOp.addi ![24] ![1] ![23] ![0] (extui 32 used natLt_1_32)
                (broadcastInDim S_ ![] bcast_S_S_ (constantI S_ 32 0#32)) reduceWindows_S24_S24_w24s1p23_0 h_S_)
              (broadcastInDim S24 ![] bcast_S_S24 (constantI S_ 32 1#32)))))
          (broadcastInDim S24x24 ![0, 1] bcast_S24x1_S24x24_0_1 (broadcastInDim S24x1 ![0] bcast_S24_S24x1_0 want))))
      (broadcastInDim S24x24 ![0, 1] bcast_S1x24_S24x24_0_1 (broadcastInDim S1x24 ![1] bcast_S24_S1x24_1 (iotaInDim S24 32 0)))
      (broadcastInDim S24x24 ![] bcast_S_S24x24 (constantI S_ 32 0#32)))
    (constantI S_ 32 0#32) reducesTo_S24x24_S24_d1 h_S_

/-- One entry of the array that is summed. -/
theorem order_entry (used : IVec S24 1) (want : IVec S24 32) (p q : Fin 24) :
    select
      (andi (broadcastInDim S24x24 ![0, 1] bcast_S1x24_S24x24_0_1 (broadcastInDim S1x24 ![1] bcast_S24_S1x24_1 used))
        (cmpi CmpIPredicate.eq
          (broadcastInDim S24x24 ![0, 1] bcast_S1x24_S24x24_0_1 (broadcastInDim S1x24 ![1] bcast_S24_S1x24_1
            (subi (Host.reduceWindow IntOp.addi ![24] ![1] ![23] ![0] (extui 32 used natLt_1_32)
                (broadcastInDim S_ ![] bcast_S_S_ (constantI S_ 32 0#32)) reduceWindows_S24_S24_w24s1p23_0 h_S_)
              (broadcastInDim S24 ![] bcast_S_S24 (constantI S_ 32 1#32)))))
          (broadcastInDim S24x24 ![0, 1] bcast_S24x1_S24x24_0_1 (broadcastInDim S24x1 ![0] bcast_S24_S24x1_0 want))))
      (broadcastInDim S24x24 ![0, 1] bcast_S1x24_S24x24_0_1 (broadcastInDim S1x24 ![1] bcast_S24_S1x24_1 (iotaInDim S24 32 0)))
      (broadcastInDim S24x24 ![] bcast_S_S24x24 (constantI S_ 32 0#32)) (ix2 p q)
    = if Used used q.val ∧ Nat.count (Used used) q.val = (want (ix1 p)).toNat then BitVec.ofNat 32 q.val else 0 := by
  refine (rfl : _ = Scalar.select _ _ _).trans ?_
  have e1 := bcCols bcast_S24_S1x24_1 bcast_S1x24_S24x24_0_1 used p q
  have e2 := bcCols bcast_S24_S1x24_1 bcast_S1x24_S24x24_0_1
    (subi (Host.reduceWindow IntOp.addi ![24] ![1] ![23] ![0] (extui 32 used natLt_1_32)
                (broadcastInDim S_ ![] bcast_S_S_ (constantI S_ 32 0#32)) reduceWindows_S24_S24_w24s1p23_0 h_S_)
              (broadcastInDim S24 ![] bcast_S_S24 (constantI S_ 32 1#32))) p q
  have e3 := bcRows bcast_S24_S24x1_0 bcast_S24x1_S24x24_0_1 want p q
  have e4 := bcCols bcast_S24_S1x24_1 bcast_S1x24_S24x24_0_1 (iotaInDim S24 32 0) p q
  have hc : (andi (broadcastInDim S24x24 ![0, 1] bcast_S1x24_S24x24_0_1 (broadcastInDim S1x24 ![1] bcast_S24_S1x24_1 used))
        (cmpi CmpIPredicate.eq
          (broadcastInDim S24x24 ![0, 1] bcast_S1x24_S24x24_0_1 (broadcastInDim S1x24 ![1] bcast_S24_S1x24_1
            (subi (Host.reduceWindow IntOp.addi ![24] ![1] ![23] ![0] (extui 32 used natLt_1_32)
                (broadcastInDim S_ ![] bcast_S_S_ (constantI S_ 32 0#32)) reduceWindows_S24_S24_w24s1p23_0 h_S_)
              (broadcastInDim S24 ![] bcast_S_S24 (constantI S_ 32 1#32)))))
          (broadcastInDim S24x24 ![0, 1] bcast_S24x1_S24x24_0_1 (broadcastInDim S24x1 ![0] bcast_S24_S24x1_0 want))) (ix2 p q)) = 1#1
      ↔ Used used q.val ∧ Nat.count (Used used) q.val = (want (ix1 p)).toNat := by
    refine IntOp.andi_eq_one.trans ?_
    rw [e1, ← used_iff]
    refine and_congr_right fun hq => ?_
    refine IntOp.cmpi_eq.trans ?_
    rw [e2, e3, ← count_eq_iff, ← rank_eq used _ _ reduceWindows_S24_S24_w24s1p23_0 h_S_ natLt_1_32 q hq]
    · rfl
    · rfl
  rw [e4]
  by_cases hb : Used used q.val ∧ Nat.count (Used used) q.val = (want (ix1 p)).toNat
  · rw [if_pos hb]; exact if_pos (hc.2 hb)
  · rw [if_neg hb]; exact if_neg (fun h => hb (hc.1 h))

/-- Every entry of the table of experts is one of the 24. -/
theorem orderOf_lt (used : IVec S24 1) (want : IVec S24 32) (p : Fin 24) : (orderOf used want (ix1 p)).toNat < 24 :=
  order_lt used _ (want (ix1 p)) p (order_entry used want p) _ rfl _ _

/-- What the second part of the host operations leaves in the table of experts, from the bits of those that have rows. -/
theorem table_order (V₀ : Valuation τ sig (Elt F)) :
    ∃ want, StableHlo.after opsB V₀ (main_v32 : DevRef τ sig) = orderOf (V₀ (main_v11 : DevRef τ sig)) want := by
  refine ⟨minsi (iotaInDim S24 32 0) (broadcastInDim S24 ![] bcast_S_S24
    (maxsi (subi (Host.reduce IntOp.addi (extui 32 (V₀ (main_v11 : DevRef τ sig)) natLt_1_32)
      (constantI S_ 32 0#32) reducesTo_S24_S_d0 h_S_) (constantI S_ 32 1#32)) (constantI S_ 32 0#32))), ?_⟩
  simp only [opsB, List.flatten_cons, List.flatten_nil, List.append_nil, List.cons_append, List.nil_append]
  after_results
  simp only [StableHlo.TRef.ofBuf_toBuf]
  simp -implicitDefEqProofs only [StableHlo.TRef.toBuf, StableHlo.TRef.ofBuf, cast_eq, id_eq]
  unfold orderOf
  rfl

/-- The host operations are their first part, then their second. -/
theorem after_split (l₁ l₂ : List (HloOp τ sig (Elt F))) (V₀ : Valuation τ sig (Elt F)) :
    StableHlo.after (l₁ ++ l₂) V₀ = StableHlo.after l₂ (StableHlo.after l₁ V₀) := by
  induction l₁ generalizing V₀ with
  | nil => rfl
  | cons a l ih => exact ih _

theorem idxR_eq {n : Nat} (k : Fin n) : idxR k = ix1 k := funext fun a => by
  obtain rfl : a = 0 := Subsingleton.elim _ _
  rfl

/-- Every expert of the order is one of the 24. -/
theorem order_inb (e : Fin 24) : (cells tbM0_0 (tbl m 0) e).toNat < 24 := by
  have h1 : V m 0 main_v32 = StableHlo.after opsB (StableHlo.after opsA (fun b => m ((0 : Dev nD), b))) (main_v32 : DevRef τ sig) :=
    congrFun (after_split opsA opsB _) _
  obtain ⟨want, h2⟩ := table_order (StableHlo.after opsA (fun b => m ((0 : Dev nD), b)))
  have h3 : cells tbM0_0 (tbl m 0) e = V m 0 main_v32 (ix1 e) := congrArg (V m 0 main_v32) (idxR_eq e)
  rw [h3, h1, h2]
  exact orderOf_lt _ want e

/-- The table of rows is the positions, read in order. -/
theorem table_pos (V₀ : Valuation τ sig (Elt F)) :
    StableHlo.after (List.flatten [hostOps0, hostOps0_1, hostOps0_2, hostOps0_3, hostOps0_4, hostOps0_5, hostOps0_6, hostOps0_7, hostOps0_8]) V₀
        (main_v0 : DevRef τ sig)
      = shapeCast S320 (V₀ (main_arg2 : DevRef τ sig)) shapeCasts_S40x8_S320 := by
  simp only [List.flatten_cons, List.flatten_nil, List.append_nil, List.cons_append, List.nil_append]
  after_results
  rfl

/-- Every row of the table of rows is below 744 when every position given is. -/
theorem rows_inb (hp : ∀ x : S40x8.Idx, (m ((0 : Dev nD).tc.loc main_arg2) x).toInt < 744) (p : Fin 320) :
    (cells tbM0_2 (tbl m 2) p).toInt < 744 := by
  have h3 : cells tbM0_2 (tbl m 2) p = V m 0 main_v0 (ix1 p) := congrArg (V m 0 main_v0) (idxR_eq p)
  rw [h3, show V m 0 main_v0 = _ from table_pos (fun b => m ((0 : Dev nD), b))]
  exact hp _

/-- The expert the index maps read at a grid point is one of the 24. -/
theorem at_lt (i : grid0.Coords) :
    ((tbl m).at 0 (Rect.unit (s := S24) ![(Scalar.indexCast (BitVec.ofNat 32 (i 0).val)).toNat] S1.size (k0_off1_inb i)) numel1_S1
      : BitVec 32).toNat < 24 := by
  have h : ((tbl m).at 0 (Rect.unit (s := S24) ![(Scalar.indexCast (BitVec.ofNat 32 (i 0).val)).toNat] S1.size (k0_off1_inb i)) numel1_S1
      : BitVec 32) = cells tbM0_0 (tbl m 0) (((Rect.unit (s := S24) ![(Scalar.indexCast (BitVec.ofNat 32 (i 0).val)).toNat] S1.size (k0_off1_inb i)).point numel1_S1) 0) :=
    congrArg (V m 0 main_v32) (funext fun a : Fin 1 => by
      obtain rfl : a = 0 := Subsingleton.elim _ _
      rfl)
  rw [h]
  exact order_inb m _

/-- The column block is one of the seven, read or not. -/
theorem col_le (i : grid0.Coords) (c : BitVec 1) : (BitVec.toNat (Scalar.select c (BitVec.ofNat 32 (i 1).val) 6#32) + 1) * 1024 ≤ 7168 := by
  have hi : (i 1).val < 7 := (i 1).isLt
  have hs : BitVec.toNat (Scalar.select c (BitVec.ofNat 32 (i 1).val) 6#32) ≤ 6 := by
    unfold Scalar.select
    split
    · rw [BitVec.toNat_ofNat]; exact (Nat.mod_le _ _).trans (by omega)
    · decide
  omega

theorem inb1 (t : Fin 3 → Nat) (h0 : t 0 < 24) (h1 : t 1 = 0) (h2 : t 2 = 0) : ∀ a, (t a + 1) * S1x31x2048.size a ≤ S24x31x2048.size a
  | ⟨0, _⟩ => show (t 0 + 1) * 1 ≤ 24 by omega
  | ⟨1, _⟩ => show (t 1 + 1) * 31 ≤ 31 by omega
  | ⟨2, _⟩ => show (t 2 + 1) * 2048 ≤ 2048 by omega

theorem inb2 (t : Fin 3 → Nat) (h0 : t 0 < 24) (h1 : (t 1 + 1) * 1024 ≤ 7168) (h2 : t 2 = 0) :
    ∀ a, (t a + 1) * S1x1024x256.size a ≤ S24x7168x256.size a
  | ⟨0, _⟩ => show (t 0 + 1) * 1 ≤ 24 by omega
  | ⟨1, _⟩ => h1
  | ⟨2, _⟩ => show (t 2 + 1) * 256 ≤ 256 by omega

theorem inb3 (t : Fin 3 → Nat) (h0 : t 0 < 24) (h1 : (t 1 + 1) * 1024 ≤ 7168) (h2 : t 2 = 0) :
    ∀ a, (t a + 1) * S1x1024x64.size a ≤ S24x7168x64.size a
  | ⟨0, _⟩ => show (t 0 + 1) * 1 ≤ 24 by omega
  | ⟨1, _⟩ => h1
  | ⟨2, _⟩ => show (t 2 + 1) * 64 ≤ 64 by omega

/-! The index maps' values, at any contents of the tables. -/

theorem map1_0 (pf : pre0.Contents (Elt F)) (i : grid0.Coords) : cc0_transform_1 k0_off1_inb numel1_S1 pf i 0
    = (pf.at 0 (Rect.unit (s := S24) ![(Scalar.indexCast (BitVec.ofNat 32 (i 0).val)).toNat] S1.size (k0_off1_inb i)) numel1_S1 : BitVec 32).toNat := rfl
theorem map1_1 (pf : pre0.Contents (Elt F)) (i : grid0.Coords) : cc0_transform_1 k0_off1_inb numel1_S1 pf i 1 = 0 := rfl
theorem map1_2 (pf : pre0.Contents (Elt F)) (i : grid0.Coords) : cc0_transform_1 k0_off1_inb numel1_S1 pf i 2 = 0 := rfl
theorem map2_0 (pf : pre0.Contents (Elt F)) (i : grid0.Coords) : cc0_transform_2 k0_off1_inb numel1_S1 inb_S1_S1_0 pf i 0
    = (pf.at 0 (Rect.unit (s := S24) ![(Scalar.indexCast (BitVec.ofNat 32 (i 0).val)).toNat] S1.size (k0_off1_inb i)) numel1_S1 : BitVec 32).toNat := rfl
theorem map2_1 (pf : pre0.Contents (Elt F)) (i : grid0.Coords) : ∃ c : BitVec 1, cc0_transform_2 k0_off1_inb numel1_S1 inb_S1_S1_0 pf i 1
    = (Scalar.select c (BitVec.ofNat 32 (i 1).val) 6#32).toNat :=
  ⟨Scalar.cmpi .slt (BitVec.ofNat 32 (i 0).val) (pf.at 1 (Rect.unit (s := S1) ![0] S1.size inb_S1_S1_0) numel1_S1), rfl⟩
theorem map2_2 (pf : pre0.Contents (Elt F)) (i : grid0.Coords) : cc0_transform_2 k0_off1_inb numel1_S1 inb_S1_S1_0 pf i 2 = 0 := rfl
theorem map3_0 (pf : pre0.Contents (Elt F)) (i : grid0.Coords) : cc0_transform_3 k0_off1_inb numel1_S1 inb_S1_S1_0 pf i 0
    = (pf.at 0 (Rect.unit (s := S24) ![(Scalar.indexCast (BitVec.ofNat 32 (i 0).val)).toNat] S1.size (k0_off1_inb i)) numel1_S1 : BitVec 32).toNat := rfl
theorem map3_1 (pf : pre0.Contents (Elt F)) (i : grid0.Coords) : ∃ c : BitVec 1, cc0_transform_3 k0_off1_inb numel1_S1 inb_S1_S1_0 pf i 1
    = (Scalar.select c (BitVec.ofNat 32 (i 1).val) 6#32).toNat :=
  ⟨Scalar.cmpi .slt (BitVec.ofNat 32 (i 0).val) (pf.at 1 (Rect.unit (s := S1) ![0] S1.size inb_S1_S1_0) numel1_S1), rfl⟩
theorem map3_2 (pf : pre0.Contents (Elt F)) (i : grid0.Coords) : cc0_transform_3 k0_off1_inb numel1_S1 inb_S1_S1_0 pf i 2 = 0 := rfl

theorem col2_le (i : grid0.Coords) (t : Nat) (h : ∃ c : BitVec 1, t = (Scalar.select c (BitVec.ofNat 32 (i 1).val) 6#32).toNat) :
    (t + 1) * 1024 ≤ 7168 := by
  obtain ⟨c, rfl⟩ := h
  exact col_le i c

/-- The launch's blocks lie inside their arrays and move whole words, at tables whose experts are of the 24. -/
theorem ok_of (pf : pre0.Contents (Elt F))
    (h : ∀ i : grid0.Coords, (pf.at 0 (Rect.unit (s := S24) ![(Scalar.indexCast (BitVec.ofNat 32 (i 0).val)).toNat] S1.size (k0_off1_inb i)) numel1_S1
      : BitVec 32).toNat < 24) : ok0 (F := F) pf :=
  ⟨fun i => ⟨inb1 _ ((map1_0 pf i).trans_lt (h i)) (map1_1 pf i) (map1_2 pf i),
      .inr (Affine.block_words_rows (of_decide_eq_true rfl) (by decide))⟩,
    fun i => ⟨inb2 _ ((map2_0 pf i).trans_lt (h i)) (col2_le i _ (map2_1 pf i)) (map2_2 pf i), .inl rfl⟩,
    fun i => ⟨inb3 _ ((map3_0 pf i).trans_lt (h i)) (col2_le i _ (map3_1 pf i)) (map3_2 pf i),
      .inr (Affine.block_words_dvd (of_decide_eq_true rfl) (by decide))⟩⟩

/-- The launch's blocks lie inside their arrays and move whole words. -/
theorem ok : Ok m := ok_of (tbl m) (at_lt m)

/-- The precondition, read at one position. -/
theorem pos_of_pre (x : IVec S40x8 32) (hb : S_.BroadcastsInDim S40x8 (![] : Fin 0 → Fin S40x8.rank))
    (h : cmpi .slt x (broadcastInDim S40x8 ![] hb (constantI S_ 32 744#32)) = fun _ => 1#1) (i : S40x8.Idx) : (x i).toInt < 744 :=
  IntOp.cmpi_slt.1 (congrFun h i)

end Cert.Down.Body

end
-- ==== Proof.DownClaims.lean ====
/- THE DOWN PROJECTION UNDER THE PRECONDITION, at the reals and in bit patterns: the precondition says that every position is
   below 744, which is what the runs ask for. -/
module

public import proofs.«01_k».proof.Defs
public import proofs.«01_k».proof.Proof.Gen.Pre_rows_in_range
public import proofs.«01_k».proof.Proof.DownHost
public import proofs.«01_k».proof.Proof.DownBitsHost

@[expose] public section

noncomputable section

namespace Cert.Proof.Down

open Idealize.ShloMosaic Idealize.SL.Sem

attribute [local instance] Cert.Down.Gen.facts Cert.DownIdeal.Gen.facts Cert.Pre_rows_in_range.Gen.facts

/-- The kernel over the reals runs to the end, its arguments unchanged and its semaphores at zero. -/
theorem frameIdeal : Cert.quiescent_DownIdeal := fun m ρ h =>
  Cert.DownIdeal.Body.frame m ρ (Cert.DownIdeal.Body.ok m)
    (Cert.DownIdeal.Body.rows_inb m (Cert.DownIdeal.Body.pos_of_pre _ Cert.Pre_rows_in_range.Gen.bcast_S_S40x8 (h 0)))
    (Cert.DownIdeal.Body.order_inb m)

/-- The kernel in bit patterns runs to the end, its arguments unchanged and its semaphores at zero. -/
theorem frameBits : Cert.quiescent_Down := fun m ρ h =>
  Cert.Down.Body.frame m ρ (Cert.Down.Body.ok m)
    (Cert.Down.Body.rows_inb m (Cert.Down.Body.pos_of_pre _ Cert.Pre_rows_in_range.Gen.bcast_S_S40x8 (h 0)))
    (Cert.Down.Body.order_inb m)

end Cert.Proof.Down

end
-- ==== Proof.Block.lean ====
/- WHAT ONE POINT OF THE GRID COMPUTES, as one function of its input blocks. The body is straight-line code: two column
   halves of 256, in each a gate and an up projection, each the sum of seven partial products over 1024 positions, each
   over a weight tile put together from 32 scaled groups of 32 rows. Here each of these is named once (`group`, `tile`,
   `part`, `product`, `combine`), at every group, chunk and half, and the pieces that the run found are those functions at
   the numerals (`pieces_eq`: by definition). -/
module

public import proofs.«01_k».proof.Proof.Gen.KernelIdeal.Value

@[expose] public section

noncomputable section

namespace Cert.Proof.Block

open Cert.KernelIdeal Cert.KernelIdeal.Gen Cert.KernelIdeal.Value Idealize.ShloMosaic Idealize.ShloMosaic.TcCoe Idealize.SL.Sem

variable {F : FTy → Type} [FloatOps F]

/-! ### The functions -/

theorem slices_group (g : Fin 32) : S1024x256.Slices ![32 * g.val, 0] S32x256 := by
  revert g; decide

theorem concatenates_groups : Shape.Concatenates (List.replicate 32 S32x256) S1024x256 0 := by decide

/-- Group `g` of a tile: 32 rows of codes, every row times the scale row. -/
def group (q : FVec F S1024x256 .bf16) (g : Fin 32) (row : Vec F S1x256 .bf16) : FVec F S32x256 .bf16 :=
  mulf (extractStridedSlice S32x256 ![32 * g.val, 0] q (slices_group g))
    (broadcastTo S32x256 (shapeCast S1x256 row shapeCasts_S1x256_S1x256) broadcasts_S1x256_S32x256)

/-- A tile of weights: its 32 groups one above the other. -/
def tile (q : FVec F S1024x256 .bf16) (rows : Fin 32 → Vec F S1x256 .bf16) : FVec F S1024x256 .bf16 :=
  concatenate S1024x256 0 (List.ofFn fun g : Fin 32 => (⟨S32x256, group q g (rows g)⟩ : (s : Shape) × (s.Idx → F .bf16)))
    concatenates_groups

/-- A partial product: 31 rows of 1024 activations times a tile of weights. -/
def part (w : Vec F S1x256x128 .i32) (rows : Fin 32 → Vec F S1x256 .bf16) (a : Vec F S1x31x1024 .bf16) :
    FVec F S31x256 .f32 :=
  matmul dot_S31x1024_S1024x256_S31x256_1_0_0_1_n_n none (shapeCast S31x1024 a shapeCasts_S1x31x1024_S31x1024)
    (tile (k0_pay4 w) rows) (constant S31x256 .f32 0x00000000#32)

/-- The scale rows of chunk `t`. -/
def rowsOf (rows : Fin 224 → Vec F S1x256 .bf16) (t : Fin 7) : Fin 32 → Vec F S1x256 .bf16 :=
  fun g => rows ⟨32 * t.val + g.val, by omega⟩

/-- A projection: the seven partial products added up in order. -/
def product (w : Fin 7 → Vec F S1x256x128 .i32) (rows : Fin 224 → Vec F S1x256 .bf16)
    (a : Fin 7 → Vec F S1x31x1024 .bf16) : FVec F S31x256 .f32 :=
  addf (addf (addf (addf (addf (addf (part (w 0) (rowsOf rows 0) (a 0)) (part (w 1) (rowsOf rows 1) (a 1)))
    (part (w 2) (rowsOf rows 2) (a 2))) (part (w 3) (rowsOf rows 3) (a 3))) (part (w 4) (rowsOf rows 4) (a 4)))
    (part (w 5) (rowsOf rows 5) (a 5))) (part (w 6) (rowsOf rows 6) (a 6))

/-- The gate through its logistic, times the up projection, rounded. -/
def combine (g u : FVec F S31x256 .f32) : FVec F S1x31x256 .bf16 :=
  shapeCast S1x31x256 (truncf .bf16 (mulf (mulf g (logistic g)) u) bitsLt_bf16_f32) shapeCasts_S31x256_S1x31x256

/-! ### The loads -/

theorem inb_words (h : Fin 2) (t : Fin 7) :
    ∀ a, (![0, 256 * h.val, 128 * t.val] : Fin 3 → Nat) a + S1x256x128.size a ≤ S1x512x896.size a := by
  revert h t; decide

theorem inb_acts (t : Fin 7) : ∀ a, (![0, 0, 1024 * t.val] : Fin 3 → Nat) a + S1x31x1024.size a ≤ S1x31x7168.size a := by
  revert t; decide

theorem inb_scales (h : Fin 2) : ∀ a, (![0, 256 * h.val, 0] : Fin 3 → Nat) a + S1x256x224.size a ≤ S1x512x224.size a := by
  revert h; decide

theorem inb_slot (b : Fin 2) : ∀ a, (![b.val, 0, 0] : Fin 3 → Nat) a + S1x224x256.size a ≤ S2x224x256.size a := by
  revert b; decide

theorem inb_row (g : Fin 224) : ∀ a, (![g.val, 0] : Fin 2 → Nat) a + S1x256.size a ≤ S224x256.size a := by
  revert g; decide

/-- The words of chunk `t` in column half `h` of a block of packed weights. -/
def words (arg : Memref sig .tc .vmem S1x512x896 .i32) (harg : arg.IsWhole) (x : Vec F S1x512x896 .i32) (h : Fin 2) (t : Fin 7) :
    Vec F S1x256x128 .i32 :=
  View.readAt (Elt F) arg.view (Rect.unit (s := S1x512x896) ![0, 256 * h.val, 128 * t.val] S1x256x128.size (inb_words h t)).toLoadRect
    (harg.unread x)

/-- Chunk `t` of the activations. -/
def acts (arg : Memref sig .tc .vmem S1x31x7168 .bf16) (harg : arg.IsWhole) (x : Vec F S1x31x7168 .bf16) (t : Fin 7) :
    Vec F S1x31x1024 .bf16 :=
  View.readAt (Elt F) arg.view (Rect.unit (s := S1x31x7168) ![0, 0, 1024 * t.val] S1x31x1024.size (inb_acts t)).toLoadRect
    (harg.unread x)

/-- The scales of column half `h`, as a slot of the scratch holds them: one row per group. -/
def scales (arg : Memref sig .tc .vmem S1x512x224 .bf16) (harg : arg.IsWhole) (x : Vec F S1x512x224 .bf16) (h : Fin 2) :
    FVec F S1x224x256 .bf16 :=
  k0_pay3 (View.readAt (Elt F) arg.view (Rect.unit (s := S1x512x224) ![0, 256 * h.val, 0] S1x256x224.size (inb_scales h)).toLoadRect
    (harg.unread x))

/-- A store of a slot of the scratch. -/
def slotPiece (b : Fin 2) (w : FVec F S1x224x256 .bf16) : View.Piece (Elt F) S2x224x256 .bf16 :=
  ⟨Rect.unit (s := S2x224x256) ![b.val, 0, 0] S1x224x256.size (inb_slot b), w⟩

/-- Row `g` of a slot, after the stores `L`. -/
def row (arg8 : Memref sig .tc .vmem S2x224x256 .bf16) (L : List (View.Piece (Elt F) S2x224x256 .bf16)) (b : Fin 2) (g : Fin 224) :
    Vec F S1x256 .bf16 :=
  LoadRect.valAlong (lr := (Rect.unit (s := S224x256) ![g.val, 0] S1x256.size (inb_row g)).toLoadRect)
    (LR := (Rect.unit (s := S2x224x256) ![b.val, 0, 0] S1x224x256.size (inb_slot b)).withinL
      ((Rect.unit (s := S224x256) ![g.val, 0] S1x256.size (inb_row g)).toLoadRect.consLift ![1, 224, 256] rfl (fun _ => rfl)) (fun _ => rfl))
    rfl
    (arg8.view.readCov L _)

/-! ### The pieces -/

set_option maxRecDepth 65536 in
set_option maxHeartbeats 4000000 in
theorem pieces_eq (c : Dev nD) (i : grid0.Coords) (arg2 : Memref sig .tc .vmem S1x31x7168 .bf16) (harg2 : arg2.IsWhole)
    (arg3 : Memref sig .tc .vmem S1x512x896 .i32) (harg3 : arg3.IsWhole) (arg4 : Memref sig .tc .vmem S1x512x224 .bf16)
    (harg4 : arg4.IsWhole) (arg5 : Memref sig .tc .vmem S1x512x896 .i32) (harg5 : arg5.IsWhole)
    (arg6 : Memref sig .tc .vmem S1x512x224 .bf16) (harg6 : arg6.IsWhole) (arg7 : Memref sig .tc .vmem S1x31x512 .bf16)
    (harg7 : arg7.IsWhole) (arg8 : Memref sig .tc .vmem S2x224x256 .bf16) (harg8 : arg8.IsWhole)
    (x0 : Vec F S1x31x7168 .bf16) (x1 : Vec F S1x512x896 .i32) (x2 : Vec F S1x512x224 .bf16) (x3 : Vec F S1x512x896 .i32)
    (x4 : Vec F S1x512x224 .bf16) :
    (kernelRun0_A c i arg2 harg2 arg3 harg3 arg4 harg4 arg5 harg5 arg6 harg6 arg7 harg7 arg8 harg8 x0 x1 x2 x3 x4).1 =
      [⟨Rect.unit (s := S1x31x512) ![0, 0, 256] S1x31x256.size inb_S1x31x512_S1x31x256_0_0_256,
        combine
          (product (words arg3 harg3 x1 1) (row arg8 [slotPiece 0 (scales arg4 harg4 x2 1), slotPiece 1 (scales arg6 harg6 x4 0),
            slotPiece 0 (scales arg4 harg4 x2 0)] 0) (acts arg2 harg2 x0))
          (product (words arg5 harg5 x3 1) (row arg8 [slotPiece 1 (scales arg6 harg6 x4 1), slotPiece 0 (scales arg4 harg4 x2 1),
            slotPiece 1 (scales arg6 harg6 x4 0), slotPiece 0 (scales arg4 harg4 x2 0)] 1) (acts arg2 harg2 x0))⟩,
       ⟨Rect.unit (s := S1x31x512) ![0, 0, 0] S1x31x256.size inb_S1x31x512_S1x31x256_0_0_0,
        combine
          (product (words arg3 harg3 x1 0) (row arg8 [slotPiece 0 (scales arg4 harg4 x2 0)] 0) (acts arg2 harg2 x0))
          (product (words arg5 harg5 x3 0) (row arg8 [slotPiece 1 (scales arg6 harg6 x4 0), slotPiece 0 (scales arg4 harg4 x2 0)] 1)
            (acts arg2 harg2 x0))⟩] := by
  unfold kernelRun0_A
  rfl

end Cert.Proof.Block

end
-- ==== Proof.Nibble.lean ====
/- The two ways of reading one signed four-bit code out of a packed word, as one lemma about 32-bit words: flip the top
   bit of every nibble, shift the nibble to the top and shift it back down with its sign; or shift it to the bottom, mask
   it, and subtract eight. -/
module

public import Mathlib.Data.BitVec
public import Mathlib.Tactic.IntervalCases
public import Mathlib.Tactic.FinCases

@[expose] public section

namespace Cert.Proof.Nibble

/-- On the nibble alone: flipping its top bit and reading it with its sign is subtracting eight. -/
theorem flip_signExtend : ∀ u : BitVec 4, (u ^^^ 8#4).signExtend 32 = u.setWidth 32 - 8#32 := by decide

/-- The nibble shifted to the bottom and masked. -/
theorem masked (w : BitVec 32) (j : Fin 8) :
    w.sshiftRight (4 * j.val) &&& 15#32 = (w.extractLsb' (4 * j.val) 4).setWidth 32 := by
  apply BitVec.eq_of_getLsbD_eq
  intro i hi
  fin_cases j <;> interval_cases i <;> simp [BitVec.getLsbD_sshiftRight, BitVec.getElem_sshiftRight]

/-- The flipped word's nibble shifted to the top and back down with its sign. -/
theorem shifted (w : BitVec 32) (j : Fin 8) :
    ((w ^^^ 2290649224#32) <<< (28 - 4 * j.val)).sshiftRight 28 = (w.extractLsb' (4 * j.val) 4 ^^^ 8#4).signExtend 32 := by
  apply BitVec.eq_of_getLsbD_eq
  intro i hi
  fin_cases j <;> interval_cases i <;> simp [BitVec.getLsbD_sshiftRight, BitVec.getElem_sshiftRight, BitVec.getElem_signExtend, BitVec.msb_eq_getLsbD_last]

/-- Both readings give the same code. -/
theorem shifted_eq_masked (w : BitVec 32) (j : Fin 8) :
    ((w ^^^ 2290649224#32) <<< (28 - 4 * j.val)).sshiftRight 28 = (w.sshiftRight (4 * j.val) &&& 15#32) - 8#32 := by
  rw [shifted, masked, flip_signExtend]

end Cert.Proof.Nibble

end
-- ==== Proof.Chunk.lean ====
/- What the functions of Block.lean compute at the ideal values, element by element. -/
module

public import proofs.«01_k».proof.Proof.Block
public import proofs.«01_k».proof.Proof.Nibble
public import Idealize.ShloMosaic.Lib.Pointwise
public import Idealize.ShloMosaic.Lib.Pipeline.Value

@[expose] public section

set_option maxRecDepth 16384

noncomputable section

namespace Cert.Proof.Chunk

open Cert.KernelIdeal Cert.KernelIdeal.Gen Idealize.ShloMosaic Cert.Proof.Block

/-- Code `j` of a packed word. -/
def code (w : BitVec 32) (j : Nat) : BitVec 32 := (w.sshiftRight (4 * j) &&& 15#32) - 8#32

/-- The kernel's shifts of a word give its code. -/
theorem shifts_eq (w : BitVec 32) (j : Nat) (hj : j < 8) :
    IntOp.shrsi ArithUnit.vector (IntOp.shli ArithUnit.vector (IntOp.xori w 2290649224#32)
      (IntOp.subi (28#32) (IntOp.muli (4#32) (BitVec.ofNat 32 j)))) 28#32 = code w j := by
  have h := Nibble.shifted_eq_masked w ⟨j, hj⟩
  interval_cases j <;> exact h

theorem decode_apply (w : Vec Ideal S1x256x128 .i32) (k : Fin 1024) (n : Fin 256) :
    k0_pay4 (F := Ideal) w (ix2 k n) = (((code (w (ix3 0 n ⟨k.val / 8, by omega⟩)) (k.val % 8)).toInt : ℝ) : EReal) := by
  pointwise [k0_pay4]
  rw [shifts_eq _ _ (Nat.mod_lt _ (by decide))]
  rfl

theorem group_apply (q : FVec Ideal S1024x256 .bf16) (g : Fin 32) (row : Vec Ideal S1x256 .bf16) (i : Fin 32) (n : Fin 256) :
    group q g row (ix2 i n) = q (ix2 ⟨32 * g.val + i.val, by omega⟩ n) * row (ix2 0 n) := by
  pointwise [group]

theorem tile_apply (q : FVec Ideal S1024x256 .bf16) (rows : Fin 32 → Vec Ideal S1x256 .bf16) (k : Fin 1024) (n : Fin 256) :
    tile q rows (ix2 k n) = q (ix2 k n) * rows ⟨k.val / 32, by omega⟩ (ix2 0 n) := by
  unfold tile
  refine (concatenate_ofFn_apply 0 (fun g : Fin 32 => group q g (rows g)) concatenates_groups rfl 32 rfl (ix2 k n) ⟨k.val / 32, by omega⟩ rfl
    (ix2 ⟨k.val % 32, Nat.mod_lt _ (by decide)⟩ n) rfl ?_).trans ?_
  · intro b hb
    fin_cases b
    · exact absurd rfl hb
    · rfl
  · rw [group_apply]
    congr 3
    exact Fin.ext (Nat.div_add_mod _ _)

theorem part_apply (w : Vec Ideal S1x256x128 .i32) (rows : Fin 32 → Vec Ideal S1x256 .bf16) (a : Vec Ideal S1x31x1024 .bf16)
    (r : Fin 31) (n : Fin 256) :
    part w rows a (ix2 r n) = ∑ k : Fin 1024, a (ix3 0 r k) * tile (k0_pay4 w) rows (ix2 k n) := by
  pointwise [part]

/-- The dot product of a row of activations with a row of packed weights: `X k` times the code in word `k / 8` at place
    `k % 8` times the scale of group `k / 32`, over all 7168 positions. -/
def dot (X : Fin 7168 → EReal) (W : Fin 896 → BitVec 32) (S : Fin 224 → EReal) : EReal :=
  ∑ k : Fin 7168, X k * ((((code (W ⟨k.val / 8, by omega⟩) (k.val % 8)).toInt : ℝ) : EReal) * S ⟨k.val / 32, by omega⟩)

/-- A sum over 7168 positions is the seven sums over 1024 positions added up in order. -/
theorem sum_chunks (f : Fin 7168 → EReal) :
    ∑ k, f k = (∑ k : Fin 1024, f ⟨1024 * (0 : Fin 7).val + k.val, by omega⟩) + (∑ k : Fin 1024, f ⟨1024 * (1 : Fin 7).val + k.val, by omega⟩)
      + (∑ k : Fin 1024, f ⟨1024 * (2 : Fin 7).val + k.val, by omega⟩) + (∑ k : Fin 1024, f ⟨1024 * (3 : Fin 7).val + k.val, by omega⟩)
      + (∑ k : Fin 1024, f ⟨1024 * (4 : Fin 7).val + k.val, by omega⟩) + (∑ k : Fin 1024, f ⟨1024 * (5 : Fin 7).val + k.val, by omega⟩)
      + (∑ k : Fin 1024, f ⟨1024 * (6 : Fin 7).val + k.val, by omega⟩) := by
  have h : ∑ k, f k = ∑ t : Fin 7, ∑ k : Fin 1024, f ⟨1024 * t.val + k.val, by omega⟩ := by
    rw [← (finProdFinEquiv (m := 7) (n := 1024)).sum_comp f, Fintype.sum_prod_type]
    exact Finset.sum_congr rfl fun t _ => Finset.sum_congr rfl fun k _ => congrArg f (Fin.ext (Nat.add_comm _ _))
  rw [h, Fin.sum_univ_seven]

theorem product_apply (w : Fin 7 → Vec Ideal S1x256x128 .i32) (rows : Fin 224 → Vec Ideal S1x256 .bf16)
    (a : Fin 7 → Vec Ideal S1x31x1024 .bf16) (X : Fin 7168 → EReal) (W : Fin 896 → BitVec 32) (S : Fin 224 → EReal)
    (r : Fin 31) (n : Fin 256)
    (hX : ∀ (t : Fin 7) (k : Fin 1024), a t (ix3 0 r k) = X ⟨1024 * t.val + k.val, by omega⟩)
    (hW : ∀ (t : Fin 7) (k : Fin 128), w t (ix3 0 n k) = W ⟨128 * t.val + k.val, by omega⟩)
    (hS : ∀ g : Fin 224, rows g (ix2 0 n) = S g) :
    product w rows a (ix2 r n) = dot X W S := by
  have hp : ∀ t : Fin 7, part (w t) (rowsOf rows t) (a t) (ix2 r n)
      = ∑ k : Fin 1024, (fun k : Fin 7168 => X k * ((((code (W ⟨k.val / 8, by omega⟩) (k.val % 8)).toInt : ℝ) : EReal)
          * S ⟨k.val / 32, by omega⟩)) ⟨1024 * t.val + k.val, by omega⟩ := fun t => by
    rw [part_apply]
    refine Finset.sum_congr rfl fun k _ => ?_
    rw [tile_apply, decode_apply, hX, hW, rowsOf, hS]
    have e1 : 128 * t.val + k.val / 8 = (1024 * t.val + k.val) / 8 := by omega
    have e2 : k.val % 8 = (1024 * t.val + k.val) % 8 := by omega
    have e3 : 32 * t.val + k.val / 32 = (1024 * t.val + k.val) / 32 := by omega
    simp only [e1, e2, e3]
  rw [dot, sum_chunks, product]
  simp only [← hp]
  rfl

/-! ### The loads -/

theorem words_apply (arg : Memref sig .tc .vmem S1x512x896 .i32) (harg : arg.IsWhole) (x : Vec Ideal S1x512x896 .i32) (h : Fin 2)
    (t : Fin 7) (n : Fin 256) (k : Fin 128) :
    words arg harg x h t (ix3 0 n k) = x (ix3 0 ⟨256 * h.val + n.val, by omega⟩ ⟨128 * t.val + k.val, by omega⟩) := by
  unfold words
  rw [View.readAt_eq_ld, harg.read_unread]
  pointwise []

theorem acts_apply (arg : Memref sig .tc .vmem S1x31x7168 .bf16) (harg : arg.IsWhole) (x : Vec Ideal S1x31x7168 .bf16)
    (t : Fin 7) (r : Fin 31) (k : Fin 1024) :
    acts arg harg x t (ix3 0 r k) = x (ix3 0 r ⟨1024 * t.val + k.val, by omega⟩) := by
  unfold acts
  rw [View.readAt_eq_ld, harg.read_unread]
  pointwise []

theorem scales_apply (arg : Memref sig .tc .vmem S1x512x224 .bf16) (harg : arg.IsWhole) (x : Vec Ideal S1x512x224 .bf16) (h : Fin 2)
    (g : Fin 224) (n : Fin 256) :
    scales arg harg x h (ix3 0 g n) = x (ix3 0 ⟨256 * h.val + n.val, by omega⟩ g) := by
  unfold scales
  rw [View.readAt_eq_ld, harg.read_unread]
  pointwise [k0_pay3]

/-- A slot just stored holds what was stored. -/
theorem canon_slot (b : Fin 2) (w : FVec Ideal S1x224x256 .bf16) (L : List (View.Piece (Elt Ideal) S2x224x256 .bf16))
    (g : Fin 224) (n : Fin 256) : View.canon (slotPiece b w :: L) (ix3 b g n) = w (ix3 0 g n) := by
  have e : (ix3 b g n : S2x224x256.Idx) = (slotPiece b w).1.emb (ix3 0 g n) := by
    funext a; apply Fin.ext; fin_cases a
    · show b.val = b.val + 1 * 0; omega
    · show g.val = 0 + 1 * g.val; omega
    · show n.val = 0 + 1 * n.val; omega
  rw [e]
  exact View.canon_cons_emb _ _ _ _

/-- A store of the other slot changes nothing in this one. -/
theorem canon_other (b b' : Fin 2) (hb : b ≠ b') (w : FVec Ideal S1x224x256 .bf16)
    (L : List (View.Piece (Elt Ideal) S2x224x256 .bf16)) (g : Fin 224) (n : Fin 256) :
    View.canon (slotPiece b w :: L) (ix3 b' g n) = View.canon L (ix3 b' g n) := by
  refine View.canon_cons_of_not_mem _ _ ?_
  intro hm
  obtain ⟨j, hj, e⟩ := (LoadRect.mem_set _).mp hm 0
  have hj' : j < 1 := hj
  have e' : b'.val = b.val + 1 * j := e
  exact hb (Fin.ext (by omega))

theorem row_apply (arg8 : Memref sig .tc .vmem S2x224x256 .bf16) (L : List (View.Piece (Elt Ideal) S2x224x256 .bf16)) (b : Fin 2)
    (g : Fin 224) (n : Fin 256) : row arg8 L b g (ix2 0 n) = View.canon L (ix3 b g n) := by
  unfold row
  rw [View.readCov_eq_canon']
  refine congrArg (View.canon L) ?_
  have e : ∀ h : S1x256.numel = (⟨3, ![1, 1, 256]⟩ : Shape).numel, Shape.reshapeEquiv h (ix2 0 n : S1x256.Idx) = (ix3 0 0 n : (⟨3, ![1, 1, 256]⟩ : Shape).Idx) := fun h => by
    pointwise []
  refine (congrArg _ (e rfl)).trans ?_
  funext a; apply Fin.ext; fin_cases a
  · show b.val + (0 + 1 * 0) = b.val; omega
  · show 0 + (g.val + 1 * 0) = g.val; omega
  · show 0 + 0 + 1 * n.val = n.val; omega

/-- What a point's result block holds at row `r`, column `256 h + n`: the gate through its logistic times the up
    projection. -/
theorem combine_apply (g u : FVec Ideal S31x256 .f32) (r : Fin 31) (n : Fin 256) :
    combine g u (ix3 0 r n) = g (ix2 r n) * Ideal.logistic (g (ix2 r n)) * u (ix2 r n) := by
  pointwise [combine]

end Cert.Proof.Chunk

end
-- ==== Proof.Point.lean ====
/- WHAT A POINT OF THE GRID LEAVES IN ITS RESULT BLOCK, at the ideal values: at row `r` and column `n` the gate and the up
   projection of row `r` of the activations with row `n` of the packed weights, put together by `glu`. -/
module

public import proofs.«01_k».proof.Proof.Chunk

@[expose] public section

set_option maxRecDepth 16384

noncomputable section

namespace Cert.Proof.Point

open Cert.KernelIdeal Cert.KernelIdeal.Gen Idealize.ShloMosaic Cert.Proof.Block Cert.Proof.Chunk

/-- The gate through its logistic, times the up projection. -/
def glu (g u : EReal) : EReal := g * Ideal.logistic g * u

/-- The result block at row `r`, column `n`. -/
def block (x0 : Vec Ideal S1x31x7168 .bf16) (x1 : Vec Ideal S1x512x896 .i32) (x2 : Vec Ideal S1x512x224 .bf16)
    (x3 : Vec Ideal S1x512x896 .i32) (x4 : Vec Ideal S1x512x224 .bf16) (r : Fin 31) (n : Fin 512) : EReal :=
  glu (dot (fun k => x0 (ix3 0 r k)) (fun k => x1 (ix3 0 n k)) (fun g => x2 (ix3 0 n g)))
    (dot (fun k => x0 (ix3 0 r k)) (fun k => x3 (ix3 0 n k)) (fun g => x4 (ix3 0 n g)))

/-- The projection of column half `h`, its scale rows read from a slot that holds that half's scales. -/
theorem half_apply (arg : Memref sig .tc .vmem S1x512x896 .i32) (harg : arg.IsWhole) (x : Vec Ideal S1x512x896 .i32)
    (args : Memref sig .tc .vmem S1x512x224 .bf16) (hargs : args.IsWhole) (s : Vec Ideal S1x512x224 .bf16)
    (arg2 : Memref sig .tc .vmem S1x31x7168 .bf16) (harg2 : arg2.IsWhole) (x0 : Vec Ideal S1x31x7168 .bf16)
    (arg8 : Memref sig .tc .vmem S2x224x256 .bf16) (L : List (View.Piece (Elt Ideal) S2x224x256 .bf16)) (b h : Fin 2)
    (r : Fin 31) (n : Fin 256) :
    product (words arg harg x h) (row arg8 (slotPiece b (scales args hargs s h) :: L) b) (acts arg2 harg2 x0) (ix2 r n)
      = dot (fun k => x0 (ix3 0 r k)) (fun k => x (ix3 0 ⟨256 * h.val + n.val, by omega⟩ k))
          (fun g => s (ix3 0 ⟨256 * h.val + n.val, by omega⟩ g)) :=
  product_apply _ _ _ _ _ _ r n (fun t k => acts_apply arg2 harg2 x0 t r k) (fun t k => words_apply arg harg x h t n k)
    (fun g => by rw [row_apply, canon_slot, scales_apply])

/-- The pieces of one column half, at an index of that half. -/
theorem canon_half (h : Fin 2) (inb : ∀ a, (![0, 0, 256 * h.val] : Fin 3 → Nat) a + S1x31x256.size a ≤ S1x31x512.size a)
    (w : FVec Ideal S1x31x256 .bf16) (L : List (View.Piece (Elt Ideal) S1x31x512 .bf16)) (r : Fin 31) (n : Fin 256) :
    View.canon ((⟨Rect.unit (s := S1x31x512) ![0, 0, 256 * h.val] S1x31x256.size inb, w⟩ : View.Piece (Elt Ideal) S1x31x512 .bf16) :: L)
      (ix3 0 r ⟨256 * h.val + n.val, by omega⟩) = w (ix3 0 r n) := by
  have e : (ix3 0 r ⟨256 * h.val + n.val, by omega⟩ : S1x31x512.Idx)
      = (Rect.unit (s := S1x31x512) ![0, 0, 256 * h.val] S1x31x256.size inb).emb (ix3 0 r n) := by
    funext a; apply Fin.ext; fin_cases a
    · rfl
    · show r.val = 0 + 1 * r.val; omega
    · show 256 * h.val + n.val = 256 * h.val + 1 * n.val; omega
  rw [e]
  exact View.canon_cons_emb _ _ _ _

/-- The second half's store leaves the first half as it was. -/
theorem canon_first (inb : ∀ a, (![0, 0, 256] : Fin 3 → Nat) a + S1x31x256.size a ≤ S1x31x512.size a)
    (w : FVec Ideal S1x31x256 .bf16) (L : List (View.Piece (Elt Ideal) S1x31x512 .bf16)) (r : Fin 31) (n : Fin 512) (hn : n.val < 256) :
    View.canon ((⟨Rect.unit (s := S1x31x512) ![0, 0, 256] S1x31x256.size inb, w⟩ : View.Piece (Elt Ideal) S1x31x512 .bf16) :: L)
      (ix3 0 r n) = View.canon L (ix3 0 r n) := by
  refine View.canon_cons_of_not_mem _ _ ?_
  intro hm
  obtain ⟨j, -, e⟩ := (LoadRect.mem_set _).mp hm 2
  have e' : n.val = 256 + 1 * j := e
  omega

theorem out_apply (c : Dev nD) (i : grid0.Coords) (arg2 : Memref sig .tc .vmem S1x31x7168 .bf16) (harg2 : arg2.IsWhole)
    (arg3 : Memref sig .tc .vmem S1x512x896 .i32) (harg3 : arg3.IsWhole) (arg4 : Memref sig .tc .vmem S1x512x224 .bf16)
    (harg4 : arg4.IsWhole) (arg5 : Memref sig .tc .vmem S1x512x896 .i32) (harg5 : arg5.IsWhole)
    (arg6 : Memref sig .tc .vmem S1x512x224 .bf16) (harg6 : arg6.IsWhole) (arg7 : Memref sig .tc .vmem S1x31x512 .bf16)
    (harg7 : arg7.IsWhole) (arg8 : Memref sig .tc .vmem S2x224x256 .bf16) (harg8 : arg8.IsWhole)
    (x0 : Vec Ideal S1x31x7168 .bf16) (x1 : Vec Ideal S1x512x896 .i32) (x2 : Vec Ideal S1x512x224 .bf16)
    (x3 : Vec Ideal S1x512x896 .i32) (x4 : Vec Ideal S1x512x224 .bf16) (r : Fin 31) (n : Fin 512) :
    out0_A_5 c i arg2 harg2 arg3 harg3 arg4 harg4 arg5 harg5 arg6 harg6 arg7 harg7 arg8 harg8 x0 x1 x2 x3 x4 (ix3 0 r n)
      = block x0 x1 x2 x3 x4 r n := by
  unfold out0_A_5
  rw [View.read_writes_junk_eq_canon, pieces_eq]
  have hb : ∀ n' : Fin 256, 256 * (0 : Fin 2).val + n'.val < 512 := fun n' => by simp; omega
  have hb' : ∀ n' : Fin 256, 256 * (1 : Fin 2).val + n'.val < 512 := fun n' => by simp; omega
  by_cases hn : n.val < 256
  · rw [canon_first _ _ _ _ _ hn]
    have e : n = ⟨256 * (0 : Fin 2).val + (⟨n.val, hn⟩ : Fin 256).val, hb _⟩ := Fin.ext (by simp)
    rw [e]
    refine (canon_half 0 inb_S1x31x512_S1x31x256_0_0_0 _ _ r _).trans ?_
    rw [combine_apply, half_apply, half_apply]
    rfl
  · have e : n = ⟨256 * (1 : Fin 2).val + (⟨n.val - 256, by omega⟩ : Fin 256).val, hb' _⟩ :=
      Fin.ext (by show n.val = 256 * 1 + (n.val - 256); omega)
    rw [e]
    refine (canon_half 1 inb_S1x31x512_S1x31x256_0_0_256 _ _ r _).trans ?_
    rw [combine_apply, half_apply, half_apply]
    rfl

end Cert.Proof.Point

end
-- ==== Proof.Whole.lean ====
/- THE RESULT ARRAY AS ONE FUNCTION OF THE ARGUMENT ARRAYS, at the ideal values: expert `e`, row `r`, column `n` of `G` is
   the gated product of row `r` of the expert's activations with row `n` of the expert's two packed weights. Grid point `t`
   works expert `t / 4` and the 512 columns from `512 * (t % 4)`; its blocks are read at those offsets, and the blocks
   written back cover the array. -/
module

public import proofs.«01_k».proof.Proof.Point
public import proofs.«01_k».proof.Proof.Gen.KernelIdeal.Value

@[expose] public section

set_option maxRecDepth 16384

noncomputable section

namespace Cert.Proof.Whole

open Cert.KernelIdeal Cert.KernelIdeal.Gen Cert.KernelIdeal.Value Idealize.ShloMosaic Idealize.ShloMosaic.TcCoe
open Idealize.SL.Sem Cert.Proof.Chunk Cert.Proof.Point

/-- The result array. -/
def G (a0 : Vec Ideal S24x31x7168 .bf16) (a1 : Vec Ideal S24x2048x896 .i32) (a2 : Vec Ideal S24x2048x224 .bf16)
    (a3 : Vec Ideal S24x2048x896 .i32) (a4 : Vec Ideal S24x2048x224 .bf16) : Vec Ideal S24x31x2048 .bf16 := fun i =>
  glu (dot (fun k => a0 (ix3 (i 0) (i 1) k)) (fun k => a1 (ix3 (i 0) (i 2) k)) (fun g => a2 (ix3 (i 0) (i 2) g)))
    (dot (fun k => a0 (ix3 (i 0) (i 1) k)) (fun k => a3 (ix3 (i 0) (i 2) k)) (fun g => a4 (ix3 (i 0) (i 2) g)))

variable (m : (ℓ : Loc nD τ sig) → Buf (Elt Ideal) ℓ) (ρ : Dev nD → PrngReg)

/-- The block indices of the windows at point `t`. -/
theorem at0 : ∀ t : Fin cfg0.N, win0_0.index t (0 : Fin 3) = t.val / 4 ∧ win0_0.index t (1 : Fin 3) = 0 ∧ win0_0.index t (2 : Fin 3) = 0 :=
  (by decide +kernel : ∀ t : Fin grid0.N, _)
theorem at1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
theorem at2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, _)
theorem at3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
theorem at4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, _)
theorem at5 : ∀ t : Fin cfg0.N, win0_5.index t (0 : Fin 3) = t.val / 4 ∧ win0_5.index t (1 : Fin 3) = 0 ∧ win0_5.index t (2 : Fin 3) = t.val % 4 :=
  (by decide +kernel : ∀ t : Fin grid0.N, _)

theorem count : cfg0.N = 96 := (by decide +kernel : grid0.N = 96)

/-- The expert of point `t`. -/
def expert (t : Fin cfg0.N) : Fin 24 := ⟨t.val / 4, by have := t.isLt; have := count; omega⟩

/-- Column `n` of point `t`'s block, in the array. -/
def column (t : Fin cfg0.N) (n : Fin 512) : Fin 2048 := ⟨t.val % 4 * 512 + n.val, by omega⟩

theorem emb0 (t : Fin cfg0.N) (r : Fin 31) (k : Fin 7168) :
    ((cfg0.win 0).blk t).view.emb (ix3 0 r k) = (ix3 (expert t) r k : S24x31x7168.Idx) := by
  obtain ⟨e0, e1, e2⟩ := at0 t
  funext a; apply Fin.ext
  match a with
  | ⟨0, _⟩ => show win0_0.index t (0 : Fin 3) * 1 + 1 * 0 = t.val / 4; omega
  | ⟨1, _⟩ => show win0_0.index t (1 : Fin 3) * 31 + 1 * r.val = r.val; omega
  | ⟨2, _⟩ => show win0_0.index t (2 : Fin 3) * 7168 + 1 * k.val = k.val; omega

theorem emb1 (t : Fin cfg0.N) (n : Fin 512) (k : Fin 896) :
    ((cfg0.win 1).blk t).view.emb (ix3 0 n k) = (ix3 (expert t) (column t n) k : S24x2048x896.Idx) := by
  obtain ⟨e0, e1, e2⟩ := at1 t
  funext a; apply Fin.ext
  match a with
  | ⟨0, _⟩ => show win0_1.index t (0 : Fin 3) * 1 + 1 * 0 = t.val / 4; omega
  | ⟨1, _⟩ => show win0_1.index t (1 : Fin 3) * 512 + 1 * n.val = t.val % 4 * 512 + n.val; omega
  | ⟨2, _⟩ => show win0_1.index t (2 : Fin 3) * 896 + 1 * k.val = k.val; omega

theorem emb2 (t : Fin cfg0.N) (n : Fin 512) (g : Fin 224) :
    ((cfg0.win 2).blk t).view.emb (ix3 0 n g) = (ix3 (expert t) (column t n) g : S24x2048x224.Idx) := by
  obtain ⟨e0, e1, e2⟩ := at2 t
  funext a; apply Fin.ext
  match a with
  | ⟨0, _⟩ => show win0_2.index t (0 : Fin 3) * 1 + 1 * 0 = t.val / 4; omega
  | ⟨1, _⟩ => show win0_2.index t (1 : Fin 3) * 512 + 1 * n.val = t.val % 4 * 512 + n.val; omega
  | ⟨2, _⟩ => show win0_2.index t (2 : Fin 3) * 224 + 1 * g.val = g.val; omega

theorem emb3 (t : Fin cfg0.N) (n : Fin 512) (k : Fin 896) :
    ((cfg0.win 3).blk t).view.emb (ix3 0 n k) = (ix3 (expert t) (column t n) k : S24x2048x896.Idx) := by
  obtain ⟨e0, e1, e2⟩ := at3 t
  funext a; apply Fin.ext
  match a with
  | ⟨0, _⟩ => show win0_3.index t (0 : Fin 3) * 1 + 1 * 0 = t.val / 4; omega
  | ⟨1, _⟩ => show win0_3.index t (1 : Fin 3) * 512 + 1 * n.val = t.val % 4 * 512 + n.val; omega
  | ⟨2, _⟩ => show win0_3.index t (2 : Fin 3) * 896 + 1 * k.val = k.val; omega

theorem emb4 (t : Fin cfg0.N) (n : Fin 512) (g : Fin 224) :
    ((cfg0.win 4).blk t).view.emb (ix3 0 n g) = (ix3 (expert t) (column t n) g : S24x2048x224.Idx) := by
  obtain ⟨e0, e1, e2⟩ := at4 t
  funext a; apply Fin.ext
  match a with
  | ⟨0, _⟩ => show win0_4.index t (0 : Fin 3) * 1 + 1 * 0 = t.val / 4; omega
  | ⟨1, _⟩ => show win0_4.index t (1 : Fin 3) * 512 + 1 * n.val = t.val % 4 * 512 + n.val; omega
  | ⟨2, _⟩ => show win0_4.index t (2 : Fin 3) * 224 + 1 * g.val = g.val; omega

theorem emb5 (t : Fin cfg0.N) (r : Fin 31) (n : Fin 512) :
    ((cfg0.win 5).blk t).view.emb (ix3 0 r n) = (ix3 (expert t) r (column t n) : S24x31x2048.Idx) := by
  obtain ⟨e0, e1, e2⟩ := at5 t
  funext a; apply Fin.ext
  match a with
  | ⟨0, _⟩ => show win0_5.index t (0 : Fin 3) * 1 + 1 * 0 = t.val / 4; omega
  | ⟨1, _⟩ => show win0_5.index t (1 : Fin 3) * 31 + 1 * r.val = r.val; omega
  | ⟨2, _⟩ => show win0_5.index t (2 : Fin 3) * 512 + 1 * n.val = t.val % 4 * 512 + n.val; omega

/-- The input blocks of point `t`, at an index. -/
theorem iblk0 (c : Dev nD) (t : Fin cfg0.N) (r : Fin 31) (k : Fin 7168) :
    iblk m c 0 t (ix3 0 r k) = V m c main_arg0 (ix3 (expert t) r k) := by
  show V m c main_arg0 (((cfg0.win 0).blk t).view.emb (ix3 0 r k)) = _; rw [emb0]
theorem iblk1 (c : Dev nD) (t : Fin cfg0.N) (n : Fin 512) (k : Fin 896) :
    iblk m c 1 t (ix3 0 n k) = V m c main_arg1 (ix3 (expert t) (column t n) k) := by
  show V m c main_arg1 (((cfg0.win 1).blk t).view.emb (ix3 0 n k)) = _; rw [emb1]
theorem iblk2 (c : Dev nD) (t : Fin cfg0.N) (n : Fin 512) (g : Fin 224) :
    iblk m c 2 t (ix3 0 n g) = V m c main_arg2 (ix3 (expert t) (column t n) g) := by
  show V m c main_arg2 (((cfg0.win 2).blk t).view.emb (ix3 0 n g)) = _; rw [emb2]
theorem iblk3 (c : Dev nD) (t : Fin cfg0.N) (n : Fin 512) (k : Fin 896) :
    iblk m c 3 t (ix3 0 n k) = V m c main_arg3 (ix3 (expert t) (column t n) k) := by
  show V m c main_arg3 (((cfg0.win 3).blk t).view.emb (ix3 0 n k)) = _; rw [emb3]
theorem iblk4 (c : Dev nD) (t : Fin cfg0.N) (n : Fin 512) (g : Fin 224) :
    iblk m c 4 t (ix3 0 n g) = V m c main_arg4 (ix3 (expert t) (column t n) g) := by
  show V m c main_arg4 (((cfg0.win 4).blk t).view.emb (ix3 0 n g)) = _; rw [emb4]

/-- The block function of point `t`'s input blocks is `G` at the block's place. -/
theorem block_eq (c : Dev nD) (t : Fin cfg0.N) (r : Fin 31) (n : Fin 512) :
    block (iblk m c 0 t) (iblk m c 1 t) (iblk m c 2 t) (iblk m c 3 t) (iblk m c 4 t) r n
      = G (V m c main_arg0) (V m c main_arg1) (V m c main_arg2) (V m c main_arg3) (V m c main_arg4)
          (ix3 (expert t) r (column t n)) := by
  unfold block
  simp only [iblk0, iblk1, iblk2, iblk3, iblk4]
  rfl

/-- A block that agrees with an array at the block's places is what the array reads there. -/
theorem cut5 (t : Fin cfg0.N) (X : Vec Ideal S1x31x512 .bf16) (Y : Vec Ideal S24x31x2048 .bf16)
    (h : ∀ r n, X (ix3 0 r n) = Y (ix3 (expert t) r (column t n))) :
    (cfg0.win 5).cut (grid0.coords t) X = ((cfg0.win 5).blk t).view.read (Elt Ideal) Y := by
  have key : ∀ j : S1x31x512.Idx, X j = Y (((cfg0.win 5).blk t).view.emb j) := by
    intro j
    obtain ⟨r, n, rfl⟩ : ∃ (r : Fin 31) (n : Fin 512), j = ix3 0 r n := ⟨j 1, j 2, by
      funext a
      match a with
      | ⟨0, _⟩ => exact Subsingleton.elim (α := Fin 1) _ _
      | ⟨1, _⟩ => rfl
      | ⟨2, _⟩ => rfl⟩
    rw [emb5]
    exact h r n
  exact funext key

/-- What a point writes back is its block of `G` of the argument arrays. -/
theorem flushed5_eq (c : Dev nD) (t : Fin cfg0.N) :
    (dats m 0 c).flushed 5 t = ((cfg0.win 5).blk t).view.read (Elt Ideal)
      (G (V m c main_arg0) (V m c main_arg1) (V m c main_arg2) (V m c main_arg3) (V m c main_arg4)) := by
  rw [flushed5_A]
  exact cut5 t _ _ fun r n => (out_apply _ _ _ _ _ _ _ _ _ _ _ _ _ _ _ _ _ _ _ _ _ _ _).trans (block_eq m c t r n)

theorem mem5 (t : Fin cfg0.N) (r : Fin 31) (n : Fin 512) :
    (ix3 (expert t) r (column t n) : S24x31x2048.Idx) ∈ ((cfg0.win 5).blk t).view.set := by
  have h := ((cfg0.win 5).blk t).view.emb_mem_set (ix3 0 r n)
  have e := emb5 t r n
  exact e ▸ h

/-- Every index of the result array lies in some point's block. -/
theorem place (e : Fin 24) (n : Fin 2048) : ∃ (t : Fin cfg0.N) (n' : Fin 512), expert t = e ∧ column t n' = n := by
  have hN := count
  refine ⟨⟨4 * e.val + n.val / 512, by omega⟩, ⟨n.val % 512, by omega⟩, Fin.ext ?_, Fin.ext ?_⟩
  · show (4 * e.val + n.val / 512) / 4 = e.val; omega
  · show (4 * e.val + n.val / 512) % 4 * 512 + n.val % 512 = n.val; omega

/-- And every point writes back, so the blocks written back cover the array. -/
theorem covered5 (i : S24x31x2048.Idx) :
    ∃ t : Fin cfg0.N, (cfg0.win 5).flush t = true ∧ i ∈ ((cfg0.win 5).blk t).view.set := by
  obtain ⟨e, r, n, rfl⟩ : ∃ (e : Fin 24) (r : Fin 31) (n : Fin 2048), i = ix3 e r n := ⟨i 0, i 1, i 2, by
    funext a
    match a with
    | ⟨0, _⟩ => rfl
    | ⟨1, _⟩ => rfl
    | ⟨2, _⟩ => rfl⟩
  obtain ⟨t, n', rfl, rfl⟩ := place e n
  exact ⟨t, flush0_5 t, mem5 t r n'⟩

/-- The result array after the run: `G` of the argument arrays as launched. -/
theorem final5 (c : Dev nD) : (dats m 0 c).arrAt 5 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) :=
  ((dats m 0 c).arrAt_eq_of_cover 5
    (G (V m c main_arg0) (V m c main_arg1) (V m c main_arg2) (V m c main_arg3) (V m c main_arg4))
    (fun t _ => flushed5_eq m c t) covered5).trans
    (by rw [V_main_arg0, V_main_arg1, V_main_arg2, V_main_arg3, V_main_arg4])

/-- The generated run with the result array at its function of the arguments. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2⟩) (run_blocks m ρ)

end Cert.Proof.Whole

end
-- ==== Proof.Plain.lean ====
/- WHAT THE REFERENCE COMPUTES, at an index: its codes are the words' nibbles less eight, its einsums are the sums over the
   whole of the inner axis, and its gate is the logistic's own quotient. So its result is the kernel's `G`. -/
module

public import proofs.«01_k».proof.Proof.Whole
public import proofs.«01_k».proof.Proof.Gen.ReferenceIdeal.Run

@[expose] public section

set_option maxRecDepth 16384

noncomputable section

namespace Cert.Proof.Plain

open Cert.ReferenceIdeal Cert.ReferenceIdeal.Gen Idealize.ShloMosaic Cert.Proof.Chunk Cert.Proof.Point

/-- The codes of one packed weight, laid out along the inner axis. -/
def codes (w : IVec S24x2048x896 32) : FVec Ideal S24x2048x7168 .bf16 :=
  sitofp .bf16 (shapeCast _ (subi (andi (Host.shrsi (broadcastInDim S24x2048x896x8 ![0, 1, 2, 3] bcast_S24x2048x896x1_S24x2048x896x8_0_1_2_3 (broadcastInDim S24x2048x896x1 ![0, 1, 2] bcast_S24x2048x896_S24x2048x896x1_0_1_2 w)) (broadcastInDim S24x2048x896x8 ![0, 1, 2, 3] bcast_S1x1x1x8_S24x2048x896x8_0_1_2_3 (broadcastInDim S1x1x1x8 ![3] bcast_S8_S1x1x1x8_3 (muli (broadcastInDim S8 ![] bcast_S_S8 (constantI S_ 32 4#32)) (iotaInDim S8 32 0))))) (broadcastInDim S24x2048x896x8 ![] bcast_S_S24x2048x896x8 (constantI S_ 32 15#32))) (broadcastInDim S24x2048x896x8 ![] bcast_S_S24x2048x896x8 (constantI S_ 32 8#32))) shapeCasts_S24x2048x896x8_S24x2048x7168)

/-- The scales repeated over their groups. -/
def groups (s : FVec Ideal S24x2048x224 .bf16) : FVec Ideal S24x2048x7168 .bf16 :=
  shapeCast _ (broadcastInDim S24x2048x224x32 ![0, 1, 2] bcast_S24x2048x224_S24x2048x224x32_0_1_2 s) shapeCasts_S24x2048x224x32_S24x2048x7168

/-- One projection. -/
def project (x : FVec Ideal S24x31x7168 .bf16) (w : IVec S24x2048x896 32) (s : FVec Ideal S24x2048x224 .bf16) : FVec Ideal S24x31x2048 .f32 :=
  Host.dotGeneral dot_S24x31x7168_S24x2048x7168_S24x31x2048_2_2_1_1_0_0 none x (mulf (codes w) (groups s))

/-- The reference's result from its two projections. -/
def gated (g u : FVec Ideal S24x31x2048 .f32) : FVec Ideal S24x31x2048 .bf16 :=
  truncf .bf16 (mulf (mulf g (Host.divf (broadcastInDim S24x31x2048 ![] bcast_S_S24x31x2048 (constant S_ .f32 0x3F800000#32)) (addf (broadcastInDim S24x31x2048 ![] bcast_S_S24x31x2048 (constant S_ .f32 0x3F800000#32)) (Host.exp (Host.negf g))))) u) bitsLt_bf16_f32

/-- The reference's nibble: the word shifted right by four times its place, masked, less eight. -/
theorem nibble_eq (w : BitVec 32) (j : Fin 8) :
    IntOp.subi (IntOp.andi (IntOp.shrsi ArithUnit.host w (IntOp.muli 4#32 (BitVec.ofNat 32 j.val))) 15#32) 8#32 = code w j.val := by
  have e : IntOp.muli 4#32 (BitVec.ofNat 32 j.val) = BitVec.ofNat 32 (4 * j.val) := by
    revert j; decide
  fin_cases j <;> rfl

theorem codes_apply (w : IVec S24x2048x896 32) (e : Fin 24) (n : Fin 2048) (k : Fin 7168) :
    codes w (ix3 e n k) = (((code (w (ix3 e n ⟨k.val / 8, by omega⟩)) (k.val % 8)).toInt : ℝ) : EReal) := by
  pointwise [codes]
  exact congrArg (fun b : BitVec 32 => ((b.toInt : ℝ) : EReal)) (nibble_eq _ ⟨k.val % 8, by omega⟩)

theorem groups_apply (s : FVec Ideal S24x2048x224 .bf16) (e : Fin 24) (n : Fin 2048) (k : Fin 7168) :
    groups s (ix3 e n k) = s (ix3 e n ⟨k.val / 32, by omega⟩) := by
  pointwise [groups]

theorem project_apply (x : FVec Ideal S24x31x7168 .bf16) (w : IVec S24x2048x896 32) (s : FVec Ideal S24x2048x224 .bf16)
    (e : Fin 24) (r : Fin 31) (n : Fin 2048) :
    project x w s (ix3 e r n) = dot (fun k => x (ix3 e r k)) (fun k => w (ix3 e n k)) (fun g => s (ix3 e n g)) := by
  pointwise [project]
  simp only [codes_apply, groups_apply]
  rfl

theorem gated_apply (g u : FVec Ideal S24x31x2048 .f32) (e : Fin 24) (r : Fin 31) (n : Fin 2048) :
    gated g u (ix3 e r n) = glu (g (ix3 e r n)) (u (ix3 e r n)) := by
  pointwise [gated]
  rfl

/-- The reference's result array is `G` of its arguments. -/
theorem gated_eq (a0 : FVec Ideal S24x31x7168 .bf16) (a1 : IVec S24x2048x896 32) (a2 : FVec Ideal S24x2048x224 .bf16)
    (a3 : IVec S24x2048x896 32) (a4 : FVec Ideal S24x2048x224 .bf16) :
    gated (project a0 a1 a2) (project a0 a3 a4) = Whole.G a0 a1 a2 a3 a4 := by
  have key : ∀ i : S24x31x2048.Idx, gated (project a0 a1 a2) (project a0 a3 a4) i = Whole.G a0 a1 a2 a3 a4 i := by
    intro i
    obtain ⟨e, r, n, rfl⟩ : ∃ (e : Fin 24) (r : Fin 31) (n : Fin 2048), i = ix3 e r n := ⟨i 0, i 1, i 2, by
      funext a
      match a with
      | ⟨0, _⟩ => rfl
      | ⟨1, _⟩ => rfl
      | ⟨2, _⟩ => rfl⟩
    rw [gated_apply, project_apply, project_apply]
    rfl
  exact funext key

end Cert.Proof.Plain

end
-- ==== Proof.SharedBody.lean ====
/- ONE CALL OF THE SHARED EXPERT'S BODY, at any scalars: what it leaves in its buffers in each of the four cases its
   guards make — the first point (quantises the tokens, then a hidden block), points 1 to 6 (a hidden block), point 7 (the
   last hidden block, then quantises all of them), and the last seven (a block of the result). The hidden blocks lie in one
   scratch buffer, a slot each. -/
module

public import proofs.«01_k».proof.Proof.Gen.SharedIdeal.Frame
public import proofs.«01_k».proof.Proof.Gen.SharedIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.SharedIdeal.Body

open Cert.SharedIdeal Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `k` of the scratch buffer, as the body loads it. -/
abbrev slot (s : Vec F S8x40x256 .f32) (k : ℕ) (h : ∀ a, (![k, 0, 0] : Fin 3 → ℕ) a + S1x40x256.size a ≤ S8x40x256.size a) : Vec F S1x40x256 .f32 :=
  VecWindow.window s ![k, 0, 0] S1x40x256.size h

/-- The scratch buffer with row `j` replaced. -/
abbrev setSlot (s : Vec F S8x40x256 .f32) (j : ℕ) (v : Vec F S1x40x256 .f32) : Vec F S8x40x256 .f32 :=
  VecWindow.put s ![j, 0, 0] S1x40x256.size v

/-- The scale of the hidden activations, from the eight rows of the scratch buffer. -/
def hiddenScale (S : Vec F S8x40x256 .f32) : Vec F S40x1 .f32 :=
  k0_pay8 (slot S 0 (by decide)) (slot S 1 (by decide)) (slot S 2 (by decide)) (slot S 3 (by decide)) (slot S 4 (by decide)) (slot S 5 (by decide)) (slot S 6 (by decide)) (slot S 7 (by decide))

/-- The codes of the hidden activations, from the eight rows of the scratch buffer. -/
def hiddenCodes (S : Vec F S8x40x256 .f32) : Vec F S40x2048 .fp8e4m3 :=
  k0_pay5 (Scalar.ofBits .f32 0x43E00000#32) (k0_pay9 (slot S 0 (by decide)) (slot S 1 (by decide)) (slot S 2 (by decide)) (slot S 3 (by decide)) (slot S 4 (by decide)) (slot S 5 (by decide)) (slot S 6 (by decide)) (slot S 7 (by decide)))

/-- A load of row `k` reads row `k` of what the buffer holds. -/
theorem readAt_slot {sp : Space} (v : View sig .tc sp S8x40x256 .f32) (f : v.ty.Contents (Elt F)) (k : ℕ)
    (h : ∀ a, (![k, 0, 0] : Fin 3 → ℕ) a + S1x40x256.size a ≤ S8x40x256.size a) :
    v.readAt (Elt F) (Rect.unit (s := S8x40x256) ![k, 0, 0] S1x40x256.size h).toLoadRect f = slot (v.read (Elt F) f) k h :=
  View.readAt_unit v f h (off' := ![k, 0, 0]) rfl h

/-- A store into one row of the scratch buffer replaces that row. -/
theorem read_writes_slot {sp : Space} (v : View sig .tc sp S8x40x256 .f32) (f : v.ty.Contents (Elt F)) (i : grid0.Coords)
    (h : ∀ a, k0_off1 i a + S1x40x256.size a ≤ S8x40x256.size a) (w : Vec F S1x40x256 .f32) :
    v.read (Elt F) (v.writes (Elt F) f [⟨Rect.unit (s := S8x40x256) (k0_off1 i) S1x40x256.size h, w⟩]) = setSlot (v.read (Elt F) f) (i 0).val w := by
  rw [View.read_writes_cons_put v f h w [] (k0_off1_eq i), View.writes_nil]

/-- A load of a row after a store into one row. -/
theorem readAt_writes_slot {sp : Space} (M : Memref sig .tc sp S8x40x256 .f32) (hM : M.IsWhole) (s : Vec F S8x40x256 .f32) (i : grid0.Coords)
    (h : ∀ a, k0_off1 i a + S1x40x256.size a ≤ S8x40x256.size a) (w : Vec F S1x40x256 .f32) (k : ℕ)
    (hk : ∀ a, (![k, 0, 0] : Fin 3 → ℕ) a + S1x40x256.size a ≤ S8x40x256.size a) :
    M.view.readAt (Elt F) (Rect.unit (s := S8x40x256) ![k, 0, 0] S1x40x256.size hk).toLoadRect
        (M.view.writes (Elt F) (hM.unread s) [⟨Rect.unit (s := S8x40x256) (k0_off1 i) S1x40x256.size h, w⟩])
      = slot (setSlot s (i 0).val w) k hk := by
  rw [readAt_slot, read_writes_slot, hM.read_unread]

variable (c : Dev nD) (i : grid0.Coords)
  (arg1 : Memref sig .tc .vmem S40x7168 .bf16) (harg1 : arg1.IsWhole)
  (arg2 : Memref sig .tc .vmem S256x7168 .fp8e4m3) (harg2 : arg2.IsWhole)
  (arg3 : Memref sig .tc .vmem S256x7168 .fp8e4m3) (harg3 : arg3.IsWhole)
  (arg4 : Memref sig .tc .vmem S1024x2048 .fp8e4m3) (harg4 : arg4.IsWhole)
  (arg5 : Memref sig .tc .vmem S1x256 .f32) (harg5 : arg5.IsWhole)
  (arg6 : Memref sig .tc .vmem S1x256 .f32) (harg6 : arg6.IsWhole)
  (arg7 : Memref sig .tc .vmem S1x1024 .f32) (harg7 : arg7.IsWhole)
  (arg8 : Memref sig .tc .vmem S40x1024 .bf16) (harg8 : arg8.IsWhole)
  (arg9 : Memref sig .tc .vmem S40x7168 .fp8e4m3) (harg9 : arg9.IsWhole)
  (arg10 : Memref sig .tc .vmem S40x1 .f32) (harg10 : arg10.IsWhole)
  (arg11 : Memref sig .tc .vmem S40x2048 .fp8e4m3) (harg11 : arg11.IsWhole)
  (arg12 : Memref sig .tc .vmem S40x1 .f32) (harg12 : arg12.IsWhole)
  (arg13 : Memref sig .tc .vmem S8x40x256 .f32) (harg13 : arg13.IsWhole)
variable (x0 : Vec F S40x7168 .bf16) (x1 : Vec F S256x7168 .fp8e4m3) (x2 : Vec F S256x7168 .fp8e4m3) (x3 : Vec F S1024x2048 .fp8e4m3) (x4 : Vec F S1x256 .f32) (x5 : Vec F S1x256 .f32) (x6 : Vec F S1x1024 .f32) (x7 : Vec F S40x1024 .bf16) (x8 : Vec F S40x7168 .fp8e4m3) (x9 : Vec F S40x1 .f32) (x10 : Vec F S40x2048 .fp8e4m3) (x11 : Vec F S40x1 .f32) (s : Vec F S8x40x256 .f32)

set_option maxHeartbeats 1000000 in
theorem runD (hc0 : ¬k0_cond1 i = 1#1) (hc1 : ¬k0_cond2 i = 1#1) (hc2 : ¬k0_cond3 i = 1#1) (hc3 : k0_cond4 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k0_pay6 x10 x3 x11 x6) ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare s) -∗ K ⟨⟩))
      ⊢ wp frame (wpE (defs₀ (F := F)) Variants.none c none) E (cc0_shared_expert i arg1 harg1 arg2 harg2 arg3 harg3 arg4 harg4 arg5 harg5 arg6 harg6 arg7 harg7 arg8 harg8 arg9 harg9 arg10 harg10 arg11 harg11 arg12 harg12 arg13 harg13) K := by
  simp only [cc0_shared_expert_eq_skeleton]; unfold cc0_shared_expert_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    simp only [View.readAt_full (s := S40x1), View.readAt_full (s := S40x7168), View.readAt_full (s := S256x7168), View.readAt_full (s := S1x256), View.readAt_full (s := S40x2048), View.readAt_full (s := S1024x2048), View.readAt_full (s := S1x1024), View.readAt_full (s := S40x1024), View.readCov_full (s := S40x1), View.readCov_full (s := S40x7168), View.readAt_writes_full (s := S40x1), View.readAt_writes_full (s := S40x7168), View.read_writes_full (s := S40x1), View.read_writes_full (s := S40x7168), View.read_writes_full (s := S40x1024), Memref.IsWhole.read_unread]
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  iexists _; isplitr; · ipureintro; exact harg13.read_unread _
  iexact H12

set_option maxHeartbeats 1000000 in
theorem runB (hc0 : ¬k0_cond1 i = 1#1) (hc1 : k0_cond2 i = 1#1) (hc2 : ¬k0_cond3 i = 1#1) (hc3 : ¬k0_cond4 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (setSlot s (i 0).val (k0_pay4 x9 x8 x1 x4 x8 x2 x5))) -∗ K ⟨⟩))
      ⊢ wp frame (wpE (defs₀ (F := F)) Variants.none c none) E (cc0_shared_expert i arg1 harg1 arg2 harg2 arg3 harg3 arg4 harg4 arg5 harg5 arg6 harg6 arg7 harg7 arg8 harg8 arg9 harg9 arg10 harg10 arg11 harg11 arg12 harg12 arg13 harg13) K := by
  simp only [cc0_shared_expert_eq_skeleton]; unfold cc0_shared_expert_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  iexists _; isplitr; swap; · iexact H12
  ipureintro
  rw [read_writes_slot]
  simp only [View.readAt_full (s := S40x1), View.readAt_full (s := S40x7168), View.readAt_full (s := S256x7168), View.readAt_full (s := S1x256), View.readAt_full (s := S40x2048), View.readAt_full (s := S1024x2048), View.readAt_full (s := S1x1024), View.readAt_full (s := S40x1024), View.readCov_full (s := S40x1), View.readCov_full (s := S40x7168), View.readAt_writes_full (s := S40x1), View.readAt_writes_full (s := S40x7168), View.read_writes_full (s := S40x1), View.read_writes_full (s := S40x7168), View.read_writes_full (s := S40x1024), Memref.IsWhole.read_unread]

set_option maxHeartbeats 1000000 in
theorem runA (hc0 : k0_cond1 i = 1#1) (hc1 : k0_cond2 i = 1#1) (hc2 : ¬k0_cond3 i = 1#1) (hc3 : ¬k0_cond4 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (k0_pay3 x0) ∗ owns (c : Thread nD τ) arg10 fullShare (k0_pay2 x0) ∗ owns (c : Thread nD τ) arg11 fullShare x10 ∗ owns (c : Thread nD τ) arg12 fullShare x11 ∗ owns (c : Thread nD τ) arg13 fullShare (setSlot s (i 0).val (k0_pay4 (k0_pay2 x0) (k0_pay3 x0) x1 x4 (k0_pay3 x0) x2 x5))) -∗ K ⟨⟩))
      ⊢ wp frame (wpE (defs₀ (F := F)) Variants.none c none) E (cc0_shared_expert i arg1 harg1 arg2 harg2 arg3 harg3 arg4 harg4 arg5 harg5 arg6 harg6 arg7 harg7 arg8 harg8 arg9 harg9 arg10 harg10 arg11 harg11 arg12 harg12 arg13 harg13) K := by
  simp only [cc0_shared_expert_eq_skeleton]; unfold cc0_shared_expert_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; swap; · iexact H8
    ipureintro
    delta runA.sl.H8_1
    simp only [View.readAt_full (s := S40x1), View.readAt_full (s := S40x7168), View.readAt_full (s := S256x7168), View.readAt_full (s := S1x256), View.readAt_full (s := S40x2048), View.readAt_full (s := S1024x2048), View.readAt_full (s := S1x1024), View.readAt_full (s := S40x1024), View.readCov_full (s := S40x1), View.readCov_full (s := S40x7168), View.readAt_writes_full (s := S40x1), View.readAt_writes_full (s := S40x7168), View.read_writes_full (s := S40x1), View.read_writes_full (s := S40x7168), View.read_writes_full (s := S40x1024), Memref.IsWhole.read_unread]
  isplitl [H9]
  · iexists _; isplitr; swap; · iexact H9
    ipureintro
    delta runA.sl.H9_1
    simp only [View.readAt_full (s := S40x1), View.readAt_full (s := S40x7168), View.readAt_full (s := S256x7168), View.readAt_full (s := S1x256), View.readAt_full (s := S40x2048), View.readAt_full (s := S1024x2048), View.readAt_full (s := S1x1024), View.readAt_full (s := S40x1024), View.readCov_full (s := S40x1), View.readCov_full (s := S40x7168), View.readAt_writes_full (s := S40x1), View.readAt_writes_full (s := S40x7168), View.read_writes_full (s := S40x1), View.read_writes_full (s := S40x7168), View.read_writes_full (s := S40x1024), Memref.IsWhole.read_unread]
  isplitl [H10]
  · iexists _; isplitr; · ipureintro; exact harg11.read_unread _
    iexact H10
  isplitl [H11]
  · iexists _; isplitr; · ipureintro; exact harg12.read_unread _
    iexact H11
  iexists _; isplitr; swap; · iexact H12
  ipureintro
  rw [read_writes_slot]
  delta runA.sl.v12 runA.sl.v14 runA.sl.H8_1 runA.sl.H9_1
  simp only [View.readAt_full (s := S40x1), View.readAt_full (s := S40x7168), View.readAt_full (s := S256x7168), View.readAt_full (s := S1x256), View.readAt_full (s := S40x2048), View.readAt_full (s := S1024x2048), View.readAt_full (s := S1x1024), View.readAt_full (s := S40x1024), View.readCov_full (s := S40x1), View.readCov_full (s := S40x7168), View.readAt_writes_full (s := S40x1), View.readAt_writes_full (s := S40x7168), View.read_writes_full (s := S40x1), View.read_writes_full (s := S40x7168), View.read_writes_full (s := S40x1024), Memref.IsWhole.read_unread]

set_option maxHeartbeats 1000000 in
theorem runC (hc0 : ¬k0_cond1 i = 1#1) (hc1 : k0_cond2 i = 1#1) (hc2 : k0_cond3 i = 1#1) (hc3 : ¬k0_cond4 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare s
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (hiddenCodes (setSlot s (i 0).val (k0_pay4 x9 x8 x1 x4 x8 x2 x5))) ∗ owns (c : Thread nD τ) arg12 fullShare (hiddenScale (setSlot s (i 0).val (k0_pay4 x9 x8 x1 x4 x8 x2 x5))) ∗ owns (c : Thread nD τ) arg13 fullShare (setSlot s (i 0).val (k0_pay4 x9 x8 x1 x4 x8 x2 x5))) -∗ K ⟨⟩))
      ⊢ wp frame (wpE (defs₀ (F := F)) Variants.none c none) E (cc0_shared_expert i arg1 harg1 arg2 harg2 arg3 harg3 arg4 harg4 arg5 harg5 arg6 harg6 arg7 harg7 arg8 harg8 arg9 harg9 arg10 harg10 arg11 harg11 arg12 harg12 arg13 harg13) K := by
  simp only [cc0_shared_expert_eq_skeleton]; unfold cc0_shared_expert_skel
  rw [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro
    rw [View.read_writes_full]
    delta runC.sl.r_1 runC.sl.cst_25 hiddenCodes runC.sl.H12_1 runC.sl.v12 runC.sl.v14 runC.sl.v16 runC.sl.v18 runC.sl.v20 runC.sl.v22 runC.sl.v24 runC.sl.v26
    simp only [View.readAt_full (s := S40x1), View.readAt_full (s := S40x7168), View.readAt_full (s := S256x7168), View.readAt_full (s := S1x256), Memref.IsWhole.read_unread]
    refine congrArg (k0_pay5 _) ?_
    congr 1 <;> exact readAt_writes_slot arg13 harg13 s i _ _ _ _
  isplitl [H11]
  · iexists _; isplitr; swap; · iexact H11
    ipureintro
    rw [View.read_writes_full]
    delta runC.sl.r hiddenScale runC.sl.H12_1 runC.sl.v12 runC.sl.v14 runC.sl.v16 runC.sl.v18 runC.sl.v20 runC.sl.v22 runC.sl.v24 runC.sl.v26
    simp only [View.readAt_full (s := S40x1), View.readAt_full (s := S40x7168), View.readAt_full (s := S256x7168), View.readAt_full (s := S1x256), Memref.IsWhole.read_unread]
    congr 1 <;> exact readAt_writes_slot arg13 harg13 s i _ _ _ _
  iexists _; isplitr; swap; · iexact H12
  ipureintro
  delta runC.sl.H12_1
  rw [read_writes_slot]
  simp only [View.readAt_full (s := S40x1), View.readAt_full (s := S40x7168), View.readAt_full (s := S256x7168), View.readAt_full (s := S1x256), Memref.IsWhole.read_unread]

end Cert.SharedIdeal.Body
-- ==== Proof.SharedRun.lean ====
/- THE SHARED EXPERT'S RUN, at any scalars: the scratch buffer holds the hidden blocks of the points so far, the codes and
   scales stay in their buffers from the point that writes them, and from these invariants each call of the body is sound;
   so the run ends with the arrays at what the points wrote back, the arguments unchanged and the semaphores at zero. -/
module

public import proofs.«01_k».proof.Proof.SharedBody
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.TableIdle
public import Idealize.ShloMosaic.Lib.Pipeline.Value
public import Idealize.ShloMosaic.Lib.Claim

@[expose] public section

set_option maxRecDepth 16384

noncomputable section

namespace Cert.SharedIdeal.Body

open Cert.SharedIdeal Cert.SharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branches run at which point -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val < 8 :=
  (by decide +kernel : ∀ t : Fin grid0.N, k0_cond2 (grid0.coords t) = 1#1 ↔ t.val < 8)
theorem cond3_iff : ∀ t : Fin cfg0.N, k0_cond3 (grid0.coords t) = 1#1 ↔ t.val = 7 :=
  (by decide +kernel : ∀ t : Fin grid0.N, k0_cond3 (grid0.coords t) = 1#1 ↔ t.val = 7)
theorem cond4_iff : ∀ t : Fin cfg0.N, k0_cond4 (grid0.coords t) = 1#1 ↔ 8 ≤ t.val :=
  (by decide +kernel : ∀ t : Fin grid0.N, k0_cond4 (grid0.coords t) = 1#1 ↔ 8 ≤ t.val)

theorem points : cfg0.N = 15 := N_0

/-- The point number is the grid coordinate. -/
theorem coord_eq (t : Fin cfg0.N) : (grid0.coords t 0).val = t.val := by
  have ht : t.val < 15 := lt_of_lt_of_eq t.isLt points
  have e0 : (grid0.coords t 0).val = t.val / 1 % 15 := Pipeline.Grid.coords_val t 0 (by decide) rfl
  omega

/-! ## What the buffers hold, point by point -/

/-- Point `j` of the first phase. -/
abbrev pt (j : ℕ) (h : j < 15) : Fin cfg0.N := ⟨j, lt_of_lt_of_eq h points.symm⟩

/-- The codes and the scales of the tokens, from the block of `x`. -/
def tokenCodes (c : Dev nD) : Vec F S40x7168 .fp8e4m3 := k0_pay3 (iblk m c 0 (pt 0 (by decide)))
def tokenScale (c : Dev nD) : Vec F S40x1 .f32 := k0_pay2 (iblk m c 0 (pt 0 (by decide)))

/-- The columns of the hidden activations that point `t` computes. -/
def hiddenRow (c : Dev nD) (t : Fin cfg0.N) : Vec F S1x40x256 .f32 :=
  k0_pay4 (tokenScale m c) (tokenCodes m c) (iblk m c 1 t) (iblk m c 4 t) (tokenCodes m c) (iblk m c 2 t) (iblk m c 5 t)

/-- The codes and the scales of the hidden activations, from the eight groups of columns. -/
def codesOfRows (c : Dev nD) : Vec F S40x2048 .fp8e4m3 := k0_pay5 (Scalar.ofBits .f32 0x43E00000#32) (k0_pay9 (hiddenRow m c (pt 0 (by decide))) (hiddenRow m c (pt 1 (by decide))) (hiddenRow m c (pt 2 (by decide))) (hiddenRow m c (pt 3 (by decide))) (hiddenRow m c (pt 4 (by decide))) (hiddenRow m c (pt 5 (by decide))) (hiddenRow m c (pt 6 (by decide))) (hiddenRow m c (pt 7 (by decide))))
def scaleOfRows (c : Dev nD) : Vec F S40x1 .f32 := k0_pay8 (hiddenRow m c (pt 0 (by decide))) (hiddenRow m c (pt 1 (by decide))) (hiddenRow m c (pt 2 (by decide))) (hiddenRow m c (pt 3 (by decide))) (hiddenRow m c (pt 4 (by decide))) (hiddenRow m c (pt 5 (by decide))) (hiddenRow m c (pt 6 (by decide))) (hiddenRow m c (pt 7 (by decide)))

/-- The columns of the output that point `t` computes, in the second phase. -/
def outBlock (c : Dev nD) (t : Fin cfg0.N) : Vec F S40x1024 .bf16 :=
  k0_pay6 (codesOfRows m c) (iblk m c 3 t) (scaleOfRows m c) (iblk m c 6 t)

theorem slot_inb {k : ℕ} (hk : k < 8) : ∀ a, (![k, 0, 0] : Fin 3 → ℕ) a + S1x40x256.size a ≤ S8x40x256.size a := fun
  | 0 => show k + 1 ≤ 8 by omega
  | 1 => show 0 + 40 ≤ 40 by omega
  | 2 => show 0 + 256 ≤ 256 by omega

/-- The scratch buffer holds the columns computed by the points before `n`. -/
def Filled (c : Dev nD) (n : ℕ) (s : Vec F S8x40x256 .f32) : Prop :=
  ∀ k (hk : k < 8), k < n → slot s k (slot_inb hk) = hiddenRow m c (pt k (by omega))

theorem filled_succ (c : Dev nD) (t : Fin cfg0.N) (ht : t.val < 8) (s : Vec F S8x40x256 .f32) (h : Filled m c t.val s) :
    Filled m c (t.val + 1) (setSlot s (grid0.coords t 0).val (hiddenRow m c t)) := by
  intro k hk hkt
  rw [coord_eq]
  by_cases e : k = t.val
  · subst e
    exact VecWindow.window_put_same s _ _ _ _
  · refine (VecWindow.window_put_of_disjoint s ![t.val, 0, 0] S1x40x256.size ![k, 0, 0] S1x40x256.size (slot_inb hk) _ 0 ?_).trans
      (h k hk (by omega))
    show k + 1 ≤ t.val ∨ t.val + 1 ≤ k
    omega

theorem filled_of_ge (c : Dev nD) (n n' : ℕ) (hn : 8 ≤ n) (s : Vec F S8x40x256 .f32) (h : Filled m c n s) : Filled m c n' s :=
  fun k hk _ => h k hk (by omega)

theorem hiddenCodes_of_filled (c : Dev nD) (s : Vec F S8x40x256 .f32) (h : Filled m c 8 s) : hiddenCodes s = codesOfRows m c := by
  unfold hiddenCodes codesOfRows
  rw [h 0 (by decide) (by decide), h 1 (by decide) (by decide), h 2 (by decide) (by decide), h 3 (by decide) (by decide),
    h 4 (by decide) (by decide), h 5 (by decide) (by decide), h 6 (by decide) (by decide), h 7 (by decide) (by decide)]

theorem hiddenScale_of_filled (c : Dev nD) (s : Vec F S8x40x256 .f32) (h : Filled m c 8 s) : hiddenScale s = scaleOfRows m c := by
  unfold hiddenScale scaleOfRows
  rw [h 0 (by decide) (by decide), h 1 (by decide) (by decide), h 2 (by decide) (by decide), h 3 (by decide) (by decide),
    h 4 (by decide) (by decide), h 5 (by decide) (by decide), h 6 (by decide) (by decide), h 7 (by decide) (by decide)]

/-! ## The proof data -/

abbrev ms0_0 (t : Fin cfg0.N) : Memref sig .tc .vmem S40x7168 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x7168 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x7168 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S40x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S40x7168 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S40x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S40x2048 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S40x1 .f32 := win0_11.stage (cfg0.slots t 11)
abbrev hs0_11 (t : Fin cfg0.N) : (ms0_11 t).IsWhole := hstage0_11 ((cfg0.slots t 11).cast nbuf0_11)
abbrev scM0_0 : Memref sig .tc .vmem S8x40x256 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Before point `n`: the scratch buffer holds the columns of the points before `n`, and the generator register anything. -/
def Inv (c : Dev nD) (n : ℕ) : sProp 𝕄 :=
  iprop(iprop((∃ s, ⌜Filled m c n s⌝ ∗ owns (c : Thread nD τ) scM0_0 fullShare s)) ∗ (∃ r, prngReg c r))

/-- What every staging buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock m c t
    | ⟨8, _⟩ => tokenCodes m c
    | ⟨9, _⟩ => tokenScale m c
    | ⟨10, _⟩ => codesOfRows m c
    | ⟨11, _⟩ => scaleOfRows m c
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlock m c t := by dsimp only [dats]
theorem after0_8 (c : Dev nD) (t : Fin cfg0.N) : (dats m 0 c).after 8 t = tokenCodes m c := by dsimp only [dats]
theorem after0_9 (c : Dev nD) (t : Fin cfg0.N) : (dats m 0 c).after 9 t = tokenScale m c := by dsimp only [dats]
theorem after0_10 (c : Dev nD) (t : Fin cfg0.N) : (dats m 0 c).after 10 t = codesOfRows m c := by dsimp only [dats]
theorem after0_11 (c : Dev nD) (t : Fin cfg0.N) : (dats m 0 c).after 11 t = scaleOfRows m c := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The outputs that stay in place -/

theorem idle0_8 (t : Fin cfg0.N) : cfg0.idle 8 (grid0.coords t) = decide (t.val ≠ 0) := by
  revert t; exact (by decide +kernel : ∀ t : Fin grid0.N, cfg0.idle 8 (grid0.coords t) = decide (t.val ≠ 0))
theorem idle0_9 (t : Fin cfg0.N) : cfg0.idle 9 (grid0.coords t) = decide (t.val ≠ 0) := by
  revert t; exact (by decide +kernel : ∀ t : Fin grid0.N, cfg0.idle 9 (grid0.coords t) = decide (t.val ≠ 0))
theorem idle0_10 (t : Fin cfg0.N) : cfg0.idle 10 (grid0.coords t) = decide (t.val ≠ 7) := by
  revert t; exact (by decide +kernel : ∀ t : Fin grid0.N, cfg0.idle 10 (grid0.coords t) = decide (t.val ≠ 7))
theorem idle0_11 (t : Fin cfg0.N) : cfg0.idle 11 (grid0.coords t) = decide (t.val ≠ 7) := by
  revert t; exact (by decide +kernel : ∀ t : Fin grid0.N, cfg0.idle 11 (grid0.coords t) = decide (t.val ≠ 7))
theorem idle0_7 (t : Fin cfg0.N) : cfg0.idle 7 (grid0.coords t) = decide (t.val < 8) := by
  revert t; exact (by decide +kernel : ∀ t : Fin grid0.N, cfg0.idle 7 (grid0.coords t) = decide (t.val < 8))
theorem flush0_7 (t : Fin cfg0.N) : (cfg0.win 7).flush t = decide (8 ≤ t.val) := by
  revert t; exact (by decide +kernel : ∀ t : Fin grid0.N, win0_7.flush t = decide (8 ≤ t.val))

/-- An output stored at point `T` alone and written back only after the last point is found, at every later point, as point `T` left it. -/
theorem before_held (c : Dev nD) (w : Fin cfg0.W) (hw : (cfg0.win w).isOut = true) (hclip : ∀ (i : cfg0.grid.Coords) a, (cfg0.win w).clip i a = none)
    (T : ℕ) (hidle : ∀ t : Fin cfg0.N, cfg0.idle w (grid0.coords t) = decide (t.val ≠ T))
    (hflush : ∀ t : Fin cfg0.N, (cfg0.win w).flush t = true ↔ t.val % 15 = 14)
    (hafter : ∀ t t', (dats m 0 c).after w t = (dats m 0 c).after w t') (t : Fin cfg0.N) (ht : T < t.val) (d) :
    (dats m 0 c).before w t d = (dats m 0 c).after w t := by
  have ht15 : t.val < 15 := lt_of_lt_of_eq t.isLt points
  rw [(dats m 0 c).before_out_traj w hw hclip (fun t _ _ _ => hafter _ _) t.val t rfl d, if_neg, hafter]
  have key : ∀ n, n < 15 → T < n → cfg0.fresh w n = false := by
    intro n
    induction n with
    | zero => intro _ h; omega
    | succ n ih =>
      intro h15 hT
      have hn : n < cfg0.N := by rw [points]; omega
      have hf : (cfg0.win w).flush ⟨n, hn⟩ = false := by
        rw [Bool.eq_false_iff]; intro h; have := (hflush _).mp h; simp only at this; omega
      rw [Pipeline.Cfg.fresh_succ cfg0 w n hn, hf, Bool.false_or]
      by_cases e : n = T
      · rw [show cfg0.idle w (cfg0.grid.coords ⟨n, hn⟩) = false from (hidle ⟨n, hn⟩).trans (by simp [e]), Bool.false_and]
      · rw [ih (by omega) (by omega), Bool.and_false]
  rw [key _ ht15 ht]; exact Bool.false_ne_true

theorem before0_8 (c : Dev nD) (t : Fin cfg0.N) (ht : 0 < t.val) (d) : (dats m 0 c).before 8 t d = tokenCodes m c :=
  (before_held m c 8 rfl (fun _ _ => rfl) 0 idle0_8 flush0_8 (fun t t' => (after0_8 m c t).trans (after0_8 m c t').symm) t ht d).trans (after0_8 m c t)
theorem before0_9 (c : Dev nD) (t : Fin cfg0.N) (ht : 0 < t.val) (d) : (dats m 0 c).before 9 t d = tokenScale m c :=
  (before_held m c 9 rfl (fun _ _ => rfl) 0 idle0_9 flush0_9 (fun t t' => (after0_9 m c t).trans (after0_9 m c t').symm) t ht d).trans (after0_9 m c t)
theorem before0_10 (c : Dev nD) (t : Fin cfg0.N) (ht : 7 < t.val) (d) : (dats m 0 c).before 10 t d = codesOfRows m c :=
  (before_held m c 10 rfl (fun _ _ => rfl) 7 idle0_10 flush0_10 (fun t t' => (after0_10 m c t).trans (after0_10 m c t').symm) t ht d).trans (after0_10 m c t)
theorem before0_11 (c : Dev nD) (t : Fin cfg0.N) (ht : 7 < t.val) (d) : (dats m 0 c).before 11 t d = scaleOfRows m c :=
  (before_held m c 11 rfl (fun _ _ => rfl) 7 idle0_11 flush0_11 (fun t t' => (after0_11 m c t).trans (after0_11 m c t').symm) t ht d).trans (after0_11 m c t)

/-- What the body leaves of a window: the contents stated, if they are `after`, or, at an idle point without a write-back, what it found. -/
theorem leaves_after (c : Dev nD) (w : Fin cfg0.W) (t : Fin cfg0.N) (X) (hX : (dats m 0 c).after w t = X)
    (h : cfg0.idle w (grid0.coords t) = false ∨ (cfg0.win w).flush t = true ∨ ∃ d, (dats m 0 c).before w t d = X) :
    (owns (c : Thread nD τ) ((cfg0.win w).stage (cfg0.slots t w)) fullShare X : sProp 𝕄) ⊢ (dats m 0 c).leavesExact w t := by
  subst hX
  unfold Dat.leavesExact
  cases hi : cfg0.idle w (cfg0.grid.coords t)
  · exact .rfl
  · cases hf : (cfg0.win w).flush t
    · rcases h with h | h | ⟨d, hd⟩
      · exact absurd (hi.symm.trans h) (by decide)
      · exact absurd (hf.symm.trans h) (by decide)
      · rw [← hd]
        show _ ⊢ iprop(∃ d, _)
        iintro H; iexists d; iexact H
    · exact .rfl

theorem leaves_found (c : Dev nD) (w : Fin cfg0.W) (t : Fin cfg0.N) (d)
    (hi : cfg0.idle w (grid0.coords t) = true) (hf : (cfg0.win w).flush t = false) :
    (owns (c : Thread nD τ) ((cfg0.win w).stage (cfg0.slots t w)) fullShare ((dats m 0 c).before w t d) : sProp 𝕄) ⊢ (dats m 0 c).leavesExact w t := by
  rw [(dats m 0 c).leavesExact_idle w t hi hf]
  iintro H; iexists d; iexact H

/-! ## The body at a point -/

/-- What the body is handed and what it returns, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 1000000 in
theorem sound_D (c : Dev nD) (t : Fin cfg0.N) (ht : 8 ≤ t.val) :
    bodyPre m c t ⊢ wp frame (wpE (defs₀ (F := F)) Variants.none c none) Set.univ (bodyAt0 t) (fun _ => bodyPost m c t) := by
  have h15 : t.val < 15 := lt_of_lt_of_eq t.isLt points
  unfold bodyPre bodyPost bodyAt0
  rw [show (dats m 0 c).owesAt () t.succ = (dats m 0 c).owesAt () t.castSucc from rfl, show (dats m 0 c).Φ t.castSucc = Inv m c t.val from rfl,
    show (dats m 0 c).Φ t.succ = Inv m c (t.val + 1) from rfl]
  simp only [before0_0, before0_1, before0_2, before0_3, before0_4, before0_5, before0_6]
  simp only [before0_8 m c t (by omega), before0_9 m c t (by omega)]
  simp only [before0_10 m c t (by omega), before0_11 m c t (by omega)]
  unfold Inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runD c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) ((dats m 0 c).before 7 t d7) (tokenCodes m c) (tokenScale m c) (codesOfRows m c) (scaleOfRows m c) s (fun h => absurd ((cond1_iff t).mp h) (by omega)) (fun h => absurd ((cond2_iff t).mp h) (by omega)) (fun h => absurd ((cond3_iff t).mp h) (by omega)) ((cond4_iff t).mpr (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexists _; isplitr; swap; · iexact HS
      ipureintro
      exact filled_of_ge m c _ _ ht s hs
    iexact Hg
  isplitl [Ho]; · iexact Ho
  isplitl [H0]; · iapply (leaves_after m c 0 t _ (after0_0 m c t) (.inl rfl)); iexact H0
  isplitl [H1]; · iapply (leaves_after m c 1 t _ (after0_1 m c t) (.inl rfl)); iexact H1
  isplitl [H2]; · iapply (leaves_after m c 2 t _ (after0_2 m c t) (.inl rfl)); iexact H2
  isplitl [H3]; · iapply (leaves_after m c 3 t _ (after0_3 m c t) (.inl rfl)); iexact H3
  isplitl [H4]; · iapply (leaves_after m c 4 t _ (after0_4 m c t) (.inl rfl)); iexact H4
  isplitl [H5]; · iapply (leaves_after m c 5 t _ (after0_5 m c t) (.inl rfl)); iexact H5
  isplitl [H6]; · iapply (leaves_after m c 6 t _ (after0_6 m c t) (.inl rfl)); iexact H6
  isplitl [H7]; · iapply (leaves_after m c 7 t _ (after0_7 m c t) (.inl (by rw [idle0_7]; simp; omega))); iexact H7
  isplitl [H8]; · iapply (leaves_after m c 8 t _ (after0_8 m c t) (.inr (.inr ⟨d8, before0_8 m c t (by omega) d8⟩))); iexact H8
  isplitl [H9]; · iapply (leaves_after m c 9 t _ (after0_9 m c t) (.inr (.inr ⟨d9, before0_9 m c t (by omega) d9⟩))); iexact H9
  isplitl [H10]; · iapply (leaves_after m c 10 t _ (after0_10 m c t) (.inr (.inr ⟨d10, before0_10 m c t (by omega) d10⟩))); iexact H10
  iapply (leaves_after m c 11 t _ (after0_11 m c t) (.inr (.inr ⟨d11, before0_11 m c t (by omega) d11⟩))); iexact H11

set_option maxHeartbeats 1000000 in
theorem sound_B (c : Dev nD) (t : Fin cfg0.N) (h0 : 0 < t.val) (h7 : t.val < 7) :
    bodyPre m c t ⊢ wp frame (wpE (defs₀ (F := F)) Variants.none c none) Set.univ (bodyAt0 t) (fun _ => bodyPost m c t) := by
  have h15 : t.val < 15 := lt_of_lt_of_eq t.isLt points
  unfold bodyPre bodyPost bodyAt0
  rw [show (dats m 0 c).owesAt () t.succ = (dats m 0 c).owesAt () t.castSucc from rfl, show (dats m 0 c).Φ t.castSucc = Inv m c t.val from rfl,
    show (dats m 0 c).Φ t.succ = Inv m c (t.val + 1) from rfl]
  simp only [before0_0, before0_1, before0_2, before0_3, before0_4, before0_5, before0_6]
  simp only [before0_8 m c t (by omega), before0_9 m c t (by omega)]
  unfold Inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) ((dats m 0 c).before 7 t d7) (tokenCodes m c) (tokenScale m c) ((dats m 0 c).before 10 t d10) ((dats m 0 c).before 11 t d11) s (fun h => absurd ((cond1_iff t).mp h) (by omega)) ((cond2_iff t).mpr (by omega)) (fun h => absurd ((cond3_iff t).mp h) (by omega)) (fun h => absurd ((cond4_iff t).mp h) (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexists _; isplitr; swap; · iexact HS
      ipureintro
      exact filled_succ m c t (by omega) s hs
    iexact Hg
  isplitl [Ho]; · iexact Ho
  isplitl [H0]; · iapply (leaves_after m c 0 t _ (after0_0 m c t) (.inl rfl)); iexact H0
  isplitl [H1]; · iapply (leaves_after m c 1 t _ (after0_1 m c t) (.inl rfl)); iexact H1
  isplitl [H2]; · iapply (leaves_after m c 2 t _ (after0_2 m c t) (.inl rfl)); iexact H2
  isplitl [H3]; · iapply (leaves_after m c 3 t _ (after0_3 m c t) (.inl rfl)); iexact H3
  isplitl [H4]; · iapply (leaves_after m c 4 t _ (after0_4 m c t) (.inl rfl)); iexact H4
  isplitl [H5]; · iapply (leaves_after m c 5 t _ (after0_5 m c t) (.inl rfl)); iexact H5
  isplitl [H6]; · iapply (leaves_after m c 6 t _ (after0_6 m c t) (.inl rfl)); iexact H6
  isplitl [H7]; · iapply (leaves_found m c 7 t d7 (by rw [idle0_7]; simp; omega) (by rw [flush0_7]; simp; omega)); iexact H7
  isplitl [H8]; · iapply (leaves_after m c 8 t _ (after0_8 m c t) (.inr (.inr ⟨d8, before0_8 m c t (by omega) d8⟩))); iexact H8
  isplitl [H9]; · iapply (leaves_after m c 9 t _ (after0_9 m c t) (.inr (.inr ⟨d9, before0_9 m c t (by omega) d9⟩))); iexact H9
  isplitl [H10]; · iapply (leaves_found m c 10 t d10 (by rw [idle0_10]; simp; omega) (by rw [Bool.eq_false_iff]; intro h; have := (flush0_10 t).mp h; omega)); iexact H10
  iapply (leaves_found m c 11 t d11 (by rw [idle0_11]; simp; omega) (by rw [Bool.eq_false_iff]; intro h; have := (flush0_11 t).mp h; omega)); iexact H11

set_option maxHeartbeats 1000000 in
theorem sound_A (c : Dev nD) (t : Fin cfg0.N) (ht : t.val = 0) :
    bodyPre m c t ⊢ wp frame (wpE (defs₀ (F := F)) Variants.none c none) Set.univ (bodyAt0 t) (fun _ => bodyPost m c t) := by
  have h15 : t.val < 15 := lt_of_lt_of_eq t.isLt points
  unfold bodyPre bodyPost bodyAt0
  rw [show (dats m 0 c).owesAt () t.succ = (dats m 0 c).owesAt () t.castSucc from rfl, show (dats m 0 c).Φ t.castSucc = Inv m c t.val from rfl,
    show (dats m 0 c).Φ t.succ = Inv m c (t.val + 1) from rfl]
  simp only [before0_0, before0_1, before0_2, before0_3, before0_4, before0_5, before0_6]
  have e0 : iblk m c 0 t = iblk m c 0 (pt 0 (by decide)) := by rw [show t = pt 0 (by decide) from Fin.ext ht]
  unfold Inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) ((dats m 0 c).before 7 t d7) ((dats m 0 c).before 8 t d8) ((dats m 0 c).before 9 t d9) ((dats m 0 c).before 10 t d10) ((dats m 0 c).before 11 t d11) s ((cond1_iff t).mpr (by omega)) ((cond2_iff t).mpr (by omega)) (fun h => absurd ((cond3_iff t).mp h) (by omega)) (fun h => absurd ((cond4_iff t).mp h) (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexists _; isplitr; swap; · iexact HS
      ipureintro
      have := filled_succ m c t (by omega) s hs
      unfold hiddenRow tokenScale tokenCodes at this
      rw [← e0] at this
      exact this
    iexact Hg
  isplitl [Ho]; · iexact Ho
  isplitl [H0]; · iapply (leaves_after m c 0 t _ (after0_0 m c t) (.inl rfl)); iexact H0
  isplitl [H1]; · iapply (leaves_after m c 1 t _ (after0_1 m c t) (.inl rfl)); iexact H1
  isplitl [H2]; · iapply (leaves_after m c 2 t _ (after0_2 m c t) (.inl rfl)); iexact H2
  isplitl [H3]; · iapply (leaves_after m c 3 t _ (after0_3 m c t) (.inl rfl)); iexact H3
  isplitl [H4]; · iapply (leaves_after m c 4 t _ (after0_4 m c t) (.inl rfl)); iexact H4
  isplitl [H5]; · iapply (leaves_after m c 5 t _ (after0_5 m c t) (.inl rfl)); iexact H5
  isplitl [H6]; · iapply (leaves_after m c 6 t _ (after0_6 m c t) (.inl rfl)); iexact H6
  isplitl [H7]; · iapply (leaves_found m c 7 t d7 (by rw [idle0_7]; simp; omega) (by rw [flush0_7]; simp; omega)); iexact H7
  isplitl [H8]; · iapply (leaves_after m c 8 t _ ((after0_8 m c t).trans (congrArg k0_pay3 e0.symm)) (.inl (by rw [idle0_8]; simp; omega))); iexact H8
  isplitl [H9]; · iapply (leaves_after m c 9 t _ ((after0_9 m c t).trans (congrArg k0_pay2 e0.symm)) (.inl (by rw [idle0_9]; simp; omega))); iexact H9
  isplitl [H10]; · iapply (leaves_found m c 10 t d10 (by rw [idle0_10]; simp; omega) (by rw [Bool.eq_false_iff]; intro h; have := (flush0_10 t).mp h; omega)); iexact H10
  iapply (leaves_found m c 11 t d11 (by rw [idle0_11]; simp; omega) (by rw [Bool.eq_false_iff]; intro h; have := (flush0_11 t).mp h; omega)); iexact H11

set_option maxHeartbeats 1000000 in
theorem sound_C (c : Dev nD) (t : Fin cfg0.N) (ht : t.val = 7) :
    bodyPre m c t ⊢ wp frame (wpE (defs₀ (F := F)) Variants.none c none) Set.univ (bodyAt0 t) (fun _ => bodyPost m c t) := by
  have h15 : t.val < 15 := lt_of_lt_of_eq t.isLt points
  unfold bodyPre bodyPost bodyAt0
  rw [show (dats m 0 c).owesAt () t.succ = (dats m 0 c).owesAt () t.castSucc from rfl, show (dats m 0 c).Φ t.castSucc = Inv m c t.val from rfl,
    show (dats m 0 c).Φ t.succ = Inv m c (t.val + 1) from rfl]
  simp only [before0_0, before0_1, before0_2, before0_3, before0_4, before0_5, before0_6]
  simp only [before0_8 m c t (by omega), before0_9 m c t (by omega)]
  unfold Inv
  iintro ⟨⟨⟨%s, %hs, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) ((dats m 0 c).before 7 t d7) (tokenCodes m c) (tokenScale m c) ((dats m 0 c).before 10 t d10) ((dats m 0 c).before 11 t d11) s (fun h => absurd ((cond1_iff t).mp h) (by omega)) ((cond2_iff t).mpr (by omega)) ((cond3_iff t).mpr (by omega)) (fun h => absurd ((cond4_iff t).mp h) (by omega)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS]; · iexact HS
  iintro ⟨H0, H1, H2, H3, H4, H5, H6, H7, H8, H9, H10, H11, HS⟩
  isplitl [HS Hg]
  · isplitl [HS]
    · iexists _; isplitr; swap; · iexact HS
      ipureintro
      exact filled_succ m c t (by omega) s hs
    iexact Hg
  isplitl [Ho]; · iexact Ho
  isplitl [H0]; · iapply (leaves_after m c 0 t _ (after0_0 m c t) (.inl rfl)); iexact H0
  isplitl [H1]; · iapply (leaves_after m c 1 t _ (after0_1 m c t) (.inl rfl)); iexact H1
  isplitl [H2]; · iapply (leaves_after m c 2 t _ (after0_2 m c t) (.inl rfl)); iexact H2
  isplitl [H3]; · iapply (leaves_after m c 3 t _ (after0_3 m c t) (.inl rfl)); iexact H3
  isplitl [H4]; · iapply (leaves_after m c 4 t _ (after0_4 m c t) (.inl rfl)); iexact H4
  isplitl [H5]; · iapply (leaves_after m c 5 t _ (after0_5 m c t) (.inl rfl)); iexact H5
  isplitl [H6]; · iapply (leaves_after m c 6 t _ (after0_6 m c t) (.inl rfl)); iexact H6
  isplitl [H7]; · iapply (leaves_found m c 7 t d7 (by rw [idle0_7]; simp; omega) (by rw [flush0_7]; simp; omega)); iexact H7
  isplitl [H8]; · iapply (leaves_after m c 8 t _ (after0_8 m c t) (.inr (.inr ⟨d8, before0_8 m c t (by omega) d8⟩))); iexact H8
  isplitl [H9]; · iapply (leaves_after m c 9 t _ (after0_9 m c t) (.inr (.inr ⟨d9, before0_9 m c t (by omega) d9⟩))); iexact H9
  isplitl [H10]; · iapply (leaves_after m c 10 t _ ((after0_10 m c t).trans (hiddenCodes_of_filled m c _ (ht ▸ filled_succ m c t (by omega) s hs :)).symm) (.inl (by rw [idle0_10]; simp; omega))); iexact H10
  iapply (leaves_after m c 11 t _ ((after0_11 m c t).trans (hiddenScale_of_filled m c _ (ht ▸ filled_succ m c t (by omega) s hs :)).symm) (.inl (by rw [idle0_11]; simp; omega))); iexact H11

theorem sound_body (c : Dev nD) (t : Fin cfg0.N) :
    bodyPre m c t ⊢ wp frame (wpE (defs₀ (F := F)) Variants.none c none) Set.univ (bodyAt0 t) (fun _ => bodyPost m c t) := by
  rcases Nat.lt_trichotomy t.val 7 with h | h | h
  · rcases Nat.eq_zero_or_pos t.val with h0 | h0
    · exact sound_A m c t h0
    · exact sound_B m c t h0 h
  · exact sound_C m c t h
  · exact sound_D m c t h

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every run ends with each array at what the write-backs leave in it, everything else untouched, and the semaphores at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      show _ ⊢ Inv m c 0
      rw [PhiA0_eq]; unfold Inv
      iintro ⟨⟨%s, HS⟩, Hg⟩
      isplitl [HS]
      · iexists s; isplitr; · ipureintro; exact fun k _ h => absurd h (Nat.not_lt_zero k)
        iexact HS
      iexact Hg)
    (hout := fun c => by
      show Inv m c _ ⊢ _
      rw [PhiA0_eq]; unfold Inv
      iintro ⟨⟨%s, %hs, HS⟩, Hg⟩
      isplitl [HS]
      · iexists s; iexact HS
      iexact Hg)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.SharedIdeal.Body
-- ==== Proof.SharedBits.lean ====
/- THE SHARED EXPERT'S KERNEL IN BIT PATTERNS runs as the kernel at any scalars does: its program is the one of
   `SharedRun`, read at the bit patterns, so the run proved there is its run. -/
module

public import proofs.«01_k».proof.Defs
public import proofs.«01_k».proof.Proof.Gen.Shared.Frame
public import proofs.«01_k».proof.Proof.SharedRun

@[expose] public section

set_option maxRecDepth 100000
set_option backward.isDefEq.respectTransparency.types false
set_option backward.isDefEq.respectTransparency false

noncomputable section

namespace Cert.Proof.SharedBits

open Idealize.ShloMosaic Idealize.SL.Sem

attribute [local instance] Cert.Shared.Gen.facts Cert.SharedIdeal.Gen.facts

/-- The two body tables are one. -/
theorem defs₀_eq : Cert.Shared.defs₀ (F := Bits) = Cert.SharedIdeal.defs₀ := by
  funext p
  match p with
  | .tc =>
    funext l a
    match l with
    | 0 =>
      obtain ⟨t, s⟩ := a
      rfl
  | .scScalar _ => rfl
  | .scVector _ _ => rfl

/-- The two programs' tables of bodies and pipelines are one. -/
theorem defs_eq : Cert.Shared.defs (F := Bits) = Cert.SharedIdeal.defs := by
  show Pipeline.defs Cert.Shared.pcfgs Cert.Shared.defs₀ = _
  rw [defs₀_eq]
  rfl

/-- The kernel in bit patterns runs to the end, its arguments unchanged and its semaphores at zero. -/
theorem frame : Cert.quiescent_Shared (hShared := Cert.Shared.Gen.facts) := fun m ρ _ => by
  rw [defs_eq]
  exact Cert.SharedIdeal.Body.frame m ρ

end Cert.Proof.SharedBits

end
-- ==== Proof.SharedMath.lean ====
/- THE SHARED EXPERT'S ARITHMETIC, block by block against whole arrays, at the ideal values. The kernel works the hidden
   activations in eight blocks of 256 columns and the result in seven blocks of 1024; the reference works both at once.
   Put side by side the eight blocks are the reference's hidden array, so the quantised hidden activations are the
   reference's too, and a block of the result is the reference's result at the block's columns. -/
module

public import proofs.«01_k».proof.Proof.SharedRun
public import proofs.«01_k».proof.Proof.Gen.SharedReferenceIdeal.Value
public import Idealize.ShloMosaic.PureOps.Ideal
public import Idealize.ShloMosaic.Lib.Pointwise

@[expose] public section

set_option maxRecDepth 16384

noncomputable section

namespace Cert.Proof.SharedMath

open Cert.SharedIdeal Cert.SharedIdeal.Gen Idealize.ShloMosaic

/-- The reference's own arrays of the arguments. -/
def xScale (x : Vec Ideal S40x7168 .bf16) : Vec Ideal S40x1 .f32 := Cert.SharedReferenceIdeal.Gen.k0_pay5 x
def xCodes (x : Vec Ideal S40x7168 .bf16) : Vec Ideal S40x7168 .fp8e4m3 := Cert.SharedReferenceIdeal.Gen.k0_pay6 x
def hidden (x : Vec Ideal S40x7168 .bf16) (wg : Vec Ideal S2048x7168 .fp8e4m3) (sg : Vec Ideal S1x2048 .f32)
    (wu : Vec Ideal S2048x7168 .fp8e4m3) (su : Vec Ideal S1x2048 .f32) : Vec Ideal S40x2048 .f32 :=
  Cert.SharedReferenceIdeal.Gen.k0_pay7 x wg sg wu su

/-- The gated product of one row of codes with one row of each weight. -/
def gatedDot (xc : Fin 7168 → EReal) (xs : EReal) (wg : Fin 7168 → EReal) (sg : EReal) (wu : Fin 7168 → EReal) (su : EReal) : EReal :=
  ((∑ k, xc k * wg k) * xs * sg) * Ideal.logistic ((∑ k, xc k * wg k) * xs * sg) * ((∑ k, xc k * wu k) * xs * su)

theorem hidden_apply (x : Vec Ideal S40x7168 .bf16) (wg : Vec Ideal S2048x7168 .fp8e4m3) (sg : Vec Ideal S1x2048 .f32)
    (wu : Vec Ideal S2048x7168 .fp8e4m3) (su : Vec Ideal S1x2048 .f32) (r : Fin 40) (n : Fin 2048) :
    hidden x wg sg wu su (ix2 r n) = gatedDot (fun k => xCodes x (ix2 r k)) (xScale x (ix2 r 0))
      (fun k => wg (ix2 n k)) (sg (ix2 0 n)) (fun k => wu (ix2 n k)) (su (ix2 0 n)) := by
  unfold hidden
  pointwise [Cert.SharedReferenceIdeal.Gen.k0_pay7]
  unfold gatedDot
  rfl

theorem row_apply (xs : Vec Ideal S40x1 .f32) (xc : Vec Ideal S40x7168 .fp8e4m3) (wg : Vec Ideal S256x7168 .fp8e4m3)
    (sg : Vec Ideal S1x256 .f32) (wu : Vec Ideal S256x7168 .fp8e4m3) (su : Vec Ideal S1x256 .f32) (r : Fin 40) (n : Fin 256) :
    k0_pay4 xs xc wg sg xc wu su (ix3 0 r n) = gatedDot (fun k => xc (ix2 r k)) (xs (ix2 r 0))
      (fun k => wg (ix2 n k)) (sg (ix2 0 n)) (fun k => wu (ix2 n k)) (su (ix2 0 n)) := by
  pointwise [k0_pay4]
  unfold gatedDot
  rfl

theorem side_apply (h : Fin 8 → Vec Ideal S1x40x256 .f32) (r : Fin 40) (n : Fin 2048) :
    k0_pay7 (h 0) (h 1) (h 2) (h 3) (h 4) (h 5) (h 6) (h 7) (ix2 r n) = h ⟨n.val / 256, by omega⟩ (ix3 0 r ⟨n.val % 256, by omega⟩) := by
  have pick : ∀ (j j' : Fin 8) (b b' : Fin 256), j.val = j'.val → b.val = b'.val → h j (ix3 0 r b) = h j' (ix3 0 r b') := by
    intro j j' b b' ej eb
    rw [Fin.ext ej, Fin.ext eb]
  pointwise [k0_pay7]
  split
  · exact pick 0 _ _ _ (by show 0 = n.val / 256; omega) (by show _ = n.val % 256; dsimp only; omega)
  split
  · exact pick 1 _ _ _ (by show 1 = n.val / 256; omega) (by show _ = n.val % 256; dsimp only; omega)
  split
  · exact pick 2 _ _ _ (by show 2 = n.val / 256; omega) (by show _ = n.val % 256; dsimp only; omega)
  split
  · exact pick 3 _ _ _ (by show 3 = n.val / 256; omega) (by show _ = n.val % 256; dsimp only; omega)
  split
  · exact pick 4 _ _ _ (by show 4 = n.val / 256; omega) (by show _ = n.val % 256; dsimp only; omega)
  split
  · exact pick 5 _ _ _ (by show 5 = n.val / 256; omega) (by show _ = n.val % 256; dsimp only; omega)
  split
  · exact pick 6 _ _ _ (by show 6 = n.val / 256; omega) (by show _ = n.val % 256; dsimp only; omega)
  exact pick 7 _ _ _ (by show 7 = n.val / 256; omega) (by show _ = n.val % 256; dsimp only; omega)

/-- Eight blocks of 256 hidden columns, each computed from its block of the weights, side by side: the reference's hidden
    array. -/
theorem hidden_eq (x : Vec Ideal S40x7168 .bf16) (wg : Vec Ideal S2048x7168 .fp8e4m3) (sg : Vec Ideal S1x2048 .f32)
    (wu : Vec Ideal S2048x7168 .fp8e4m3) (su : Vec Ideal S1x2048 .f32) (h : Fin 8 → Vec Ideal S1x40x256 .f32)
    (wgb : Fin 8 → Vec Ideal S256x7168 .fp8e4m3) (sgb : Fin 8 → Vec Ideal S1x256 .f32)
    (wub : Fin 8 → Vec Ideal S256x7168 .fp8e4m3) (sub : Fin 8 → Vec Ideal S1x256 .f32)
    (hh : ∀ j, h j = k0_pay4 (xScale x) (xCodes x) (wgb j) (sgb j) (xCodes x) (wub j) (sub j))
    (hwg : ∀ (j : Fin 8) (n : Fin 256) k, wgb j (ix2 n k) = wg (ix2 ⟨256 * j.val + n.val, by omega⟩ k))
    (hsg : ∀ (j : Fin 8) (n : Fin 256), sgb j (ix2 0 n) = sg (ix2 0 ⟨256 * j.val + n.val, by omega⟩))
    (hwu : ∀ (j : Fin 8) (n : Fin 256) k, wub j (ix2 n k) = wu (ix2 ⟨256 * j.val + n.val, by omega⟩ k))
    (hsu : ∀ (j : Fin 8) (n : Fin 256), sub j (ix2 0 n) = su (ix2 0 ⟨256 * j.val + n.val, by omega⟩)) :
    k0_pay7 (h 0) (h 1) (h 2) (h 3) (h 4) (h 5) (h 6) (h 7) = hidden x wg sg wu su := by
  have key : ∀ i : S40x2048.Idx, k0_pay7 (h 0) (h 1) (h 2) (h 3) (h 4) (h 5) (h 6) (h 7) i = hidden x wg sg wu su i := by
    intro i
    obtain ⟨r, n, rfl⟩ : ∃ (r : Fin 40) (n : Fin 2048), i = ix2 r n := ⟨i 0, i 1, by
      funext a
      match a with
      | ⟨0, _⟩ => rfl
      | ⟨1, _⟩ => rfl⟩
    have en : (⟨256 * (n.val / 256) + n.val % 256, by omega⟩ : Fin 2048) = n := Fin.ext (by show 256 * (n.val / 256) + n.val % 256 = n.val; omega)
    rw [side_apply, hidden_apply, hh, row_apply]
    simp only [hwg, hsg, hwu, hsu, en]
  exact funext key

/-- The reference's largest hidden magnitude of each row, from the hidden array. -/
def rowMax (H : Vec Ideal S40x2048 .f32) : Vec Ideal S40x1 .f32 :=
  shapeCast S40x1 (multiReduction .maximumf [1] S40 (absf (F := Ideal) (s := S40x2048) (φ := .f32) H) 0xFF800000#32 reduces_S40x2048_S40 (.inl rfl) rfl) shapeCasts_S40_S40x1

/-- The reference's scales, codes and result, from the hidden array. -/
def hScale (H : Vec Ideal S40x2048 .f32) : Vec Ideal S40x1 .f32 := Cert.SharedReferenceIdeal.Gen.k0_pay1 (F := Ideal) (rowMax H)
def hCodes (H : Vec Ideal S40x2048 .f32) : Vec Ideal S40x2048 .fp8e4m3 := Cert.SharedReferenceIdeal.Gen.k0_pay2 (F := Ideal) H (rowMax H)
def out (H : Vec Ideal S40x2048 .f32) (wd : Vec Ideal S7168x2048 .fp8e4m3) (sd : Vec Ideal S1x7168 .f32) : Vec Ideal S40x7168 .bf16 :=
  Cert.SharedReferenceIdeal.Gen.k0_pay3 H (rowMax H) wd sd

theorem rowMax_eq (x : Vec Ideal S40x7168 .bf16) (wg : Vec Ideal S2048x7168 .fp8e4m3) (sg : Vec Ideal S1x2048 .f32)
    (wu : Vec Ideal S2048x7168 .fp8e4m3) (su : Vec Ideal S1x2048 .f32) :
    Cert.SharedReferenceIdeal.Gen.k0_pay8 x wg sg wu su = rowMax (hidden x wg sg wu su) := rfl

/-- The kernel quantises the tokens, and the hidden activations once assembled, as the reference does. -/
theorem tokenScale_eq (x : Vec Ideal S40x7168 .bf16) : k0_pay2 x = xScale x := rfl
theorem tokenCodes_eq (x : Vec Ideal S40x7168 .bf16) : k0_pay3 x = xCodes x := rfl
theorem scale_of_rows (h0 h1 h2 h3 h4 h5 h6 h7 : Vec Ideal S1x40x256 .f32) :
    k0_pay8 h0 h1 h2 h3 h4 h5 h6 h7 = hScale (k0_pay7 h0 h1 h2 h3 h4 h5 h6 h7) := rfl
theorem codes_of_rows (h0 h1 h2 h3 h4 h5 h6 h7 : Vec Ideal S1x40x256 .f32) :
    k0_pay5 (Scalar.ofBits .f32 0x43E00000#32) (k0_pay9 h0 h1 h2 h3 h4 h5 h6 h7) = hCodes (k0_pay7 h0 h1 h2 h3 h4 h5 h6 h7) := rfl

/-- A block of the result. -/
theorem out_block (H : Vec Ideal S40x2048 .f32) (wd : Vec Ideal S7168x2048 .fp8e4m3) (sd : Vec Ideal S1x7168 .f32)
    (wdb : Vec Ideal S1024x2048 .fp8e4m3) (sdb : Vec Ideal S1x1024 .f32) (r : Fin 40) (n : Fin 1024) (N : Fin 7168)
    (hwd : ∀ k, wdb (ix2 n k) = wd (ix2 N k)) (hsd : sdb (ix2 0 n) = sd (ix2 0 N)) :
    k0_pay6 (hCodes H) wdb (hScale H) sdb (ix2 r n) = out H wd sd (ix2 r N) := by
  have e1 : k0_pay6 (hCodes H) wdb (hScale H) sdb (ix2 r n) = (∑ k, hCodes H (ix2 r k) * wdb (ix2 n k)) * hScale H (ix2 r 0) * sdb (ix2 0 n) := by
    pointwise [k0_pay6]
  have e2 : out H wd sd (ix2 r N) = (∑ k, hCodes H (ix2 r k) * wd (ix2 N k)) * hScale H (ix2 r 0) * sd (ix2 0 N) := by
    unfold out
    pointwise [Cert.SharedReferenceIdeal.Gen.k0_pay3]
    rfl
  rw [e1, e2, hsd]
  simp only [hwd]

end Cert.Proof.SharedMath

end
-- ==== Proof.SharedWhole.lean ====
/- THE SHARED EXPERT'S RESULT ARRAYS AS FUNCTIONS OF THE ARGUMENT ARRAYS, at the ideal values. The first eight grid points
   read 256 rows of the gate and up weights each, the last seven 1024 rows of the down weight each; the blocks the last
   seven write cover the result, and the codes and scales are written back once, at the end. -/
module

public import proofs.«01_k».proof.Proof.SharedMath
public import Idealize.ShloMosaic.Lib.StableHlo.Run
public import Idealize.ShloMosaic.Lib.Pipeline.ValueKit
public import Idealize.ShloMosaic.Lib.Claim

@[expose] public section

set_option maxRecDepth 16384

noncomputable section

namespace Cert.Proof.SharedWhole

open Cert.SharedIdeal Cert.SharedIdeal.Gen Cert.SharedIdeal.Body Idealize.ShloMosaic Idealize.ShloMosaic.TcCoe
open Idealize.SL.Sem Cert.Proof.SharedMath

variable (m : (ℓ : Loc nD τ sig) → Buf (Elt Ideal) ℓ) (ρ : Dev nD → PrngReg)

/-! ## The arrays the grid reads -/

/-- The tokens as rows, and a scale vector as one row. -/
def rows (x : Vec Ideal S40x1x7168 .bf16) : Vec Ideal S40x7168 .bf16 := shapeCast S40x7168 x shapeCasts_S40x1x7168_S40x7168
def row2048 (s : Vec Ideal S2048 .f32) : Vec Ideal S1x2048 .f32 := shapeCast S1x2048 s shapeCasts_S2048_S1x2048
def row7168 (s : Vec Ideal S7168 .f32) : Vec Ideal S1x7168 .f32 := shapeCast S1x7168 s shapeCasts_S7168_S1x7168

theorem V_main_v0 (c : Dev nD) : V m c main_v0 = rows (m ((c : Thread nD τ).loc main_arg0)) := by
  unfold_abbrev_sides
  after_results
  rfl
theorem V_main_v1 (c : Dev nD) : V m c main_v1 = row2048 (m ((c : Thread nD τ).loc main_arg2)) := by
  unfold_abbrev_sides
  after_results
  rfl
theorem V_main_v2 (c : Dev nD) : V m c main_v2 = row2048 (m ((c : Thread nD τ).loc main_arg4)) := by
  unfold_abbrev_sides
  after_results
  rfl
theorem V_main_v3 (c : Dev nD) : V m c main_v3 = row7168 (m ((c : Thread nD τ).loc main_arg6)) := by
  unfold_abbrev_sides
  after_results
  rfl

/-! ## The blocks -/

theorem at0 : ∀ t : Fin cfg0.N, win0_0.index t (0 : Fin 2) = 0 ∧ win0_0.index t (1 : Fin 2) = 0 :=
  (by decide +kernel : ∀ t : Fin grid0.N, _)
theorem at1 : ∀ t : Fin cfg0.N, win0_1.index t (0 : Fin 2) = min t.val 7 ∧ win0_1.index t (1 : Fin 2) = 0 :=
  (by decide +kernel : ∀ t : Fin grid0.N, _)
theorem at2 : ∀ t : Fin cfg0.N, win0_2.index t (0 : Fin 2) = min t.val 7 ∧ win0_2.index t (1 : Fin 2) = 0 :=
  (by decide +kernel : ∀ t : Fin grid0.N, _)
theorem at3 : ∀ t : Fin cfg0.N, win0_3.index t (0 : Fin 2) = t.val - 8 ∧ win0_3.index t (1 : Fin 2) = 0 :=
  (by decide +kernel : ∀ t : Fin grid0.N, _)
theorem at4 : ∀ t : Fin cfg0.N, win0_4.index t (0 : Fin 2) = 0 ∧ win0_4.index t (1 : Fin 2) = min t.val 7 :=
  (by decide +kernel : ∀ t : Fin grid0.N, _)
theorem at5 : ∀ t : Fin cfg0.N, win0_5.index t (0 : Fin 2) = 0 ∧ win0_5.index t (1 : Fin 2) = min t.val 7 :=
  (by decide +kernel : ∀ t : Fin grid0.N, _)
theorem at6 : ∀ t : Fin cfg0.N, win0_6.index t (0 : Fin 2) = 0 ∧ win0_6.index t (1 : Fin 2) = t.val - 8 :=
  (by decide +kernel : ∀ t : Fin grid0.N, _)
theorem at7 : ∀ t : Fin cfg0.N, win0_7.index t (0 : Fin 2) = 0 ∧ win0_7.index t (1 : Fin 2) = t.val - 8 :=
  (by decide +kernel : ∀ t : Fin grid0.N, _)

/-- Row (or column) `n` of point `t`'s block of 256, and of its block of 1024, in the array. -/
def col (t : Fin cfg0.N) (n : Fin 256) : Fin 2048 := ⟨256 * min t.val 7 + n.val, by omega⟩
def wide (t : Fin cfg0.N) (n : Fin 1024) : Fin 7168 := ⟨1024 * (t.val - 8) + n.val, by
  have h : t.val < 15 := lt_of_lt_of_eq t.isLt points
  omega⟩

theorem emb0 (t : Fin cfg0.N) (r : Fin 40) (k : Fin 7168) :
    ((cfg0.win 0).blk t).view.emb (ix2 r k) = (ix2 r k : S40x7168.Idx) := by
  obtain ⟨e0, e1⟩ := at0 t
  funext a; apply Fin.ext
  match a with
  | ⟨0, _⟩ => show win0_0.index t (0 : Fin 2) * 40 + 1 * r.val = r.val; omega
  | ⟨1, _⟩ => show win0_0.index t (1 : Fin 2) * 7168 + 1 * k.val = k.val; omega
theorem emb1 (t : Fin cfg0.N) (n : Fin 256) (k : Fin 7168) :
    ((cfg0.win 1).blk t).view.emb (ix2 n k) = (ix2 (col t n) k : S2048x7168.Idx) := by
  obtain ⟨e0, e1⟩ := at1 t
  funext a; apply Fin.ext
  match a with
  | ⟨0, _⟩ => show win0_1.index t (0 : Fin 2) * 256 + 1 * n.val = 256 * min t.val 7 + n.val; omega
  | ⟨1, _⟩ => show win0_1.index t (1 : Fin 2) * 7168 + 1 * k.val = k.val; omega
theorem emb2 (t : Fin cfg0.N) (n : Fin 256) (k : Fin 7168) :
    ((cfg0.win 2).blk t).view.emb (ix2 n k) = (ix2 (col t n) k : S2048x7168.Idx) := by
  obtain ⟨e0, e1⟩ := at2 t
  funext a; apply Fin.ext
  match a with
  | ⟨0, _⟩ => show win0_2.index t (0 : Fin 2) * 256 + 1 * n.val = 256 * min t.val 7 + n.val; omega
  | ⟨1, _⟩ => show win0_2.index t (1 : Fin 2) * 7168 + 1 * k.val = k.val; omega
theorem emb3 (t : Fin cfg0.N) (n : Fin 1024) (k : Fin 2048) :
    ((cfg0.win 3).blk t).view.emb (ix2 n k) = (ix2 (wide t n) k : S7168x2048.Idx) := by
  obtain ⟨e0, e1⟩ := at3 t
  funext a; apply Fin.ext
  match a with
  | ⟨0, _⟩ => show win0_3.index t (0 : Fin 2) * 1024 + 1 * n.val = 1024 * (t.val - 8) + n.val; omega
  | ⟨1, _⟩ => show win0_3.index t (1 : Fin 2) * 2048 + 1 * k.val = k.val; omega
theorem emb4 (t : Fin cfg0.N) (n : Fin 256) :
    ((cfg0.win 4).blk t).view.emb (ix2 0 n) = (ix2 0 (col t n) : S1x2048.Idx) := by
  obtain ⟨e0, e1⟩ := at4 t
  funext a; apply Fin.ext
  match a with
  | ⟨0, _⟩ => show win0_4.index t (0 : Fin 2) * 1 + 1 * 0 = 0; omega
  | ⟨1, _⟩ => show win0_4.index t (1 : Fin 2) * 256 + 1 * n.val = 256 * min t.val 7 + n.val; omega
theorem emb5 (t : Fin cfg0.N) (n : Fin 256) :
    ((cfg0.win 5).blk t).view.emb (ix2 0 n) = (ix2 0 (col t n) : S1x2048.Idx) := by
  obtain ⟨e0, e1⟩ := at5 t
  funext a; apply Fin.ext
  match a with
  | ⟨0, _⟩ => show win0_5.index t (0 : Fin 2) * 1 + 1 * 0 = 0; omega
  | ⟨1, _⟩ => show win0_5.index t (1 : Fin 2) * 256 + 1 * n.val = 256 * min t.val 7 + n.val; omega
theorem emb6 (t : Fin cfg0.N) (n : Fin 1024) :
    ((cfg0.win 6).blk t).view.emb (ix2 0 n) = (ix2 0 (wide t n) : S1x7168.Idx) := by
  obtain ⟨e0, e1⟩ := at6 t
  funext a; apply Fin.ext
  match a with
  | ⟨0, _⟩ => show win0_6.index t (0 : Fin 2) * 1 + 1 * 0 = 0; omega
  | ⟨1, _⟩ => show win0_6.index t (1 : Fin 2) * 1024 + 1 * n.val = 1024 * (t.val - 8) + n.val; omega
theorem emb7 (t : Fin cfg0.N) (r : Fin 40) (n : Fin 1024) :
    ((cfg0.win 7).blk t).view.emb (ix2 r n) = (ix2 r (wide t n) : S40x7168.Idx) := by
  obtain ⟨e0, e1⟩ := at7 t
  funext a; apply Fin.ext
  match a with
  | ⟨0, _⟩ => show win0_7.index t (0 : Fin 2) * 40 + 1 * r.val = r.val; omega
  | ⟨1, _⟩ => show win0_7.index t (1 : Fin 2) * 1024 + 1 * n.val = 1024 * (t.val - 8) + n.val; omega
theorem iblk0 (c : Dev nD) (t : Fin cfg0.N) (r : Fin 40) (k : Fin 7168) : iblk m c 0 t (ix2 r k) = V m c main_v0 (ix2 r k) := by
  show V m c main_v0 (((cfg0.win 0).blk t).view.emb (ix2 r k)) = _; rw [emb0]
theorem iblk1 (c : Dev nD) (t : Fin cfg0.N) (n : Fin 256) (k : Fin 7168) : iblk m c 1 t (ix2 n k) = V m c main_arg1 (ix2 (col t n) k) := by
  show V m c main_arg1 (((cfg0.win 1).blk t).view.emb (ix2 n k)) = _; rw [emb1]
theorem iblk2 (c : Dev nD) (t : Fin cfg0.N) (n : Fin 256) (k : Fin 7168) : iblk m c 2 t (ix2 n k) = V m c main_arg3 (ix2 (col t n) k) := by
  show V m c main_arg3 (((cfg0.win 2).blk t).view.emb (ix2 n k)) = _; rw [emb2]
theorem iblk3 (c : Dev nD) (t : Fin cfg0.N) (n : Fin 1024) (k : Fin 2048) : iblk m c 3 t (ix2 n k) = V m c main_arg5 (ix2 (wide t n) k) := by
  show V m c main_arg5 (((cfg0.win 3).blk t).view.emb (ix2 n k)) = _; rw [emb3]
theorem iblk4 (c : Dev nD) (t : Fin cfg0.N) (n : Fin 256) : iblk m c 4 t (ix2 0 n) = V m c main_v1 (ix2 0 (col t n)) := by
  show V m c main_v1 (((cfg0.win 4).blk t).view.emb (ix2 0 n)) = _; rw [emb4]
theorem iblk5 (c : Dev nD) (t : Fin cfg0.N) (n : Fin 256) : iblk m c 5 t (ix2 0 n) = V m c main_v2 (ix2 0 (col t n)) := by
  show V m c main_v2 (((cfg0.win 5).blk t).view.emb (ix2 0 n)) = _; rw [emb5]
theorem iblk6 (c : Dev nD) (t : Fin cfg0.N) (n : Fin 1024) : iblk m c 6 t (ix2 0 n) = V m c main_v3 (ix2 0 (wide t n)) := by
  show V m c main_v3 (((cfg0.win 6).blk t).view.emb (ix2 0 n)) = _; rw [emb6]

/-- The whole token array is one block. -/
theorem iblk0_eq (c : Dev nD) (t : Fin cfg0.N) : iblk m c 0 t = V m c main_v0 := by
  have key : ∀ i : S40x7168.Idx, iblk m c 0 t i = V m c main_v0 i := by
    intro i
    obtain ⟨r, n, rfl⟩ : ∃ (r : Fin 40) (n : Fin 7168), i = ix2 r n := ⟨i 0, i 1, by
      funext a
      match a with
      | ⟨0, _⟩ => rfl
      | ⟨1, _⟩ => rfl⟩
    exact iblk0 m c t r n
  exact funext key

/-! ## What the points leave -/

/-- The reference's hidden array of the arrays the region finds. -/
def H (c : Dev nD) : Vec Ideal S40x2048 .f32 :=
  hidden (V m c main_v0) (V m c main_arg1) (V m c main_v1) (V m c main_arg3) (V m c main_v2)

theorem tokenScale_V (c : Dev nD) : tokenScale m c = xScale (V m c main_v0) := by
  unfold tokenScale; rw [iblk0_eq]; exact tokenScale_eq _
theorem tokenCodes_V (c : Dev nD) : tokenCodes m c = xCodes (V m c main_v0) := by
  unfold tokenCodes; rw [iblk0_eq]; exact tokenCodes_eq _

/-- The first eight points, by number. -/
def early (j : Fin 8) : Fin cfg0.N := pt j.val (lt_of_lt_of_le j.isLt (by decide))

theorem col_early (j : Fin 8) (n : Fin 256) : col (early j) n = ⟨256 * j.val + n.val, by omega⟩ :=
  Fin.ext (by show 256 * min j.val 7 + n.val = 256 * j.val + n.val; omega)

/-- The eight blocks of hidden columns side by side. -/
theorem rows_eq (c : Dev nD) :
    k0_pay7 (hiddenRow m c (early 0)) (hiddenRow m c (early 1)) (hiddenRow m c (early 2)) (hiddenRow m c (early 3))
      (hiddenRow m c (early 4)) (hiddenRow m c (early 5)) (hiddenRow m c (early 6)) (hiddenRow m c (early 7)) = H m c :=
  hidden_eq _ _ _ _ _ (fun j => hiddenRow m c (early j)) (fun j => iblk m c 1 (early j)) (fun j => iblk m c 4 (early j))
    (fun j => iblk m c 2 (early j)) (fun j => iblk m c 5 (early j))
    (fun j => by unfold hiddenRow; rw [tokenScale_V, tokenCodes_V])
    (fun j n k => by rw [iblk1, col_early]) (fun j n => by rw [iblk4, col_early])
    (fun j n k => by rw [iblk2, col_early]) (fun j n => by rw [iblk5, col_early])

theorem scaleOfRows_V (c : Dev nD) : scaleOfRows m c = hScale (H m c) := by
  rw [← rows_eq]; exact scale_of_rows _ _ _ _ _ _ _ _
theorem codesOfRows_V (c : Dev nD) : codesOfRows m c = hCodes (H m c) := by
  rw [← rows_eq]; exact codes_of_rows _ _ _ _ _ _ _ _

theorem outBlock_apply (c : Dev nD) (t : Fin cfg0.N) (r : Fin 40) (n : Fin 1024) :
    outBlock m c t (ix2 r n) = out (H m c) (V m c main_arg5) (V m c main_v3) (ix2 r (wide t n)) := by
  unfold outBlock
  rw [codesOfRows_V, scaleOfRows_V]
  exact out_block _ _ _ _ _ r n (wide t n) (fun k => iblk3 m c t n k) (iblk6 m c t n)

/-! ## The arrays after the run -/

/-- A block that agrees with an array at the block's places is what the array reads there. -/
theorem cut7 (t : Fin cfg0.N) (X : Vec Ideal S40x1024 .bf16) (Y : Vec Ideal S40x7168 .bf16)
    (h : ∀ r n, X (ix2 r n) = Y (ix2 r (wide t n))) :
    (cfg0.win 7).cut (grid0.coords t) X = ((cfg0.win 7).blk t).view.read (Elt Ideal) Y := by
  have key : ∀ j : S40x1024.Idx, X j = Y (((cfg0.win 7).blk t).view.emb j) := by
    intro j
    obtain ⟨r, n, rfl⟩ : ∃ (r : Fin 40) (n : Fin 1024), j = ix2 r n := ⟨j 0, j 1, by
      funext a
      match a with
      | ⟨0, _⟩ => rfl
      | ⟨1, _⟩ => rfl⟩
    rw [emb7]
    exact h r n
  exact funext key

theorem flushed7_eq (c : Dev nD) (t : Fin cfg0.N) :
    (dats m 0 c).flushed 7 t = ((cfg0.win 7).blk t).view.read (Elt Ideal) (out (H m c) (V m c main_arg5) (V m c main_v3)) := by
  show (cfg0.win 7).cut (grid0.coords t) ((dats m 0 c).after 7 t) = _
  rw [after0_7]
  exact cut7 t _ _ fun r n => outBlock_apply m c t r n

theorem mem7 (t : Fin cfg0.N) (r : Fin 40) (n : Fin 1024) :
    (ix2 r (wide t n) : S40x7168.Idx) ∈ ((cfg0.win 7).blk t).view.set := by
  have h := ((cfg0.win 7).blk t).view.emb_mem_set (ix2 r n)
  have e := emb7 t r n
  exact e ▸ h

/-- Every column of the result lies in the block of one of the last seven points. -/
theorem covered7 (i : S40x7168.Idx) :
    ∃ t : Fin cfg0.N, (cfg0.win 7).flush t = true ∧ i ∈ ((cfg0.win 7).blk t).view.set := by
  obtain ⟨r, n, rfl⟩ : ∃ (r : Fin 40) (n : Fin 7168), i = ix2 r n := ⟨i 0, i 1, by
    funext a
    match a with
    | ⟨0, _⟩ => rfl
    | ⟨1, _⟩ => rfl⟩
  have hN := points
  refine ⟨⟨8 + n.val / 1024, by omega⟩, ?_, ?_⟩
  · rw [flush0_7]; simp
  · have e : wide ⟨8 + n.val / 1024, by omega⟩ ⟨n.val % 1024, by omega⟩ = n :=
      Fin.ext (by show 1024 * (8 + n.val / 1024 - 8) + n.val % 1024 = n.val; omega)
    have h := mem7 ⟨8 + n.val / 1024, by omega⟩ r ⟨n.val % 1024, by omega⟩
    rw [e] at h
    exact h

theorem final7 (c : Dev nD) : (dats m 0 c).arrAt 7 cfg0.N = out (H m c) (V m c main_arg5) (V m c main_v3) :=
  (dats m 0 c).arrAt_eq_of_cover 7 _ (fun t _ => flushed7_eq m c t) covered7

theorem final8 (c : Dev nD) : (dats m 0 c).arrAt 8 cfg0.N = xCodes (V m c main_v0) := by
  have key : ∀ i : S40x7168.Idx, (dats m 0 c).arrAt 8 cfg0.N i = xCodes (V m c main_v0) i := fun i =>
    ((dats m 0 c).arrAt_emb_eq_after_last 8 (pt 14 (by decide)) (by decide +kernel) i).trans
      (congrFun ((after0_8 m c (pt 14 (by decide))).trans (tokenCodes_V m c)) i)
  exact funext key
theorem final9 (c : Dev nD) : (dats m 0 c).arrAt 9 cfg0.N = xScale (V m c main_v0) := by
  have key : ∀ i : S40x1.Idx, (dats m 0 c).arrAt 9 cfg0.N i = xScale (V m c main_v0) i := fun i =>
    ((dats m 0 c).arrAt_emb_eq_after_last 9 (pt 14 (by decide)) (by decide +kernel) i).trans
      (congrFun ((after0_9 m c (pt 14 (by decide))).trans (tokenScale_V m c)) i)
  exact funext key
theorem final10 (c : Dev nD) : (dats m 0 c).arrAt 10 cfg0.N = hCodes (H m c) := by
  have key : ∀ i : S40x2048.Idx, (dats m 0 c).arrAt 10 cfg0.N i = hCodes (H m c) i := fun i =>
    ((dats m 0 c).arrAt_emb_eq_after_last 10 (pt 14 (by decide)) (by decide +kernel) i).trans
      (congrFun ((after0_10 m c (pt 14 (by decide))).trans (codesOfRows_V m c)) i)
  exact funext key
theorem final11 (c : Dev nD) : (dats m 0 c).arrAt 11 cfg0.N = hScale (H m c) := by
  have key : ∀ i : S40x1.Idx, (dats m 0 c).arrAt 11 cfg0.N i = hScale (H m c) i := fun i =>
    ((dats m 0 c).arrAt_emb_eq_after_last 11 (pt 14 (by decide)) (by decide +kernel) i).trans
      (congrFun ((after0_11 m c (pt 14 (by decide))).trans (scaleOfRows_V m c)) i)
  exact funext key

/-- The five result arrays of seven argument arrays. -/
def hiddenOf (a0 : Vec Ideal S40x1x7168 .bf16) (a1 : Vec Ideal S2048x7168 .fp8e4m3) (a2 : Vec Ideal S2048 .f32)
    (a3 : Vec Ideal S2048x7168 .fp8e4m3) (a4 : Vec Ideal S2048 .f32) : Vec Ideal S40x2048 .f32 :=
  hidden (rows a0) a1 (row2048 a2) a3 (row2048 a4)
def outOf (a0 : Vec Ideal S40x1x7168 .bf16) (a1 : Vec Ideal S2048x7168 .fp8e4m3) (a2 : Vec Ideal S2048 .f32)
    (a3 : Vec Ideal S2048x7168 .fp8e4m3) (a4 : Vec Ideal S2048 .f32) (a5 : Vec Ideal S7168x2048 .fp8e4m3)
    (a6 : Vec Ideal S7168 .f32) : Vec Ideal S40x7168 .bf16 :=
  out (hiddenOf a0 a1 a2 a3 a4) a5 (row7168 a6)

theorem H_eq (c : Dev nD) : H m c = hiddenOf (m ((c : Thread nD τ).loc main_arg0)) (m ((c : Thread nD τ).loc main_arg1))
    (m ((c : Thread nD τ).loc main_arg2)) (m ((c : Thread nD τ).loc main_arg3)) (m ((c : Thread nD τ).loc main_arg4)) := by
  unfold H hiddenOf
  rw [V_main_v0, V_main_arg1, V_main_v1, V_main_arg3, V_main_v2]

/-- The kernel's run, each result array at its function of the arguments and the arguments unchanged. -/
theorem run : θ_run defs (onTc (τ := τ) (main (F := Ideal))) ⟨m, fun _ => 0, ρ⟩ fun r => ∀ c : Dev nD,
      r.2.mem ((c : Thread nD τ).loc main_v4_0) = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_1) = xCodes (rows (m ((c : Thread nD τ).loc main_arg0)))
      ∧ r.2.mem ((c : Thread nD τ).loc main_v4_2) = xScale (rows (m ((c : Thread nD τ).loc main_arg0)))
      ∧ r.2.mem ((c : Thread nD τ).loc main_v4_3) = hCodes (hiddenOf (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_v4_4) = hScale (hiddenOf (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) := by
  refine (θ_run defs _ _).mono (fun r h c => ?_) (θ_run_and (frame_of m ρ (dats m) (A_eq m) (run_main m ρ)) (run_main m ρ))
  refine ⟨?_, ?_, ?_, ?_, ?_, h.1 c⟩
  · refine ((h.2 c).1 7).trans ((final7 m c).trans ?_)
    unfold outOf
    rw [H_eq, V_main_arg5, V_main_v3]
  · refine ((h.2 c).1 8).trans ((final8 m c).trans ?_)
    rw [V_main_v0]
  · refine ((h.2 c).1 9).trans ((final9 m c).trans ?_)
    rw [V_main_v0]
  · refine ((h.2 c).1 10).trans ((final10 m c).trans ?_)
    rw [H_eq]
  · refine ((h.2 c).1 11).trans ((final11 m c).trans ?_)
    rw [H_eq]

end Cert.Proof.SharedWhole

end
-- ==== Proof.SharedPlain.lean ====
/- WHAT THE SHARED EXPERT'S REFERENCE COMPUTES, at the ideal values: it runs at one point over whole arrays, so its result
   arrays are its own expressions of the arguments, the ones `SharedWhole.run` names. -/
module

public import proofs.«01_k».proof.Proof.SharedWhole

@[expose] public section

set_option maxRecDepth 16384

noncomputable section

namespace Cert.Proof.SharedPlain

open Cert.SharedReferenceIdeal Cert.SharedReferenceIdeal.Gen Cert.SharedReferenceIdeal.Value Idealize.ShloMosaic
open Idealize.ShloMosaic.TcCoe Idealize.SL.Sem Cert.Proof.SharedMath Cert.Proof.SharedWhole

variable (m : (ℓ : Loc nD τ sig) → Buf (Elt Ideal) ℓ) (ρ : Dev nD → PrngReg)

theorem V_main_v0 (c : Dev nD) : V m c main_v0 = rows (m ((c : Thread nD τ).loc main_arg0)) := by
  unfold_abbrev_sides
  after_results
  rfl
theorem V_main_v1 (c : Dev nD) : V m c main_v1 = row2048 (m ((c : Thread nD τ).loc main_arg2)) := by
  unfold_abbrev_sides
  after_results
  rfl
theorem V_main_v2 (c : Dev nD) : V m c main_v2 = row2048 (m ((c : Thread nD τ).loc main_arg4)) := by
  unfold_abbrev_sides
  after_results
  rfl
theorem V_main_v3 (c : Dev nD) : V m c main_v3 = row7168 (m ((c : Thread nD τ).loc main_arg6)) := by
  unfold_abbrev_sides
  after_results
  rfl

/-- Every input window is its whole array. -/
theorem iblk0_eq (c : Dev nD) (t : Fin cfg0.N) : iblk m c 0 t = V m c main_v0 := by
  have key : ∀ i : S40x7168.Idx, iblk m c 0 t i = V m c main_v0 i := fun i => by
    show V m c main_v0 (((cfg0.win 0).blk t).view.emb i) = _
    refine congrArg (V m c main_v0) (funext fun a => Fin.ext ?_)
    show 0 * S40x7168.size a + 1 * (i a).val = (i a).val
    omega
  exact funext key
theorem iblk1_eq (c : Dev nD) (t : Fin cfg0.N) : iblk m c 1 t = V m c main_arg1 := by
  have key : ∀ i : S2048x7168.Idx, iblk m c 1 t i = V m c main_arg1 i := fun i => by
    show V m c main_arg1 (((cfg0.win 1).blk t).view.emb i) = _
    refine congrArg (V m c main_arg1) (funext fun a => Fin.ext ?_)
    show 0 * S2048x7168.size a + 1 * (i a).val = (i a).val
    omega
  exact funext key
theorem iblk2_eq (c : Dev nD) (t : Fin cfg0.N) : iblk m c 2 t = V m c main_v1 := by
  have key : ∀ i : S1x2048.Idx, iblk m c 2 t i = V m c main_v1 i := fun i => by
    show V m c main_v1 (((cfg0.win 2).blk t).view.emb i) = _
    refine congrArg (V m c main_v1) (funext fun a => Fin.ext ?_)
    show 0 * S1x2048.size a + 1 * (i a).val = (i a).val
    omega
  exact funext key
theorem iblk3_eq (c : Dev nD) (t : Fin cfg0.N) : iblk m c 3 t = V m c main_arg3 := by
  have key : ∀ i : S2048x7168.Idx, iblk m c 3 t i = V m c main_arg3 i := fun i => by
    show V m c main_arg3 (((cfg0.win 3).blk t).view.emb i) = _
    refine congrArg (V m c main_arg3) (funext fun a => Fin.ext ?_)
    show 0 * S2048x7168.size a + 1 * (i a).val = (i a).val
    omega
  exact funext key
theorem iblk4_eq (c : Dev nD) (t : Fin cfg0.N) : iblk m c 4 t = V m c main_v2 := by
  have key : ∀ i : S1x2048.Idx, iblk m c 4 t i = V m c main_v2 i := fun i => by
    show V m c main_v2 (((cfg0.win 4).blk t).view.emb i) = _
    refine congrArg (V m c main_v2) (funext fun a => Fin.ext ?_)
    show 0 * S1x2048.size a + 1 * (i a).val = (i a).val
    omega
  exact funext key
theorem iblk5_eq (c : Dev nD) (t : Fin cfg0.N) : iblk m c 5 t = V m c main_arg5 := by
  have key : ∀ i : S7168x2048.Idx, iblk m c 5 t i = V m c main_arg5 i := fun i => by
    show V m c main_arg5 (((cfg0.win 5).blk t).view.emb i) = _
    refine congrArg (V m c main_arg5) (funext fun a => Fin.ext ?_)
    show 0 * S7168x2048.size a + 1 * (i a).val = (i a).val
    omega
  exact funext key
theorem iblk6_eq (c : Dev nD) (t : Fin cfg0.N) : iblk m c 6 t = V m c main_v3 := by
  have key : ∀ i : S1x7168.Idx, iblk m c 6 t i = V m c main_v3 i := fun i => by
    show V m c main_v3 (((cfg0.win 6).blk t).view.emb i) = _
    refine congrArg (V m c main_v3) (funext fun a => Fin.ext ?_)
    show 0 * S1x7168.size a + 1 * (i a).val = (i a).val
    omega
  exact funext key

/-- The one store into each output window is over the whole window, and each load takes a whole array. -/
theorem hidden_of (x0 : Vec Ideal S40x7168 .bf16) (x1 : Vec Ideal S2048x7168 .fp8e4m3) (x2 : Vec Ideal S1x2048 .f32)
    (x3 : Vec Ideal S2048x7168 .fp8e4m3) (x4 : Vec Ideal S1x2048 .f32) (x5 : Vec Ideal S7168x2048 .fp8e4m3) (x6 : Vec Ideal S1x7168 .f32) :
    k0_pay9 x0 x1 x2 x3 x4 x5 x6 = SharedMath.hidden x0 x1 x2 x3 x4 := by
  unfold k0_pay9 SharedMath.hidden
  rw [View.ld_unit_lit _ x0 (by decide), View.ld_unit_lit _ x1 (by decide), View.ld_unit_lit _ x2 (by decide),
    View.ld_unit_lit _ x3 (by decide), View.ld_unit_lit _ x4 (by decide)]
theorem rowMax_of (x0 : Vec Ideal S40x7168 .bf16) (x1 : Vec Ideal S2048x7168 .fp8e4m3) (x2 : Vec Ideal S1x2048 .f32)
    (x3 : Vec Ideal S2048x7168 .fp8e4m3) (x4 : Vec Ideal S1x2048 .f32) (x5 : Vec Ideal S7168x2048 .fp8e4m3) (x6 : Vec Ideal S1x7168 .f32) :
    k0_pay10 x0 x1 x2 x3 x4 x5 x6 = rowMax (SharedMath.hidden x0 x1 x2 x3 x4) := by
  unfold k0_pay10
  rw [View.ld_unit_lit _ x0 (by decide), View.ld_unit_lit _ x1 (by decide), View.ld_unit_lit _ x2 (by decide),
    View.ld_unit_lit _ x3 (by decide), View.ld_unit_lit _ x4 (by decide)]
  exact rowMax_eq _ _ _ _ _
theorem out7_eq (x0 : Vec Ideal S40x7168 .bf16) (x1 : Vec Ideal S2048x7168 .fp8e4m3) (x2 : Vec Ideal S1x2048 .f32)
    (x3 : Vec Ideal S2048x7168 .fp8e4m3) (x4 : Vec Ideal S1x2048 .f32) (x5 : Vec Ideal S7168x2048 .fp8e4m3) (x6 : Vec Ideal S1x7168 .f32) :
    out0_7 x0 x1 x2 x3 x4 x5 x6 = out (SharedMath.hidden x0 x1 x2 x3 x4) x5 x6 := by
  unfold out0_7 out
  rw [View.canon_cons_unit_lit _ _ _ (by decide), hidden_of, rowMax_of, View.ld_unit_lit _ x5 (by decide), View.ld_unit_lit _ x6 (by decide)]
theorem out8_eq (x0 : Vec Ideal S40x7168 .bf16) (x1 : Vec Ideal S2048x7168 .fp8e4m3) (x2 : Vec Ideal S1x2048 .f32)
    (x3 : Vec Ideal S2048x7168 .fp8e4m3) (x4 : Vec Ideal S1x2048 .f32) (x5 : Vec Ideal S7168x2048 .fp8e4m3) (x6 : Vec Ideal S1x7168 .f32) :
    out0_8 x0 x1 x2 x3 x4 x5 x6 = xCodes x0 := by
  unfold out0_8 xCodes
  rw [View.canon_cons_unit_lit _ _ _ (by decide), View.ld_unit_lit _ x0 (by decide)]
theorem out9_eq (x0 : Vec Ideal S40x7168 .bf16) (x1 : Vec Ideal S2048x7168 .fp8e4m3) (x2 : Vec Ideal S1x2048 .f32)
    (x3 : Vec Ideal S2048x7168 .fp8e4m3) (x4 : Vec Ideal S1x2048 .f32) (x5 : Vec Ideal S7168x2048 .fp8e4m3) (x6 : Vec Ideal S1x7168 .f32) :
    out0_9 x0 x1 x2 x3 x4 x5 x6 = xScale x0 := by
  unfold out0_9 xScale
  rw [View.canon_cons_unit_lit _ _ _ (by decide), View.ld_unit_lit _ x0 (by decide)]
theorem out10_eq (x0 : Vec Ideal S40x7168 .bf16) (x1 : Vec Ideal S2048x7168 .fp8e4m3) (x2 : Vec Ideal S1x2048 .f32)
    (x3 : Vec Ideal S2048x7168 .fp8e4m3) (x4 : Vec Ideal S1x2048 .f32) (x5 : Vec Ideal S7168x2048 .fp8e4m3) (x6 : Vec Ideal S1x7168 .f32) :
    out0_10 x0 x1 x2 x3 x4 x5 x6 = hCodes (SharedMath.hidden x0 x1 x2 x3 x4) := by
  unfold out0_10 hCodes
  rw [View.canon_cons_unit_lit _ _ _ (by decide), hidden_of, rowMax_of]
theorem out11_eq (x0 : Vec Ideal S40x7168 .bf16) (x1 : Vec Ideal S2048x7168 .fp8e4m3) (x2 : Vec Ideal S1x2048 .f32)
    (x3 : Vec Ideal S2048x7168 .fp8e4m3) (x4 : Vec Ideal S1x2048 .f32) (x5 : Vec Ideal S7168x2048 .fp8e4m3) (x6 : Vec Ideal S1x7168 .f32) :
    out0_11 x0 x1 x2 x3 x4 x5 x6 = hScale (SharedMath.hidden x0 x1 x2 x3 x4) := by
  unfold out0_11 hScale
  rw [View.canon_cons_unit_lit _ _ _ (by decide), rowMax_of]

/-- The one point. -/
def pt0 : Fin cfg0.N := ⟨0, by decide⟩

theorem final7 (c : Dev nD) : (dats m 0 c).arrAt 7 cfg0.N
    = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : (dats m 0 c).after 7 pt0
      = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
    rw [after0_7, iblk0_eq, iblk1_eq, iblk2_eq, iblk3_eq, iblk4_eq, iblk5_eq, iblk6_eq, out7_eq,
      V_main_v0, V_main_arg1, V_main_v1, V_main_arg3, V_main_v2, V_main_arg5, V_main_v3]
    rfl
  have key : ∀ i : S40x7168.Idx, (dats m 0 c).arrAt 7 cfg0.N i = (outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) i := fun i =>
    ((dats m 0 c).arrAt_emb_eq_after_last 7 pt0 (by decide +kernel) i).trans (congrFun e i)
  exact funext key
theorem final8 (c : Dev nD) : (dats m 0 c).arrAt 8 cfg0.N
    = xCodes (rows (m ((c : Thread nD τ).loc main_arg0))) := by
  have e : (dats m 0 c).after 8 pt0
      = xCodes (rows (m ((c : Thread nD τ).loc main_arg0))) := by
    rw [after0_8, iblk0_eq, iblk1_eq, iblk2_eq, iblk3_eq, iblk4_eq, iblk5_eq, iblk6_eq, out8_eq,
      V_main_v0]
  have key : ∀ i : S40x7168.Idx, (dats m 0 c).arrAt 8 cfg0.N i = (xCodes (rows (m ((c : Thread nD τ).loc main_arg0)))) i := fun i =>
    ((dats m 0 c).arrAt_emb_eq_after_last 8 pt0 (by decide +kernel) i).trans (congrFun e i)
  exact funext key
theorem final9 (c : Dev nD) : (dats m 0 c).arrAt 9 cfg0.N
    = xScale (rows (m ((c : Thread nD τ).loc main_arg0))) := by
  have e : (dats m 0 c).after 9 pt0
      = xScale (rows (m ((c : Thread nD τ).loc main_arg0))) := by
    rw [after0_9, iblk0_eq, iblk1_eq, iblk2_eq, iblk3_eq, iblk4_eq, iblk5_eq, iblk6_eq, out9_eq,
      V_main_v0]
  have key : ∀ i : S40x1.Idx, (dats m 0 c).arrAt 9 cfg0.N i = (xScale (rows (m ((c : Thread nD τ).loc main_arg0)))) i := fun i =>
    ((dats m 0 c).arrAt_emb_eq_after_last 9 pt0 (by decide +kernel) i).trans (congrFun e i)
  exact funext key
theorem final10 (c : Dev nD) : (dats m 0 c).arrAt 10 cfg0.N
    = hCodes (hiddenOf (m ((c : Thread nD τ).loc main_arg0)) (m ((c : Thread nD τ).loc main_arg1)) (m ((c : Thread nD τ).loc main_arg2)) (m ((c : Thread nD τ).loc main_arg3)) (m ((c : Thread nD τ).loc main_arg4))) := by
  have e : (dats m 0 c).after 10 pt0
      = hCodes (hiddenOf (m ((c : Thread nD τ).loc main_arg0)) (m ((c : Thread nD τ).loc main_arg1)) (m ((c : Thread nD τ).loc main_arg2)) (m ((c : Thread nD τ).loc main_arg3)) (m ((c : Thread nD τ).loc main_arg4))) := by
    rw [after0_10, iblk0_eq, iblk1_eq, iblk2_eq, iblk3_eq, iblk4_eq, iblk5_eq, iblk6_eq, out10_eq,
      V_main_v0, V_main_arg1, V_main_v1, V_main_arg3, V_main_v2]
    rfl
  have key : ∀ i : S40x2048.Idx, (dats m 0 c).arrAt 10 cfg0.N i = (hCodes (hiddenOf (m ((c : Thread nD τ).loc main_arg0)) (m ((c : Thread nD τ).loc main_arg1)) (m ((c : Thread nD τ).loc main_arg2)) (m ((c : Thread nD τ).loc main_arg3)) (m ((c : Thread nD τ).loc main_arg4)))) i := fun i =>
    ((dats m 0 c).arrAt_emb_eq_after_last 10 pt0 (by decide +kernel) i).trans (congrFun e i)
  exact funext key
theorem final11 (c : Dev nD) : (dats m 0 c).arrAt 11 cfg0.N
    = hScale (hiddenOf (m ((c : Thread nD τ).loc main_arg0)) (m ((c : Thread nD τ).loc main_arg1)) (m ((c : Thread nD τ).loc main_arg2)) (m ((c : Thread nD τ).loc main_arg3)) (m ((c : Thread nD τ).loc main_arg4))) := by
  have e : (dats m 0 c).after 11 pt0
      = hScale (hiddenOf (m ((c : Thread nD τ).loc main_arg0)) (m ((c : Thread nD τ).loc main_arg1)) (m ((c : Thread nD τ).loc main_arg2)) (m ((c : Thread nD τ).loc main_arg3)) (m ((c : Thread nD τ).loc main_arg4))) := by
    rw [after0_11, iblk0_eq, iblk1_eq, iblk2_eq, iblk3_eq, iblk4_eq, iblk5_eq, iblk6_eq, out11_eq,
      V_main_v0, V_main_arg1, V_main_v1, V_main_arg3, V_main_v2]
    rfl
  have key : ∀ i : S40x1.Idx, (dats m 0 c).arrAt 11 cfg0.N i = (hScale (hiddenOf (m ((c : Thread nD τ).loc main_arg0)) (m ((c : Thread nD τ).loc main_arg1)) (m ((c : Thread nD τ).loc main_arg2)) (m ((c : Thread nD τ).loc main_arg3)) (m ((c : Thread nD τ).loc main_arg4)))) i := fun i =>
    ((dats m 0 c).arrAt_emb_eq_after_last 11 pt0 (by decide +kernel) i).trans (congrFun e i)
  exact funext key

/-- The reference's run, each result array at its function of the arguments and the arguments unchanged. -/
theorem run : θ_run defs (onTc (τ := τ) (main (F := Ideal))) ⟨m, fun _ => 0, ρ⟩ fun r => ∀ c : Dev nD,
      r.2.mem ((c : Thread nD τ).loc main_v4_0) = outOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v4_1) = xCodes (rows (m ((c : Thread nD τ).loc main_arg0)))
      ∧ r.2.mem ((c : Thread nD τ).loc main_v4_2) = xScale (rows (m ((c : Thread nD τ).loc main_arg0)))
      ∧ r.2.mem ((c : Thread nD τ).loc main_v4_3) = hCodes (hiddenOf (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_v4_4) = hScale (hiddenOf (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    have ⟨h7, h8, h9, h10, h11, hk⟩ := h c
    ⟨h7.trans (final7 m c), h8.trans (final8 m c), h9.trans (final9 m c), h10.trans (final10 m c), h11.trans (final11 m c), hk⟩)
    (run_blocks m ρ)

end Cert.Proof.SharedPlain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Shared
public import proofs.«01_k».proof.Proof.Gen.Shared.Frame
public import proofs.«01_k».proof.Proof.Gen.SharedIdeal
public import proofs.«01_k».proof.Proof.Gen.SharedIdeal.Frame
public import proofs.«01_k».proof.Proof.Gen.Shared.Skeleton
public import proofs.«01_k».proof.Proof.Gen.SharedIdeal.Skeleton
public import proofs.«01_k».proof.Proof.Gen.SharedReferenceIdeal
public import proofs.«01_k».proof.Proof.Gen.SharedReferenceIdeal.Value
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.Pre_rows_in_range
public import proofs.«01_k».proof.Proof.DownClaims
public import proofs.«01_k».proof.Proof.Plain
public import proofs.«01_k».proof.Proof.SharedBits
public import proofs.«01_k».proof.Proof.SharedPlain
public import Idealize.ShloMosaic.Adequacy
public import Idealize.ShloMosaic.Init

@[expose] public section

noncomputable section

namespace Cert.Proof

open Idealize.ShloMosaic Idealize.SL.Sem

/-- The reference runs to the end, leaves its arguments as they were, and has no semaphore to leave raised. -/
theorem frame_ReferenceIdeal : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- From equal arguments the kernel and the reference leave equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨_, Whole.run m g, ?_⟩
  refine (θ_run (Cert.ReferenceIdeal.defs (F := Ideal)) _ _).mono (fun r h c => ?_) (Cert.ReferenceIdeal.Value.run (F := Ideal) m' g')
  refine ⟨(h c).1.trans ?_, (h c).2⟩
  obtain ⟨e0, e1, e2, e3, e4⟩ := hargs c
  rw [e0, e1, e2, e3, e4]
  exact Plain.gated_eq _ _ _ _ _

/-- The shared expert's kernel runs to the end, leaves its arguments as they were and its semaphores at zero. -/
theorem frame_SharedIdeal : Cert.quiescent_SharedIdeal (hSharedIdeal := Cert.SharedIdeal.Gen.facts) := fun m ρ _ =>
  Cert.SharedIdeal.Body.frame m ρ

/-- From equal arguments the shared expert's kernel and its reference leave equal results, all five. -/
theorem algebraic_Shared : Cert.algebraic_SharedIdeal_SharedReferenceIdeal (hSharedIdeal := Cert.SharedIdeal.Gen.facts)
    (hSharedReferenceIdeal := Cert.SharedReferenceIdeal.Gen.facts) := by
  intro m g m' g' _ hargs
  refine ⟨_, _, _, _, _, SharedWhole.run m g, ?_⟩
  refine (θ_run (Cert.SharedReferenceIdeal.defs (F := Ideal)) _ _).mono (fun r h c => ?_) (SharedPlain.run m' g')
  obtain ⟨h0, h1, h2, h3, h4, hk⟩ := h c
  obtain ⟨e0, e1, e2, e3, e4, e5, e6⟩ := hargs c
  refine ⟨h0.trans ?_, h1.trans ?_, h2.trans ?_, h3.trans ?_, h4.trans ?_, hk⟩
  · rw [e0, e1, e2, e3, e4, e5, e6]
  · rw [e0]
  · rw [e0]
  · rw [e0, e1, e2, e3, e4]
  · rw [e0, e1, e2, e3, e4]

theorem claim : Cert.Claim :=
  ⟨Cert.Kernel.Gen.facts, Cert.KernelIdeal.Gen.facts, Cert.ReferenceIdeal.Gen.facts, Cert.Shared.Gen.facts,
    Cert.SharedIdeal.Gen.facts, Cert.SharedReferenceIdeal.Gen.facts, Cert.Down.Gen.facts, Cert.DownIdeal.Gen.facts,
    Cert.Pre_rows_in_range.Gen.facts, fun m ρ _ => Cert.Kernel.Gen.frame m ρ,
    fun m ρ _ => Cert.KernelIdeal.Gen.frame m ρ, frame_ReferenceIdeal, SharedBits.frame, frame_SharedIdeal,
    fun m ρ _ => Cert.SharedReferenceIdeal.Gen.frame m ρ, Down.frameBits, Down.frameIdeal, trivial, algebraic, trivial,
    algebraic_Shared, trivial⟩

end Cert.Proof

end
